-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_tiles_in_use : Cert.Pre_tiles_in_use.Facts] (m : (ℓ : Loc Cert.Experts.nD Cert.Experts.τ Cert.Experts.sig) → Buf (Elt Bits) ℓ) : Prop :=
  ∀ c : Dev Cert.Experts.nD,
    (Cert.Pre_tiles_in_use.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tiles_in_use : Cert.Pre_tiles_in_use.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal [hPre_tiles_in_use : Cert.Pre_tiles_in_use.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_in_use.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Experts1 [hPre_tiles_in_use_1 : Cert.Pre_tiles_in_use_1.Facts] (m : (ℓ : Loc Cert.Experts1.nD Cert.Experts1.τ Cert.Experts1.sig) → Buf (Elt Bits) ℓ) : Prop :=
  ∀ c : Dev Cert.Experts1.nD,
    (Cert.Pre_tiles_in_use_1.fn (F := Bits) (m ((c.tc : Thread Cert.Experts1.nD Cert.Experts1.τ).loc Cert.Experts1.main_arg0)) (m ((c.tc : Thread Cert.Experts1.nD Cert.Experts1.τ).loc Cert.Experts1.main_arg1)) (m ((c.tc : Thread Cert.Experts1.nD Cert.Experts1.τ).loc Cert.Experts1.main_arg2)) (m ((c.tc : Thread Cert.Experts1.nD Cert.Experts1.τ).loc Cert.Experts1.main_arg3)) (m ((c.tc : Thread Cert.Experts1.nD Cert.Experts1.τ).loc Cert.Experts1.main_arg4)) (m ((c.tc : Thread Cert.Experts1.nD Cert.Experts1.τ).loc Cert.Experts1.main_arg5)) (m ((c.tc : Thread Cert.Experts1.nD Cert.Experts1.τ).loc Cert.Experts1.main_arg6))) = (fun _ => 1#1)

def Pre_Experts1Ideal [hPre_tiles_in_use_1 : Cert.Pre_tiles_in_use_1.Facts] (m : (ℓ : Loc Cert.Experts1Ideal.nD Cert.Experts1Ideal.τ Cert.Experts1Ideal.sig) → Buf (Elt Ideal) ℓ) : Prop :=
  ∀ c : Dev Cert.Experts1Ideal.nD,
    (Cert.Pre_tiles_in_use_1.fn (F := Ideal) (m ((c.tc : Thread Cert.Experts1Ideal.nD Cert.Experts1Ideal.τ).loc Cert.Experts1Ideal.main_arg0)) (m ((c.tc : Thread Cert.Experts1Ideal.nD Cert.Experts1Ideal.τ).loc Cert.Experts1Ideal.main_arg1)) (m ((c.tc : Thread Cert.Experts1Ideal.nD Cert.Experts1Ideal.τ).loc Cert.Experts1Ideal.main_arg2)) (m ((c.tc : Thread Cert.Experts1Ideal.nD Cert.Experts1Ideal.τ).loc Cert.Experts1Ideal.main_arg3)) (m ((c.tc : Thread Cert.Experts1Ideal.nD Cert.Experts1Ideal.τ).loc Cert.Experts1Ideal.main_arg4)) (m ((c.tc : Thread Cert.Experts1Ideal.nD Cert.Experts1Ideal.τ).loc Cert.Experts1Ideal.main_arg5)) (m ((c.tc : Thread Cert.Experts1Ideal.nD Cert.Experts1Ideal.τ).loc Cert.Experts1Ideal.main_arg6))) = (fun _ => 1#1)

def Pre_ExpertsReference1Ideal [hPre_tiles_in_use_1 : Cert.Pre_tiles_in_use_1.Facts] (m : (ℓ : Loc Cert.ExpertsReference1Ideal.nD Cert.ExpertsReference1Ideal.τ Cert.ExpertsReference1Ideal.sig) → Buf (Elt Ideal) ℓ) : Prop :=
  ∀ c : Dev Cert.ExpertsReference1Ideal.nD,
    (Cert.Pre_tiles_in_use_1.fn (F := Ideal) (m ((c.tc : Thread Cert.ExpertsReference1Ideal.nD Cert.ExpertsReference1Ideal.τ).loc Cert.ExpertsReference1Ideal.main_arg0)) (m ((c.tc : Thread Cert.ExpertsReference1Ideal.nD Cert.ExpertsReference1Ideal.τ).loc Cert.ExpertsReference1Ideal.main_arg1)) (m ((c.tc : Thread Cert.ExpertsReference1Ideal.nD Cert.ExpertsReference1Ideal.τ).loc Cert.ExpertsReference1Ideal.main_arg2)) (m ((c.tc : Thread Cert.ExpertsReference1Ideal.nD Cert.ExpertsReference1Ideal.τ).loc Cert.ExpertsReference1Ideal.main_arg3)) (m ((c.tc : Thread Cert.ExpertsReference1Ideal.nD Cert.ExpertsReference1Ideal.τ).loc Cert.ExpertsReference1Ideal.main_arg4)) (m ((c.tc : Thread Cert.ExpertsReference1Ideal.nD Cert.ExpertsReference1Ideal.τ).loc Cert.ExpertsReference1Ideal.main_arg5)) (m ((c.tc : Thread Cert.ExpertsReference1Ideal.nD Cert.ExpertsReference1Ideal.τ).loc Cert.ExpertsReference1Ideal.main_arg6))) = (fun _ => 1#1)

def Pre_Experts2 [hPre_tiles_in_use_2 : Cert.Pre_tiles_in_use_2.Facts] (m : (ℓ : Loc Cert.Experts2.nD Cert.Experts2.τ Cert.Experts2.sig) → Buf (Elt Bits) ℓ) : Prop :=
  ∀ c : Dev Cert.Experts2.nD,
    (Cert.Pre_tiles_in_use_2.fn (F := Bits) (m ((c.tc : Thread Cert.Experts2.nD Cert.Experts2.τ).loc Cert.Experts2.main_arg0)) (m ((c.tc : Thread Cert.Experts2.nD Cert.Experts2.τ).loc Cert.Experts2.main_arg1)) (m ((c.tc : Thread Cert.Experts2.nD Cert.Experts2.τ).loc Cert.Experts2.main_arg2)) (m ((c.tc : Thread Cert.Experts2.nD Cert.Experts2.τ).loc Cert.Experts2.main_arg3)) (m ((c.tc : Thread Cert.Experts2.nD Cert.Experts2.τ).loc Cert.Experts2.main_arg4)) (m ((c.tc : Thread Cert.Experts2.nD Cert.Experts2.τ).loc Cert.Experts2.main_arg5)) (m ((c.tc : Thread Cert.Experts2.nD Cert.Experts2.τ).loc Cert.Experts2.main_arg6))) = (fun _ => 1#1)

def Pre_Experts2Ideal [hPre_tiles_in_use_2 : Cert.Pre_tiles_in_use_2.Facts] (m : (ℓ : Loc Cert.Experts2Ideal.nD Cert.Experts2Ideal.τ Cert.Experts2Ideal.sig) → Buf (Elt Ideal) ℓ) : Prop :=
  ∀ c : Dev Cert.Experts2Ideal.nD,
    (Cert.Pre_tiles_in_use_2.fn (F := Ideal) (m ((c.tc : Thread Cert.Experts2Ideal.nD Cert.Experts2Ideal.τ).loc Cert.Experts2Ideal.main_arg0)) (m ((c.tc : Thread Cert.Experts2Ideal.nD Cert.Experts2Ideal.τ).loc Cert.Experts2Ideal.main_arg1)) (m ((c.tc : Thread Cert.Experts2Ideal.nD Cert.Experts2Ideal.τ).loc Cert.Experts2Ideal.main_arg2)) (m ((c.tc : Thread Cert.Experts2Ideal.nD Cert.Experts2Ideal.τ).loc Cert.Experts2Ideal.main_arg3)) (m ((c.tc : Thread Cert.Experts2Ideal.nD Cert.Experts2Ideal.τ).loc Cert.Experts2Ideal.main_arg4)) (m ((c.tc : Thread Cert.Experts2Ideal.nD Cert.Experts2Ideal.τ).loc Cert.Experts2Ideal.main_arg5)) (m ((c.tc : Thread Cert.Experts2Ideal.nD Cert.Experts2Ideal.τ).loc Cert.Experts2Ideal.main_arg6))) = (fun _ => 1#1)

def Pre_ExpertsReference2Ideal [hPre_tiles_in_use_2 : Cert.Pre_tiles_in_use_2.Facts] (m : (ℓ : Loc Cert.ExpertsReference2Ideal.nD Cert.ExpertsReference2Ideal.τ Cert.ExpertsReference2Ideal.sig) → Buf (Elt Ideal) ℓ) : Prop :=
  ∀ c : Dev Cert.ExpertsReference2Ideal.nD,
    (Cert.Pre_tiles_in_use_2.fn (F := Ideal) (m ((c.tc : Thread Cert.ExpertsReference2Ideal.nD Cert.ExpertsReference2Ideal.τ).loc Cert.ExpertsReference2Ideal.main_arg0)) (m ((c.tc : Thread Cert.ExpertsReference2Ideal.nD Cert.ExpertsReference2Ideal.τ).loc Cert.ExpertsReference2Ideal.main_arg1)) (m ((c.tc : Thread Cert.ExpertsReference2Ideal.nD Cert.ExpertsReference2Ideal.τ).loc Cert.ExpertsReference2Ideal.main_arg2)) (m ((c.tc : Thread Cert.ExpertsReference2Ideal.nD Cert.ExpertsReference2Ideal.τ).loc Cert.ExpertsReference2Ideal.main_arg3)) (m ((c.tc : Thread Cert.ExpertsReference2Ideal.nD Cert.ExpertsReference2Ideal.τ).loc Cert.ExpertsReference2Ideal.main_arg4)) (m ((c.tc : Thread Cert.ExpertsReference2Ideal.nD Cert.ExpertsReference2Ideal.τ).loc Cert.ExpertsReference2Ideal.main_arg5)) (m ((c.tc : Thread Cert.ExpertsReference2Ideal.nD Cert.ExpertsReference2Ideal.τ).loc Cert.ExpertsReference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Experts [hExperts : Cert.Experts.Facts] [hPre_tiles_in_use : Cert.Pre_tiles_in_use.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiles_in_use : Cert.Pre_tiles_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] [hPre_tiles_in_use : Cert.Pre_tiles_in_use.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Experts1 [hExperts1 : Cert.Experts1.Facts] [hPre_tiles_in_use_1 : Cert.Pre_tiles_in_use_1.Facts] : Prop :=
  ∀ (m : (ℓ : Loc Cert.Experts1.nD Cert.Experts1.τ Cert.Experts1.sig) → Buf (Elt Bits) ℓ) (g : Dev Cert.Experts1.nD → PrngReg), Pre_Experts1 m →
    θ_run (Cert.Experts1.defs (F := Bits)) (onTc (τ := Cert.Experts1.τ) (Cert.Experts1.main (F := Bits))) ⟨m, fun _ => 0, g⟩ (fun r => (∀ c : Dev Cert.Experts1.nD,
      r.2.mem ((c.tc : Thread Cert.Experts1.nD Cert.Experts1.τ).loc Cert.Experts1.main_arg0) = m ((c.tc : Thread Cert.Experts1.nD Cert.Experts1.τ).loc Cert.Experts1.main_arg0)
      ∧ r.2.mem ((c.tc : Thread Cert.Experts1.nD Cert.Experts1.τ).loc Cert.Experts1.main_arg1) = m ((c.tc : Thread Cert.Experts1.nD Cert.Experts1.τ).loc Cert.Experts1.main_arg1)
      ∧ r.2.mem ((c.tc : Thread Cert.Experts1.nD Cert.Experts1.τ).loc Cert.Experts1.main_arg2) = m ((c.tc : Thread Cert.Experts1.nD Cert.Experts1.τ).loc Cert.Experts1.main_arg2)
      ∧ r.2.mem ((c.tc : Thread Cert.Experts1.nD Cert.Experts1.τ).loc Cert.Experts1.main_arg3) = m ((c.tc : Thread Cert.Experts1.nD Cert.Experts1.τ).loc Cert.Experts1.main_arg3)
      ∧ r.2.mem ((c.tc : Thread Cert.Experts1.nD Cert.Experts1.τ).loc Cert.Experts1.main_arg4) = m ((c.tc : Thread Cert.Experts1.nD Cert.Experts1.τ).loc Cert.Experts1.main_arg4)
      ∧ r.2.mem ((c.tc : Thread Cert.Experts1.nD Cert.Experts1.τ).loc Cert.Experts1.main_arg5) = m ((c.tc : Thread Cert.Experts1.nD Cert.Experts1.τ).loc Cert.Experts1.main_arg5)
      ∧ r.2.mem ((c.tc : Thread Cert.Experts1.nD Cert.Experts1.τ).loc Cert.Experts1.main_arg6) = m ((c.tc : Thread Cert.Experts1.nD Cert.Experts1.τ).loc Cert.Experts1.main_arg6))
      ∧ r.2.sem = fun _ => 0)

def quiescent_Experts1Ideal [hExperts1Ideal : Cert.Experts1Ideal.Facts] [hPre_tiles_in_use_1 : Cert.Pre_tiles_in_use_1.Facts] : Prop :=
  ∀ (m : (ℓ : Loc Cert.Experts1Ideal.nD Cert.Experts1Ideal.τ Cert.Experts1Ideal.sig) → Buf (Elt Ideal) ℓ) (g : Dev Cert.Experts1Ideal.nD → PrngReg), Pre_Experts1Ideal m →
    θ_run (Cert.Experts1Ideal.defs (F := Ideal)) (onTc (τ := Cert.Experts1Ideal.τ) (Cert.Experts1Ideal.main (F := Ideal))) ⟨m, fun _ => 0, g⟩ (fun r => (∀ c : Dev Cert.Experts1Ideal.nD,
      r.2.mem ((c.tc : Thread Cert.Experts1Ideal.nD Cert.Experts1Ideal.τ).loc Cert.Experts1Ideal.main_arg0) = m ((c.tc : Thread Cert.Experts1Ideal.nD Cert.Experts1Ideal.τ).loc Cert.Experts1Ideal.main_arg0)
      ∧ r.2.mem ((c.tc : Thread Cert.Experts1Ideal.nD Cert.Experts1Ideal.τ).loc Cert.Experts1Ideal.main_arg1) = m ((c.tc : Thread Cert.Experts1Ideal.nD Cert.Experts1Ideal.τ).loc Cert.Experts1Ideal.main_arg1)
      ∧ r.2.mem ((c.tc : Thread Cert.Experts1Ideal.nD Cert.Experts1Ideal.τ).loc Cert.Experts1Ideal.main_arg2) = m ((c.tc : Thread Cert.Experts1Ideal.nD Cert.Experts1Ideal.τ).loc Cert.Experts1Ideal.main_arg2)
      ∧ r.2.mem ((c.tc : Thread Cert.Experts1Ideal.nD Cert.Experts1Ideal.τ).loc Cert.Experts1Ideal.main_arg3) = m ((c.tc : Thread Cert.Experts1Ideal.nD Cert.Experts1Ideal.τ).loc Cert.Experts1Ideal.main_arg3)
      ∧ r.2.mem ((c.tc : Thread Cert.Experts1Ideal.nD Cert.Experts1Ideal.τ).loc Cert.Experts1Ideal.main_arg4) = m ((c.tc : Thread Cert.Experts1Ideal.nD Cert.Experts1Ideal.τ).loc Cert.Experts1Ideal.main_arg4)
      ∧ r.2.mem ((c.tc : Thread Cert.Experts1Ideal.nD Cert.Experts1Ideal.τ).loc Cert.Experts1Ideal.main_arg5) = m ((c.tc : Thread Cert.Experts1Ideal.nD Cert.Experts1Ideal.τ).loc Cert.Experts1Ideal.main_arg5)
      ∧ r.2.mem ((c.tc : Thread Cert.Experts1Ideal.nD Cert.Experts1Ideal.τ).loc Cert.Experts1Ideal.main_arg6) = m ((c.tc : Thread Cert.Experts1Ideal.nD Cert.Experts1Ideal.τ).loc Cert.Experts1Ideal.main_arg6))
      ∧ r.2.sem = fun _ => 0)

def quiescent_ExpertsReference1Ideal [hExpertsReference1Ideal : Cert.ExpertsReference1Ideal.Facts] [hPre_tiles_in_use_1 : Cert.Pre_tiles_in_use_1.Facts] : Prop :=
  ∀ (m : (ℓ : Loc Cert.ExpertsReference1Ideal.nD Cert.ExpertsReference1Ideal.τ Cert.ExpertsReference1Ideal.sig) → Buf (Elt Ideal) ℓ) (g : Dev Cert.ExpertsReference1Ideal.nD → PrngReg), Pre_ExpertsReference1Ideal m →
    θ_run (Cert.ExpertsReference1Ideal.defs (F := Ideal)) (onTc (τ := Cert.ExpertsReference1Ideal.τ) (Cert.ExpertsReference1Ideal.main (F := Ideal))) ⟨m, fun _ => 0, g⟩ (fun r => (∀ c : Dev Cert.ExpertsReference1Ideal.nD,
      r.2.mem ((c.tc : Thread Cert.ExpertsReference1Ideal.nD Cert.ExpertsReference1Ideal.τ).loc Cert.ExpertsReference1Ideal.main_arg0) = m ((c.tc : Thread Cert.ExpertsReference1Ideal.nD Cert.ExpertsReference1Ideal.τ).loc Cert.ExpertsReference1Ideal.main_arg0)
      ∧ r.2.mem ((c.tc : Thread Cert.ExpertsReference1Ideal.nD Cert.ExpertsReference1Ideal.τ).loc Cert.ExpertsReference1Ideal.main_arg1) = m ((c.tc : Thread Cert.ExpertsReference1Ideal.nD Cert.ExpertsReference1Ideal.τ).loc Cert.ExpertsReference1Ideal.main_arg1)
      ∧ r.2.mem ((c.tc : Thread Cert.ExpertsReference1Ideal.nD Cert.ExpertsReference1Ideal.τ).loc Cert.ExpertsReference1Ideal.main_arg2) = m ((c.tc : Thread Cert.ExpertsReference1Ideal.nD Cert.ExpertsReference1Ideal.τ).loc Cert.ExpertsReference1Ideal.main_arg2)
      ∧ r.2.mem ((c.tc : Thread Cert.ExpertsReference1Ideal.nD Cert.ExpertsReference1Ideal.τ).loc Cert.ExpertsReference1Ideal.main_arg3) = m ((c.tc : Thread Cert.ExpertsReference1Ideal.nD Cert.ExpertsReference1Ideal.τ).loc Cert.ExpertsReference1Ideal.main_arg3)
      ∧ r.2.mem ((c.tc : Thread Cert.ExpertsReference1Ideal.nD Cert.ExpertsReference1Ideal.τ).loc Cert.ExpertsReference1Ideal.main_arg4) = m ((c.tc : Thread Cert.ExpertsReference1Ideal.nD Cert.ExpertsReference1Ideal.τ).loc Cert.ExpertsReference1Ideal.main_arg4)
      ∧ r.2.mem ((c.tc : Thread Cert.ExpertsReference1Ideal.nD Cert.ExpertsReference1Ideal.τ).loc Cert.ExpertsReference1Ideal.main_arg5) = m ((c.tc : Thread Cert.ExpertsReference1Ideal.nD Cert.ExpertsReference1Ideal.τ).loc Cert.ExpertsReference1Ideal.main_arg5)
      ∧ r.2.mem ((c.tc : Thread Cert.ExpertsReference1Ideal.nD Cert.ExpertsReference1Ideal.τ).loc Cert.ExpertsReference1Ideal.main_arg6) = m ((c.tc : Thread Cert.ExpertsReference1Ideal.nD Cert.ExpertsReference1Ideal.τ).loc Cert.ExpertsReference1Ideal.main_arg6))
      ∧ r.2.sem = fun _ => 0)

def quiescent_Experts2 [hExperts2 : Cert.Experts2.Facts] [hPre_tiles_in_use_2 : Cert.Pre_tiles_in_use_2.Facts] : Prop :=
  ∀ (m : (ℓ : Loc Cert.Experts2.nD Cert.Experts2.τ Cert.Experts2.sig) → Buf (Elt Bits) ℓ) (g : Dev Cert.Experts2.nD → PrngReg), Pre_Experts2 m →
    θ_run (Cert.Experts2.defs (F := Bits)) (onTc (τ := Cert.Experts2.τ) (Cert.Experts2.main (F := Bits))) ⟨m, fun _ => 0, g⟩ (fun r => (∀ c : Dev Cert.Experts2.nD,
      r.2.mem ((c.tc : Thread Cert.Experts2.nD Cert.Experts2.τ).loc Cert.Experts2.main_arg0) = m ((c.tc : Thread Cert.Experts2.nD Cert.Experts2.τ).loc Cert.Experts2.main_arg0)
      ∧ r.2.mem ((c.tc : Thread Cert.Experts2.nD Cert.Experts2.τ).loc Cert.Experts2.main_arg1) = m ((c.tc : Thread Cert.Experts2.nD Cert.Experts2.τ).loc Cert.Experts2.main_arg1)
      ∧ r.2.mem ((c.tc : Thread Cert.Experts2.nD Cert.Experts2.τ).loc Cert.Experts2.main_arg2) = m ((c.tc : Thread Cert.Experts2.nD Cert.Experts2.τ).loc Cert.Experts2.main_arg2)
      ∧ r.2.mem ((c.tc : Thread Cert.Experts2.nD Cert.Experts2.τ).loc Cert.Experts2.main_arg3) = m ((c.tc : Thread Cert.Experts2.nD Cert.Experts2.τ).loc Cert.Experts2.main_arg3)
      ∧ r.2.mem ((c.tc : Thread Cert.Experts2.nD Cert.Experts2.τ).loc Cert.Experts2.main_arg4) = m ((c.tc : Thread Cert.Experts2.nD Cert.Experts2.τ).loc Cert.Experts2.main_arg4)
      ∧ r.2.mem ((c.tc : Thread Cert.Experts2.nD Cert.Experts2.τ).loc Cert.Experts2.main_arg5) = m ((c.tc : Thread Cert.Experts2.nD Cert.Experts2.τ).loc Cert.Experts2.main_arg5)
      ∧ r.2.mem ((c.tc : Thread Cert.Experts2.nD Cert.Experts2.τ).loc Cert.Experts2.main_arg6) = m ((c.tc : Thread Cert.Experts2.nD Cert.Experts2.τ).loc Cert.Experts2.main_arg6))
      ∧ r.2.sem = fun _ => 0)

def quiescent_Experts2Ideal [hExperts2Ideal : Cert.Experts2Ideal.Facts] [hPre_tiles_in_use_2 : Cert.Pre_tiles_in_use_2.Facts] : Prop :=
  ∀ (m : (ℓ : Loc Cert.Experts2Ideal.nD Cert.Experts2Ideal.τ Cert.Experts2Ideal.sig) → Buf (Elt Ideal) ℓ) (g : Dev Cert.Experts2Ideal.nD → PrngReg), Pre_Experts2Ideal m →
    θ_run (Cert.Experts2Ideal.defs (F := Ideal)) (onTc (τ := Cert.Experts2Ideal.τ) (Cert.Experts2Ideal.main (F := Ideal))) ⟨m, fun _ => 0, g⟩ (fun r => (∀ c : Dev Cert.Experts2Ideal.nD,
      r.2.mem ((c.tc : Thread Cert.Experts2Ideal.nD Cert.Experts2Ideal.τ).loc Cert.Experts2Ideal.main_arg0) = m ((c.tc : Thread Cert.Experts2Ideal.nD Cert.Experts2Ideal.τ).loc Cert.Experts2Ideal.main_arg0)
      ∧ r.2.mem ((c.tc : Thread Cert.Experts2Ideal.nD Cert.Experts2Ideal.τ).loc Cert.Experts2Ideal.main_arg1) = m ((c.tc : Thread Cert.Experts2Ideal.nD Cert.Experts2Ideal.τ).loc Cert.Experts2Ideal.main_arg1)
      ∧ r.2.mem ((c.tc : Thread Cert.Experts2Ideal.nD Cert.Experts2Ideal.τ).loc Cert.Experts2Ideal.main_arg2) = m ((c.tc : Thread Cert.Experts2Ideal.nD Cert.Experts2Ideal.τ).loc Cert.Experts2Ideal.main_arg2)
      ∧ r.2.mem ((c.tc : Thread Cert.Experts2Ideal.nD Cert.Experts2Ideal.τ).loc Cert.Experts2Ideal.main_arg3) = m ((c.tc : Thread Cert.Experts2Ideal.nD Cert.Experts2Ideal.τ).loc Cert.Experts2Ideal.main_arg3)
      ∧ r.2.mem ((c.tc : Thread Cert.Experts2Ideal.nD Cert.Experts2Ideal.τ).loc Cert.Experts2Ideal.main_arg4) = m ((c.tc : Thread Cert.Experts2Ideal.nD Cert.Experts2Ideal.τ).loc Cert.Experts2Ideal.main_arg4)
      ∧ r.2.mem ((c.tc : Thread Cert.Experts2Ideal.nD Cert.Experts2Ideal.τ).loc Cert.Experts2Ideal.main_arg5) = m ((c.tc : Thread Cert.Experts2Ideal.nD Cert.Experts2Ideal.τ).loc Cert.Experts2Ideal.main_arg5)
      ∧ r.2.mem ((c.tc : Thread Cert.Experts2Ideal.nD Cert.Experts2Ideal.τ).loc Cert.Experts2Ideal.main_arg6) = m ((c.tc : Thread Cert.Experts2Ideal.nD Cert.Experts2Ideal.τ).loc Cert.Experts2Ideal.main_arg6))
      ∧ r.2.sem = fun _ => 0)

def quiescent_ExpertsReference2Ideal [hExpertsReference2Ideal : Cert.ExpertsReference2Ideal.Facts] [hPre_tiles_in_use_2 : Cert.Pre_tiles_in_use_2.Facts] : Prop :=
  ∀ (m : (ℓ : Loc Cert.ExpertsReference2Ideal.nD Cert.ExpertsReference2Ideal.τ Cert.ExpertsReference2Ideal.sig) → Buf (Elt Ideal) ℓ) (g : Dev Cert.ExpertsReference2Ideal.nD → PrngReg), Pre_ExpertsReference2Ideal m →
    θ_run (Cert.ExpertsReference2Ideal.defs (F := Ideal)) (onTc (τ := Cert.ExpertsReference2Ideal.τ) (Cert.ExpertsReference2Ideal.main (F := Ideal))) ⟨m, fun _ => 0, g⟩ (fun r => (∀ c : Dev Cert.ExpertsReference2Ideal.nD,
      r.2.mem ((c.tc : Thread Cert.ExpertsReference2Ideal.nD Cert.ExpertsReference2Ideal.τ).loc Cert.ExpertsReference2Ideal.main_arg0) = m ((c.tc : Thread Cert.ExpertsReference2Ideal.nD Cert.ExpertsReference2Ideal.τ).loc Cert.ExpertsReference2Ideal.main_arg0)
      ∧ r.2.mem ((c.tc : Thread Cert.ExpertsReference2Ideal.nD Cert.ExpertsReference2Ideal.τ).loc Cert.ExpertsReference2Ideal.main_arg1) = m ((c.tc : Thread Cert.ExpertsReference2Ideal.nD Cert.ExpertsReference2Ideal.τ).loc Cert.ExpertsReference2Ideal.main_arg1)
      ∧ r.2.mem ((c.tc : Thread Cert.ExpertsReference2Ideal.nD Cert.ExpertsReference2Ideal.τ).loc Cert.ExpertsReference2Ideal.main_arg2) = m ((c.tc : Thread Cert.ExpertsReference2Ideal.nD Cert.ExpertsReference2Ideal.τ).loc Cert.ExpertsReference2Ideal.main_arg2)
      ∧ r.2.mem ((c.tc : Thread Cert.ExpertsReference2Ideal.nD Cert.ExpertsReference2Ideal.τ).loc Cert.ExpertsReference2Ideal.main_arg3) = m ((c.tc : Thread Cert.ExpertsReference2Ideal.nD Cert.ExpertsReference2Ideal.τ).loc Cert.ExpertsReference2Ideal.main_arg3)
      ∧ r.2.mem ((c.tc : Thread Cert.ExpertsReference2Ideal.nD Cert.ExpertsReference2Ideal.τ).loc Cert.ExpertsReference2Ideal.main_arg4) = m ((c.tc : Thread Cert.ExpertsReference2Ideal.nD Cert.ExpertsReference2Ideal.τ).loc Cert.ExpertsReference2Ideal.main_arg4)
      ∧ r.2.mem ((c.tc : Thread Cert.ExpertsReference2Ideal.nD Cert.ExpertsReference2Ideal.τ).loc Cert.ExpertsReference2Ideal.main_arg5) = m ((c.tc : Thread Cert.ExpertsReference2Ideal.nD Cert.ExpertsReference2Ideal.τ).loc Cert.ExpertsReference2Ideal.main_arg5)
      ∧ r.2.mem ((c.tc : Thread Cert.ExpertsReference2Ideal.nD Cert.ExpertsReference2Ideal.τ).loc Cert.ExpertsReference2Ideal.main_arg6) = m ((c.tc : Thread Cert.ExpertsReference2Ideal.nD Cert.ExpertsReference2Ideal.τ).loc Cert.ExpertsReference2Ideal.main_arg6))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lgb0" .f32 0xC1020AEC#32 ((256 * (Real.log (31 / 32)) : ℝ) : EReal)
  ∧ IdealRules.named_const.Statement Cert.KernelIdeal.κ "lg1" .f32 0xBC8102B3#32 ((Real.log (63 / 64) : ℝ) : EReal)
  ∧ IdealRules.named_const.Statement Cert.KernelIdeal.κ "lgb1" .f32 0xC08102B3#32 ((256 * (Real.log (63 / 64)) : ℝ) : EReal)
  ∧ IdealRules.named_const.Statement Cert.KernelIdeal.κ "lg2" .f32 0xBC0080AC#32 ((Real.log (127 / 128) : ℝ) : EReal)
  ∧ IdealRules.named_const.Statement Cert.KernelIdeal.κ "lgb2" .f32 0xC00080AC#32 ((256 * (Real.log (127 / 128)) : ℝ) : EReal)
  ∧ IdealRules.named_const.Statement Cert.KernelIdeal.κ "lg3" .f32 0xBB80402B#32 ((Real.log (255 / 256) : ℝ) : EReal)
  ∧ IdealRules.named_const.Statement Cert.KernelIdeal.κ "lgb3" .f32 0xBF80402B#32 ((256 * (Real.log (255 / 256)) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Experts_ExpertsIdeal : Prop :=
  True

def algebraic_ExpertsIdeal_ExpertsReferenceIdeal_on_written [hExpertsIdeal : Cert.ExpertsIdeal.Facts] [hExpertsReferenceIdeal : Cert.ExpertsReferenceIdeal.Facts] [hPre_tiles_in_use : Cert.Pre_tiles_in_use.Facts] [hOn_written : Cert.On_written.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![86016, 1024]⟩ : Shape).Idx, (Cert.On_written.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![86016, 1024]⟩ : Shape).Idx, (Cert.On_written.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsReferenceIdeal.nD Cert.ExpertsReferenceIdeal.τ).loc Cert.ExpertsReferenceIdeal.main_v18) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Experts1_Experts1Ideal : Prop :=
  True

def algebraic_Experts1Ideal_ExpertsReference1Ideal [hExperts1Ideal : Cert.Experts1Ideal.Facts] [hExpertsReference1Ideal : Cert.ExpertsReference1Ideal.Facts] [hPre_tiles_in_use_1 : Cert.Pre_tiles_in_use_1.Facts] : Prop :=
  ∀ (m : (ℓ : Loc Cert.Experts1Ideal.nD Cert.Experts1Ideal.τ Cert.Experts1Ideal.sig) → Buf (Elt Ideal) ℓ) (g : Dev Cert.Experts1Ideal.nD → PrngReg)
    (m' : (ℓ : Loc Cert.ExpertsReference1Ideal.nD Cert.ExpertsReference1Ideal.τ Cert.ExpertsReference1Ideal.sig) → Buf (Elt Ideal) ℓ) (g' : Dev Cert.ExpertsReference1Ideal.nD → PrngReg), Pre_Experts1Ideal m →
    (∀ c : Dev Cert.Experts1Ideal.nD,
      m' ((c.tc : Thread Cert.ExpertsReference1Ideal.nD Cert.ExpertsReference1Ideal.τ).loc Cert.ExpertsReference1Ideal.main_arg0) = m ((c.tc : Thread Cert.Experts1Ideal.nD Cert.Experts1Ideal.τ).loc Cert.Experts1Ideal.main_arg0)
      ∧ m' ((c.tc : Thread Cert.ExpertsReference1Ideal.nD Cert.ExpertsReference1Ideal.τ).loc Cert.ExpertsReference1Ideal.main_arg1) = m ((c.tc : Thread Cert.Experts1Ideal.nD Cert.Experts1Ideal.τ).loc Cert.Experts1Ideal.main_arg1)
      ∧ m' ((c.tc : Thread Cert.ExpertsReference1Ideal.nD Cert.ExpertsReference1Ideal.τ).loc Cert.ExpertsReference1Ideal.main_arg2) = m ((c.tc : Thread Cert.Experts1Ideal.nD Cert.Experts1Ideal.τ).loc Cert.Experts1Ideal.main_arg2)
      ∧ m' ((c.tc : Thread Cert.ExpertsReference1Ideal.nD Cert.ExpertsReference1Ideal.τ).loc Cert.ExpertsReference1Ideal.main_arg3) = m ((c.tc : Thread Cert.Experts1Ideal.nD Cert.Experts1Ideal.τ).loc Cert.Experts1Ideal.main_arg3)
      ∧ m' ((c.tc : Thread Cert.ExpertsReference1Ideal.nD Cert.ExpertsReference1Ideal.τ).loc Cert.ExpertsReference1Ideal.main_arg4) = m ((c.tc : Thread Cert.Experts1Ideal.nD Cert.Experts1Ideal.τ).loc Cert.Experts1Ideal.main_arg4)
      ∧ m' ((c.tc : Thread Cert.ExpertsReference1Ideal.nD Cert.ExpertsReference1Ideal.τ).loc Cert.ExpertsReference1Ideal.main_arg5) = m ((c.tc : Thread Cert.Experts1Ideal.nD Cert.Experts1Ideal.τ).loc Cert.Experts1Ideal.main_arg5)
      ∧ m' ((c.tc : Thread Cert.ExpertsReference1Ideal.nD Cert.ExpertsReference1Ideal.τ).loc Cert.ExpertsReference1Ideal.main_arg6) = m ((c.tc : Thread Cert.Experts1Ideal.nD Cert.Experts1Ideal.τ).loc Cert.Experts1Ideal.main_arg6)) →
    ∃ (v0 : (c : Dev Cert.Experts1Ideal.nD) → Buf (Elt Ideal) ((c.tc : Thread Cert.Experts1Ideal.nD Cert.Experts1Ideal.τ).loc Cert.Experts1Ideal.main_v0)),
      θ_run (Cert.Experts1Ideal.defs (F := Ideal)) (onTc (τ := Cert.Experts1Ideal.τ) (Cert.Experts1Ideal.main (F := Ideal))) ⟨m, fun _ => 0, g⟩ (fun r => ∀ c : Dev Cert.Experts1Ideal.nD,
          r.2.mem ((c.tc : Thread Cert.Experts1Ideal.nD Cert.Experts1Ideal.τ).loc Cert.Experts1Ideal.main_v0) = v0 c
          ∧ r.2.mem ((c.tc : Thread Cert.Experts1Ideal.nD Cert.Experts1Ideal.τ).loc Cert.Experts1Ideal.main_arg0) = m ((c.tc : Thread Cert.Experts1Ideal.nD Cert.Experts1Ideal.τ).loc Cert.Experts1Ideal.main_arg0)
          ∧ r.2.mem ((c.tc : Thread Cert.Experts1Ideal.nD Cert.Experts1Ideal.τ).loc Cert.Experts1Ideal.main_arg1) = m ((c.tc : Thread Cert.Experts1Ideal.nD Cert.Experts1Ideal.τ).loc Cert.Experts1Ideal.main_arg1)
          ∧ r.2.mem ((c.tc : Thread Cert.Experts1Ideal.nD Cert.Experts1Ideal.τ).loc Cert.Experts1Ideal.main_arg2) = m ((c.tc : Thread Cert.Experts1Ideal.nD Cert.Experts1Ideal.τ).loc Cert.Experts1Ideal.main_arg2)
          ∧ r.2.mem ((c.tc : Thread Cert.Experts1Ideal.nD Cert.Experts1Ideal.τ).loc Cert.Experts1Ideal.main_arg3) = m ((c.tc : Thread Cert.Experts1Ideal.nD Cert.Experts1Ideal.τ).loc Cert.Experts1Ideal.main_arg3)
          ∧ r.2.mem ((c.tc : Thread Cert.Experts1Ideal.nD Cert.Experts1Ideal.τ).loc Cert.Experts1Ideal.main_arg4) = m ((c.tc : Thread Cert.Experts1Ideal.nD Cert.Experts1Ideal.τ).loc Cert.Experts1Ideal.main_arg4)
          ∧ r.2.mem ((c.tc : Thread Cert.Experts1Ideal.nD Cert.Experts1Ideal.τ).loc Cert.Experts1Ideal.main_arg5) = m ((c.tc : Thread Cert.Experts1Ideal.nD Cert.Experts1Ideal.τ).loc Cert.Experts1Ideal.main_arg5)
          ∧ r.2.mem ((c.tc : Thread Cert.Experts1Ideal.nD Cert.Experts1Ideal.τ).loc Cert.Experts1Ideal.main_arg6) = m ((c.tc : Thread Cert.Experts1Ideal.nD Cert.Experts1Ideal.τ).loc Cert.Experts1Ideal.main_arg6))
      ∧ θ_run (Cert.ExpertsReference1Ideal.defs (F := Ideal)) (onTc (τ := Cert.ExpertsReference1Ideal.τ) (Cert.ExpertsReference1Ideal.main (F := Ideal))) ⟨m', fun _ => 0, g'⟩ (fun r => ∀ c : Dev Cert.ExpertsReference1Ideal.nD,
          r.2.mem ((c.tc : Thread Cert.ExpertsReference1Ideal.nD Cert.ExpertsReference1Ideal.τ).loc Cert.ExpertsReference1Ideal.main_v20) = v0 c
          ∧ r.2.mem ((c.tc : Thread Cert.ExpertsReference1Ideal.nD Cert.ExpertsReference1Ideal.τ).loc Cert.ExpertsReference1Ideal.main_arg0) = m' ((c.tc : Thread Cert.ExpertsReference1Ideal.nD Cert.ExpertsReference1Ideal.τ).loc Cert.ExpertsReference1Ideal.main_arg0)
          ∧ r.2.mem ((c.tc : Thread Cert.ExpertsReference1Ideal.nD Cert.ExpertsReference1Ideal.τ).loc Cert.ExpertsReference1Ideal.main_arg1) = m' ((c.tc : Thread Cert.ExpertsReference1Ideal.nD Cert.ExpertsReference1Ideal.τ).loc Cert.ExpertsReference1Ideal.main_arg1)
          ∧ r.2.mem ((c.tc : Thread Cert.ExpertsReference1Ideal.nD Cert.ExpertsReference1Ideal.τ).loc Cert.ExpertsReference1Ideal.main_arg2) = m' ((c.tc : Thread Cert.ExpertsReference1Ideal.nD Cert.ExpertsReference1Ideal.τ).loc Cert.ExpertsReference1Ideal.main_arg2)
          ∧ r.2.mem ((c.tc : Thread Cert.ExpertsReference1Ideal.nD Cert.ExpertsReference1Ideal.τ).loc Cert.ExpertsReference1Ideal.main_arg3) = m' ((c.tc : Thread Cert.ExpertsReference1Ideal.nD Cert.ExpertsReference1Ideal.τ).loc Cert.ExpertsReference1Ideal.main_arg3)
          ∧ r.2.mem ((c.tc : Thread Cert.ExpertsReference1Ideal.nD Cert.ExpertsReference1Ideal.τ).loc Cert.ExpertsReference1Ideal.main_arg4) = m' ((c.tc : Thread Cert.ExpertsReference1Ideal.nD Cert.ExpertsReference1Ideal.τ).loc Cert.ExpertsReference1Ideal.main_arg4)
          ∧ r.2.mem ((c.tc : Thread Cert.ExpertsReference1Ideal.nD Cert.ExpertsReference1Ideal.τ).loc Cert.ExpertsReference1Ideal.main_arg5) = m' ((c.tc : Thread Cert.ExpertsReference1Ideal.nD Cert.ExpertsReference1Ideal.τ).loc Cert.ExpertsReference1Ideal.main_arg5)
          ∧ r.2.mem ((c.tc : Thread Cert.ExpertsReference1Ideal.nD Cert.ExpertsReference1Ideal.τ).loc Cert.ExpertsReference1Ideal.main_arg6) = m' ((c.tc : Thread Cert.ExpertsReference1Ideal.nD Cert.ExpertsReference1Ideal.τ).loc Cert.ExpertsReference1Ideal.main_arg6))

def preserves_Experts2_Experts2Ideal : Prop :=
  True

def algebraic_Experts2Ideal_ExpertsReference2Ideal [hExperts2Ideal : Cert.Experts2Ideal.Facts] [hExpertsReference2Ideal : Cert.ExpertsReference2Ideal.Facts] [hPre_tiles_in_use_2 : Cert.Pre_tiles_in_use_2.Facts] : Prop :=
  ∀ (m : (ℓ : Loc Cert.Experts2Ideal.nD Cert.Experts2Ideal.τ Cert.Experts2Ideal.sig) → Buf (Elt Ideal) ℓ) (g : Dev Cert.Experts2Ideal.nD → PrngReg)
    (m' : (ℓ : Loc Cert.ExpertsReference2Ideal.nD Cert.ExpertsReference2Ideal.τ Cert.ExpertsReference2Ideal.sig) → Buf (Elt Ideal) ℓ) (g' : Dev Cert.ExpertsReference2Ideal.nD → PrngReg), Pre_Experts2Ideal m →
    (∀ c : Dev Cert.Experts2Ideal.nD,
      m' ((c.tc : Thread Cert.ExpertsReference2Ideal.nD Cert.ExpertsReference2Ideal.τ).loc Cert.ExpertsReference2Ideal.main_arg0) = m ((c.tc : Thread Cert.Experts2Ideal.nD Cert.Experts2Ideal.τ).loc Cert.Experts2Ideal.main_arg0)
      ∧ m' ((c.tc : Thread Cert.ExpertsReference2Ideal.nD Cert.ExpertsReference2Ideal.τ).loc Cert.ExpertsReference2Ideal.main_arg1) = m ((c.tc : Thread Cert.Experts2Ideal.nD Cert.Experts2Ideal.τ).loc Cert.Experts2Ideal.main_arg1)
      ∧ m' ((c.tc : Thread Cert.ExpertsReference2Ideal.nD Cert.ExpertsReference2Ideal.τ).loc Cert.ExpertsReference2Ideal.main_arg2) = m ((c.tc : Thread Cert.Experts2Ideal.nD Cert.Experts2Ideal.τ).loc Cert.Experts2Ideal.main_arg2)
      ∧ m' ((c.tc : Thread Cert.ExpertsReference2Ideal.nD Cert.ExpertsReference2Ideal.τ).loc Cert.ExpertsReference2Ideal.main_arg3) = m ((c.tc : Thread Cert.Experts2Ideal.nD Cert.Experts2Ideal.τ).loc Cert.Experts2Ideal.main_arg3)
      ∧ m' ((c.tc : Thread Cert.ExpertsReference2Ideal.nD Cert.ExpertsReference2Ideal.τ).loc Cert.ExpertsReference2Ideal.main_arg4) = m ((c.tc : Thread Cert.Experts2Ideal.nD Cert.Experts2Ideal.τ).loc Cert.Experts2Ideal.main_arg4)
      ∧ m' ((c.tc : Thread Cert.ExpertsReference2Ideal.nD Cert.ExpertsReference2Ideal.τ).loc Cert.ExpertsReference2Ideal.main_arg5) = m ((c.tc : Thread Cert.Experts2Ideal.nD Cert.Experts2Ideal.τ).loc Cert.Experts2Ideal.main_arg5)
      ∧ m' ((c.tc : Thread Cert.ExpertsReference2Ideal.nD Cert.ExpertsReference2Ideal.τ).loc Cert.ExpertsReference2Ideal.main_arg6) = m ((c.tc : Thread Cert.Experts2Ideal.nD Cert.Experts2Ideal.τ).loc Cert.Experts2Ideal.main_arg6)) →
    ∃ (v0 : (c : Dev Cert.Experts2Ideal.nD) → Buf (Elt Ideal) ((c.tc : Thread Cert.Experts2Ideal.nD Cert.Experts2Ideal.τ).loc Cert.Experts2Ideal.main_v0)),
      θ_run (Cert.Experts2Ideal.defs (F := Ideal)) (onTc (τ := Cert.Experts2Ideal.τ) (Cert.Experts2Ideal.main (F := Ideal))) ⟨m, fun _ => 0, g⟩ (fun r => ∀ c : Dev Cert.Experts2Ideal.nD,
          r.2.mem ((c.tc : Thread Cert.Experts2Ideal.nD Cert.Experts2Ideal.τ).loc Cert.Experts2Ideal.main_v0) = v0 c
          ∧ r.2.mem ((c.tc : Thread Cert.Experts2Ideal.nD Cert.Experts2Ideal.τ).loc Cert.Experts2Ideal.main_arg0) = m ((c.tc : Thread Cert.Experts2Ideal.nD Cert.Experts2Ideal.τ).loc Cert.Experts2Ideal.main_arg0)
          ∧ r.2.mem ((c.tc : Thread Cert.Experts2Ideal.nD Cert.Experts2Ideal.τ).loc Cert.Experts2Ideal.main_arg1) = m ((c.tc : Thread Cert.Experts2Ideal.nD Cert.Experts2Ideal.τ).loc Cert.Experts2Ideal.main_arg1)
          ∧ r.2.mem ((c.tc : Thread Cert.Experts2Ideal.nD Cert.Experts2Ideal.τ).loc Cert.Experts2Ideal.main_arg2) = m ((c.tc : Thread Cert.Experts2Ideal.nD Cert.Experts2Ideal.τ).loc Cert.Experts2Ideal.main_arg2)
          ∧ r.2.mem ((c.tc : Thread Cert.Experts2Ideal.nD Cert.Experts2Ideal.τ).loc Cert.Experts2Ideal.main_arg3) = m ((c.tc : Thread Cert.Experts2Ideal.nD Cert.Experts2Ideal.τ).loc Cert.Experts2Ideal.main_arg3)
          ∧ r.2.mem ((c.tc : Thread Cert.Experts2Ideal.nD Cert.Experts2Ideal.τ).loc Cert.Experts2Ideal.main_arg4) = m ((c.tc : Thread Cert.Experts2Ideal.nD Cert.Experts2Ideal.τ).loc Cert.Experts2Ideal.main_arg4)
          ∧ r.2.mem ((c.tc : Thread Cert.Experts2Ideal.nD Cert.Experts2Ideal.τ).loc Cert.Experts2Ideal.main_arg5) = m ((c.tc : Thread Cert.Experts2Ideal.nD Cert.Experts2Ideal.τ).loc Cert.Experts2Ideal.main_arg5)
          ∧ r.2.mem ((c.tc : Thread Cert.Experts2Ideal.nD Cert.Experts2Ideal.τ).loc Cert.Experts2Ideal.main_arg6) = m ((c.tc : Thread Cert.Experts2Ideal.nD Cert.Experts2Ideal.τ).loc Cert.Experts2Ideal.main_arg6))
      ∧ θ_run (Cert.ExpertsReference2Ideal.defs (F := Ideal)) (onTc (τ := Cert.ExpertsReference2Ideal.τ) (Cert.ExpertsReference2Ideal.main (F := Ideal))) ⟨m', fun _ => 0, g'⟩ (fun r => ∀ c : Dev Cert.ExpertsReference2Ideal.nD,
          r.2.mem ((c.tc : Thread Cert.ExpertsReference2Ideal.nD Cert.ExpertsReference2Ideal.τ).loc Cert.ExpertsReference2Ideal.main_v20) = v0 c
          ∧ r.2.mem ((c.tc : Thread Cert.ExpertsReference2Ideal.nD Cert.ExpertsReference2Ideal.τ).loc Cert.ExpertsReference2Ideal.main_arg0) = m' ((c.tc : Thread Cert.ExpertsReference2Ideal.nD Cert.ExpertsReference2Ideal.τ).loc Cert.ExpertsReference2Ideal.main_arg0)
          ∧ r.2.mem ((c.tc : Thread Cert.ExpertsReference2Ideal.nD Cert.ExpertsReference2Ideal.τ).loc Cert.ExpertsReference2Ideal.main_arg1) = m' ((c.tc : Thread Cert.ExpertsReference2Ideal.nD Cert.ExpertsReference2Ideal.τ).loc Cert.ExpertsReference2Ideal.main_arg1)
          ∧ r.2.mem ((c.tc : Thread Cert.ExpertsReference2Ideal.nD Cert.ExpertsReference2Ideal.τ).loc Cert.ExpertsReference2Ideal.main_arg2) = m' ((c.tc : Thread Cert.ExpertsReference2Ideal.nD Cert.ExpertsReference2Ideal.τ).loc Cert.ExpertsReference2Ideal.main_arg2)
          ∧ r.2.mem ((c.tc : Thread Cert.ExpertsReference2Ideal.nD Cert.ExpertsReference2Ideal.τ).loc Cert.ExpertsReference2Ideal.main_arg3) = m' ((c.tc : Thread Cert.ExpertsReference2Ideal.nD Cert.ExpertsReference2Ideal.τ).loc Cert.ExpertsReference2Ideal.main_arg3)
          ∧ r.2.mem ((c.tc : Thread Cert.ExpertsReference2Ideal.nD Cert.ExpertsReference2Ideal.τ).loc Cert.ExpertsReference2Ideal.main_arg4) = m' ((c.tc : Thread Cert.ExpertsReference2Ideal.nD Cert.ExpertsReference2Ideal.τ).loc Cert.ExpertsReference2Ideal.main_arg4)
          ∧ r.2.mem ((c.tc : Thread Cert.ExpertsReference2Ideal.nD Cert.ExpertsReference2Ideal.τ).loc Cert.ExpertsReference2Ideal.main_arg5) = m' ((c.tc : Thread Cert.ExpertsReference2Ideal.nD Cert.ExpertsReference2Ideal.τ).loc Cert.ExpertsReference2Ideal.main_arg5)
          ∧ r.2.mem ((c.tc : Thread Cert.ExpertsReference2Ideal.nD Cert.ExpertsReference2Ideal.τ).loc Cert.ExpertsReference2Ideal.main_arg6) = m' ((c.tc : Thread Cert.ExpertsReference2Ideal.nD Cert.ExpertsReference2Ideal.τ).loc Cert.ExpertsReference2Ideal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hExperts1 : Cert.Experts1.Facts) (hExperts1Ideal : Cert.Experts1Ideal.Facts) (hExpertsReference1Ideal : Cert.ExpertsReference1Ideal.Facts) (hExperts2 : Cert.Experts2.Facts) (hExperts2Ideal : Cert.Experts2Ideal.Facts) (hExpertsReference2Ideal : Cert.ExpertsReference2Ideal.Facts) (hPre_tiles_in_use : Cert.Pre_tiles_in_use.Facts) (hPre_tiles_in_use_1 : Cert.Pre_tiles_in_use_1.Facts) (hPre_tiles_in_use_2 : Cert.Pre_tiles_in_use_2.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_tiles_in_use := hPre_tiles_in_use)
    ∧ quiescent_ExpertsIdeal (hExpertsIdeal := hExpertsIdeal) (hPre_tiles_in_use := hPre_tiles_in_use)
    ∧ quiescent_ExpertsReferenceIdeal (hExpertsReferenceIdeal := hExpertsReferenceIdeal) (hPre_tiles_in_use := hPre_tiles_in_use)
    ∧ quiescent_Experts1 (hExperts1 := hExperts1) (hPre_tiles_in_use_1 := hPre_tiles_in_use_1)
    ∧ quiescent_Experts1Ideal (hExperts1Ideal := hExperts1Ideal) (hPre_tiles_in_use_1 := hPre_tiles_in_use_1)
    ∧ quiescent_ExpertsReference1Ideal (hExpertsReference1Ideal := hExpertsReference1Ideal) (hPre_tiles_in_use_1 := hPre_tiles_in_use_1)
    ∧ quiescent_Experts2 (hExperts2 := hExperts2) (hPre_tiles_in_use_2 := hPre_tiles_in_use_2)
    ∧ quiescent_Experts2Ideal (hExperts2Ideal := hExperts2Ideal) (hPre_tiles_in_use_2 := hPre_tiles_in_use_2)
    ∧ quiescent_ExpertsReference2Ideal (hExpertsReference2Ideal := hExpertsReference2Ideal) (hPre_tiles_in_use_2 := hPre_tiles_in_use_2)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal_on_written (hExpertsIdeal := hExpertsIdeal) (hExpertsReferenceIdeal := hExpertsReferenceIdeal) (hPre_tiles_in_use := hPre_tiles_in_use) (hOn_written := hOn_written)
    ∧ preserves_Experts1_Experts1Ideal
    ∧ algebraic_Experts1Ideal_ExpertsReference1Ideal (hExperts1Ideal := hExperts1Ideal) (hExpertsReference1Ideal := hExpertsReference1Ideal) (hPre_tiles_in_use_1 := hPre_tiles_in_use_1)
    ∧ preserves_Experts2_Experts2Ideal
    ∧ algebraic_Experts2Ideal_ExpertsReference2Ideal (hExperts2Ideal := hExperts2Ideal) (hExpertsReference2Ideal := hExpertsReference2Ideal) (hPre_tiles_in_use_2 := hPre_tiles_in_use_2)
-- ==== On_written.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016 : Shape := ⟨1, ![86016]⟩
abbrev S_ : Shape := ⟨0, ![]⟩
abbrev S86016x1 : Shape := ⟨2, ![86016, 1]⟩
abbrev S86016x1024 : Shape := ⟨2, ![86016, 1024]⟩

class Facts : Prop where
  bcast_S_S86016 : S_.BroadcastsInDim S86016 (![] : Fin 0 → Fin S86016.rank)
  bcast_S86016_S86016x1_0 : S86016.BroadcastsInDim S86016x1 (![0] : Fin 1 → Fin S86016x1.rank)
  bcast_S86016x1_S86016x1024_0_1 : S86016x1.BroadcastsInDim S86016x1024 (![0, 1] : Fin 2 → Fin S86016x1024.rank)

variable [Facts]

def fn {F : FTy → Type} [FloatOps F] (main_arg0 : IVec S168 32) (main_arg1 : IVec S1 32) (main_arg2 : IVec S21504x512 32) (main_arg3 : FVec F S32x1024x512 .bf16) (main_arg4 : FVec F S32x1024x512 .bf16) (main_arg5 : FVec F S32x512x1024 .bf16) : IVec S86016x1024 1 :=
  let main_v0 : IVec S86016 32 := iotaInDim S86016 32 0
  let main_c : IVec S_ 32 := constantI S_ 32 21504#32
  let main_v1 : IVec S86016 32 := broadcastInDim S86016 ![] bcast_S_S86016 main_c
  let main_v2 : IVec S86016 1 := cmpi .slt main_v0 main_v1
  let main_v3 : IVec S86016x1 1 := broadcastInDim S86016x1 ![0] bcast_S86016_S86016x1_0 main_v2
  let main_v4 : IVec S86016x1024 1 := broadcastInDim S86016x1024 ![0, 1] bcast_S86016x1_S86016x1024_0_1 main_v3
  main_v4
-- ==== Pre_tiles_in_use.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  shapeCasts_S1_S_ : S1.ShapeCasts S_

variable [Facts]

def fn {F : FTy → Type} [FloatOps F] (main_arg0 : IVec S168 32) (main_arg1 : IVec S1 32) (main_arg2 : IVec S21504x512 32) (main_arg3 : FVec F S32x1024x512 .bf16) (main_arg4 : FVec F S32x1024x512 .bf16) (main_arg5 : FVec F S32x512x1024 .bf16) : IVec S_ 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  let main_v6 : IVec S_ 32 := shapeCast S_ main_arg1 shapeCasts_S1_S_
  let main_c_2 : IVec S_ 32 := constantI S_ 32 42#32
  let main_v7 : IVec S_ 1 := cmpi .sge main_v6 main_c_2
  let main_v8 : IVec S_ 1 := andi main_v5 main_v7
  main_v8
-- ==== Pre_tiles_in_use_1.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016x1024 : Shape := ⟨2, ![86016, 1024]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  shapeCasts_S1_S_ : S1.ShapeCasts S_

variable [Facts]

def fn {F : FTy → Type} [FloatOps F] (main_arg0 : IVec S168 32) (main_arg1 : IVec S1 32) (main_arg2 : IVec S21504x512 32) (main_arg3 : FVec F S32x1024x512 .bf16) (main_arg4 : FVec F S32x1024x512 .bf16) (main_arg5 : FVec F S32x512x1024 .bf16) (main_arg6 : FVec F S86016x1024 .bf16) : IVec S_ 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  let main_v6 : IVec S_ 32 := shapeCast S_ main_arg1 shapeCasts_S1_S_
  let main_c_2 : IVec S_ 32 := constantI S_ 32 84#32
  let main_v7 : IVec S_ 1 := cmpi .sge main_v6 main_c_2
  let main_v8 : IVec S_ 1 := andi main_v5 main_v7
  main_v8
-- ==== Pre_tiles_in_use_2.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016x1024 : Shape := ⟨2, ![86016, 1024]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  shapeCasts_S1_S_ : S1.ShapeCasts S_

variable [Facts]

def fn {F : FTy → Type} [FloatOps F] (main_arg0 : IVec S168 32) (main_arg1 : IVec S1 32) (main_arg2 : IVec S21504x512 32) (main_arg3 : FVec F S32x1024x512 .bf16) (main_arg4 : FVec F S32x1024x512 .bf16) (main_arg5 : FVec F S32x512x1024 .bf16) (main_arg6 : FVec F S86016x1024 .bf16) : IVec S_ 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  let main_v6 : IVec S_ 32 := shapeCast S_ main_arg1 shapeCasts_S1_S_
  let main_c_2 : IVec S_ 32 := constantI S_ 32 126#32
  let main_v7 : IVec S_ 1 := cmpi .sge main_v6 main_c_2
  let main_v8 : IVec S_ 1 := andi main_v5 main_v7
  main_v8
-- ==== Kernel.lean ====
abbrev S4x8192x1024 : Shape := ⟨3, ![4, 8192, 1024]⟩
abbrev S1x1024x6144 : Shape := ⟨3, ![1, 1024, 6144]⟩
abbrev S1x2048 : Shape := ⟨2, ![1, 2048]⟩
abbrev S1x2048x1024 : Shape := ⟨3, ![1, 2048, 1024]⟩
abbrev S2x1024 : Shape := ⟨2, ![2, 1024]⟩
abbrev S2x1024x4 : Shape := ⟨3, ![2, 1024, 4]⟩
abbrev S2x4 : Shape := ⟨2, ![2, 4]⟩
abbrev S2x4x1024x8 : Shape := ⟨4, ![2, 4, 1024, 8]⟩
abbrev S2x4x8 : Shape := ⟨3, ![2, 4, 8]⟩
abbrev S2x32x1024x512 : Shape := ⟨4, ![2, 32, 1024, 512]⟩
abbrev S2x32x512x1024 : Shape := ⟨4, ![2, 32, 512, 1024]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x4x1024x8 : Shape := ⟨4, ![1, 4, 1024, 8]⟩
abbrev S4x1024x8 : Shape := ⟨3, ![4, 1024, 8]⟩
abbrev S1x4x8 : Shape := ⟨3, ![1, 4, 8]⟩
abbrev S4x8 : Shape := ⟨2, ![4, 8]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S32 : Shape := ⟨1, ![32]⟩
abbrev S36 : Shape := ⟨1, ![36]⟩
abbrev S128 : Shape := ⟨1, ![128]⟩
abbrev S1x128 : Shape := ⟨2, ![1, 128]⟩
abbrev S1024x256 : Shape := ⟨2, ![1024, 256]⟩
abbrev S1x1024 : Shape := ⟨2, ![1, 1024]⟩
abbrev S1024 : Shape := ⟨1, ![1024]⟩
abbrev S1024x6144 : Shape := ⟨2, ![1024, 6144]⟩
abbrev S2048x1024 : Shape := ⟨2, ![2048, 1024]⟩
abbrev S2048 : Shape := ⟨1, ![2048]⟩
abbrev S32768x1024 : Shape := ⟨2, ![32768, 1024]⟩
abbrev S8192 : Shape := ⟨1, ![8192]⟩
abbrev S8192x1 : Shape := ⟨2, ![8192, 1]⟩
abbrev S8192x128 : Shape := ⟨2, ![8192, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S2x32768x512 : Shape := ⟨3, ![2, 32768, 512]⟩
abbrev S2x16384x1024 : Shape := ⟨3, ![2, 16384, 1024]⟩
abbrev S33280x1024 : Shape := ⟨2, ![33280, 1024]⟩
abbrev S33280x128 : Shape := ⟨2, ![33280, 128]⟩
abbrev S4x4x256x512 : Shape := ⟨4, ![4, 4, 256, 512]⟩
abbrev S32768x512 : Shape := ⟨2, ![32768, 512]⟩
abbrev S16384x1024 : Shape := ⟨2, ![16384, 1024]⟩
abbrev S512x1024 : Shape := ⟨2, ![512, 1024]⟩
abbrev S512x128 : Shape := ⟨2, ![512, 128]⟩
abbrev S1x512x512 : Shape := ⟨3, ![1, 512, 512]⟩
abbrev S1x256x1024 : Shape := ⟨3, ![1, 256, 1024]⟩
abbrev S1x4x256x512 : Shape := ⟨4, ![1, 4, 256, 512]⟩
abbrev S512x512 : Shape := ⟨2, ![512, 512]⟩
abbrev S256x1024 : Shape := ⟨2, ![256, 1024]⟩
abbrev S512x2048 : Shape := ⟨2, ![512, 2048]⟩
abbrev S1024x1024 : Shape := ⟨2, ![1024, 1024]⟩
abbrev S1024x2048 : Shape := ⟨2, ![1024, 2048]⟩
abbrev S256x2048 : Shape := ⟨2, ![256, 2048]⟩
abbrev S256x128 : Shape := ⟨2, ![256, 128]⟩
abbrev S256x512 : Shape := ⟨2, ![256, 512]⟩
abbrev S1x1x256x512 : Shape := ⟨4, ![1, 1, 256, 512]⟩
abbrev S1x512 : Shape := ⟨2, ![1, 512]⟩

abbrev nBuf : Space → Nat
  | .hbm => 115
  | .vmem => 36
  | .smem => 0
  | _ => 0

abbrev bufTy : (tb : Table) → Fin (tcTables nBuf tb) → BufTy
  | .hbm, ⟨0, _⟩ => ⟨S4x8192x1024, .f32⟩
  | .hbm, ⟨1, _⟩ => ⟨S1x1024x6144, .f32⟩
  | .hbm, ⟨2, _⟩ => ⟨S1x2048, .f32⟩
  | .hbm, ⟨3, _⟩ => ⟨S1x2048x1024, .f32⟩
  | .hbm, ⟨4, _⟩ => ⟨S2x1024, .f32⟩
  | .hbm, ⟨5, _⟩ => ⟨S2x1024, .f32⟩
  | .hbm, ⟨6, _⟩ => ⟨S2x1024x4, .f32⟩
  | .hbm, ⟨7, _⟩ => ⟨S2x4, .f32⟩
  | .hbm, ⟨8, _⟩ => ⟨S2x4x1024x8, .f32⟩
  | .hbm, ⟨9, _⟩ => ⟨S2x4x8, .f32⟩
  | .hbm, ⟨10, _⟩ => ⟨S2x32x1024x512, .f32⟩
  | .hbm, ⟨11, _⟩ => ⟨S2x32x1024x512, .f32⟩
  | .hbm, ⟨12, _⟩ => ⟨S2x32x512x1024, .f32⟩
  | .hbm, ⟨13, _⟩ => ⟨S1x1024x4, .f32⟩
  | .hbm, ⟨14, _⟩ => ⟨S1024x4, .f32⟩
  | .hbm, ⟨15, _⟩ => ⟨S1x4, .f32⟩
  | .hbm, ⟨16, _⟩ => ⟨S4, .f32⟩
  | .hbm, ⟨17, _⟩ => ⟨S1x4x1024x8, .f32⟩
  | .hbm, ⟨18, _⟩ => ⟨S4x1024x8, .f32⟩
  | .hbm, ⟨19, _⟩ => ⟨S1x4x8, .f32⟩
  | .hbm, ⟨20, _⟩ => ⟨S4x8, .f32⟩
  | .hbm, ⟨21, _⟩ => ⟨S1024x4x8, .f32⟩
  | .hbm, ⟨22, _⟩ => ⟨S1024x32, .f32⟩
  | .hbm, ⟨23, _⟩ => ⟨S1024x36, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S32, .f32⟩
  | .hbm, ⟨28, _⟩ => ⟨S36, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S1024x128, .bf16⟩
  | .hbm, ⟨34, _⟩ => ⟨S1024x128, .f32⟩
  | .hbm, ⟨35, _⟩ => ⟨S1024x128, .f32⟩
  | .hbm, ⟨36, _⟩ => ⟨S1024x128, .bf16⟩
  | .hbm, ⟨37, _⟩ => ⟨S1024x256, .bf16⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S1024x6144, .f32⟩
  | .hbm, ⟨45, _⟩ => ⟨S1024x6144, .bf16⟩
  | .hbm, ⟨46, _⟩ => ⟨S2048x1024, .f32⟩
  | .hbm, ⟨47, _⟩ => ⟨S2048x1024, .bf16⟩
  | .hbm, ⟨48, _⟩ => ⟨S2048, .f32⟩
  | .hbm, ⟨49, _⟩ => ⟨S1x2048, .f32⟩
  | .hbm, ⟨50, _⟩ => ⟨S32768x1024, .f32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S8192x1, .f32⟩
  | .hbm, ⟨65, _⟩ => ⟨S1x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S4, .f32⟩
  | .hbm, ⟨72, _⟩ => ⟨S_, .f32⟩
  | .hbm, ⟨73, _⟩ => ⟨S4, .f32⟩
  | .hbm, ⟨74, _⟩ => ⟨S4, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S256, .f32⟩
  | .hbm, ⟨83, _⟩ => ⟨S256x1, .f32⟩
  | .hbm, ⟨84, _⟩ => ⟨S1x256, .f32⟩
  | .hbm, ⟨85, _⟩ => ⟨S256x256, .f32⟩
  | .hbm, ⟨86, _⟩ => ⟨S256x256, .f32⟩
  | .hbm, ⟨87, _⟩ => ⟨S256x256, .f32⟩
  | .hbm, ⟨88, _⟩ => ⟨S_, .f32⟩
  | .hbm, ⟨89, _⟩ => ⟨S256x256, .f32⟩
  | .hbm, ⟨90, _⟩ => ⟨S256x256, .i1⟩
  | .hbm, ⟨91, _⟩ => ⟨S4x1x1, .f32⟩
  | .hbm, ⟨92, _⟩ => ⟨S_, .f32⟩
  | .hbm, ⟨93, _⟩ => ⟨S256x256, .f32⟩
  | .hbm, ⟨94, _⟩ => ⟨S256x256, .f32⟩
  | .hbm, ⟨95, _⟩ => ⟨S1x256x256, .f32⟩
  | .hbm, ⟨96, _⟩ => ⟨S4x256x256, .f32⟩
  | .hbm, ⟨97, _⟩ => ⟨S4x256x256, .f32⟩
  | .hbm, ⟨98, _⟩ => ⟨S4x256x256, .f32⟩
  | .hbm, ⟨99, _⟩ => ⟨S4x256x256, .f32⟩
  | .hbm, ⟨100, _⟩ => ⟨S_, .f32⟩
  | .hbm, ⟨101, _⟩ => ⟨S_, .f32⟩
  | .hbm, ⟨102, _⟩ => ⟨S4x256x256, .i1⟩
  | .hbm, ⟨103, _⟩ => ⟨S4x256x256, .f32⟩
  | .hbm, ⟨104, _⟩ => ⟨S4x256x256, .f32⟩
  | .hbm, ⟨105, _⟩ => ⟨S2x32768x512, .f32⟩
  | .hbm, ⟨106, _⟩ => ⟨S2x32768x512, .f32⟩
  | .hbm, ⟨107, _⟩ => ⟨S2x16384x1024, .f32⟩
  | .hbm, ⟨108, _⟩ => ⟨S33280x1024, .f32⟩
  | .hbm, ⟨109, _⟩ => ⟨S33280x1024, .bf16⟩
  | .hbm, ⟨110, _⟩ => ⟨S33280x128, .f32⟩
  | .hbm, ⟨111, _⟩ => ⟨S4x4x256x512, .f32⟩
  | .hbm, ⟨112, _⟩ => ⟨S32768x512, .bf16⟩
  | .hbm, ⟨113, _⟩ => ⟨S32768x512, .bf16⟩
  | .hbm, ⟨114, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4x256x256, .f32⟩
  | .local _ .vmem, ⟨7, _⟩ => ⟨S1024x6144, .bf16⟩
  | .local _ .vmem, ⟨8, _⟩ => ⟨S2048x1024, .bf16⟩
  | .local _ .vmem, ⟨9, _⟩ => ⟨S1x2048, .f32⟩
  | .local _ .vmem, ⟨10, _⟩ => ⟨S1x1024, .f32⟩
  | .local _ .vmem, ⟨11, _⟩ => ⟨S1x1024, .f32⟩
  | .local _ .vmem, ⟨12, _⟩ => ⟨S1024x256, .bf16⟩
  | .local _ .vmem, ⟨13, _⟩ => ⟨S1024x128, .bf16⟩
  | .local _ .vmem, ⟨14, _⟩ => ⟨S1x128, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x256x1024, .f32⟩
  | .local _ .vmem, ⟨20, _⟩ => ⟨S1x256x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | .local _ .vmem, ⟨27, _⟩ => ⟨S1x4x256x512, .f32⟩
  | .local _ .vmem, ⟨28, _⟩ => ⟨S1x4x256x512, .f32⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S256x1024, .bf16⟩
  | .local _ .vmem, ⟨34, _⟩ => ⟨S256x1024, .bf16⟩
  | .local _ .vmem, ⟨35, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_3 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_7 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_8 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79_0 : Ref sig .tc := ⟨.hbm, 108, rfl⟩
abbrev main_v79_1 : Ref sig .tc := ⟨.hbm, 109, rfl⟩
abbrev main_v79_2 : Ref sig .tc := ⟨.hbm, 110, rfl⟩
abbrev main_v79_3 : Ref sig .tc := ⟨.hbm, 111, rfl⟩
abbrev main_v79_4 : Ref sig .tc := ⟨.hbm, 112, rfl⟩
abbrev main_v79_5 : Ref sig .tc := ⟨.hbm, 113, rfl⟩
abbrev main_v79_6 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c16_i32 : BitVec 32 := 16#32
  let c0_i32_16 : BitVec 32 := 0#32
  let v18 : BitVec 1 := Scalar.cmpi .eq c16_i32 c0_i32_16
  let c1_i32 : BitVec 32 := 1#32
  let v19 : BitVec 32 := Scalar.select v18 c1_i32 c16_i32
  let v20 : BitVec 32 := Scalar.remsi arg0 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let c0_i32_20 : BitVec 32 := 0#32
  let v28 : BitVec 1 := Scalar.cmpi .eq v27 c0_i32_20
  let v31 : BitVec 32 := Scalar.extui v28
  let c0_i32_21 : BitVec 32 := 0#32
  let v32 : BitVec 1 := Scalar.cmpi .ne v31 c0_i32_21
  v32

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 4 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lgb0" => some ((256 * (Real.log (31 / 32)) : ℝ) : EReal)
  | "lgb1" => some ((256 * (Real.log (63 / 64)) : ℝ) : EReal)
  | "lgb2" => some ((256 * (Real.log (127 / 128)) : ℝ) : EReal)
  | "lgb3" => some ((256 * (Real.log (255 / 256)) : ℝ) : EReal)
  | _ => none
-- ==== ReferenceIdeal.lean ====
abbrev S4x8192x1024 : Shape := ⟨3, ![4, 8192, 1024]⟩
abbrev S1x1024x6144 : Shape := ⟨3, ![1, 1024, 6144]⟩
abbrev S1x2048 : Shape := ⟨2, ![1, 2048]⟩
abbrev S1x2048x1024 : Shape := ⟨3, ![1, 2048, 1024]⟩
abbrev S2x1024 : Shape := ⟨2, ![2, 1024]⟩
abbrev S2x1024x4 : Shape := ⟨3, ![2, 1024, 4]⟩
abbrev S2x4 : Shape := ⟨2, ![2, 4]⟩
abbrev S2x4x1024x8 : Shape := ⟨4, ![2, 4, 1024, 8]⟩
abbrev S2x4x8 : Shape := ⟨3, ![2, 4, 8]⟩
abbrev S2x32x1024x512 : Shape := ⟨4, ![2, 32, 1024, 512]⟩
abbrev S2x32x512x1024 : Shape := ⟨4, ![2, 32, 512, 1024]⟩
abbrev S8192 : Shape := ⟨1, ![8192]⟩
abbrev S1024x6144 : Shape := ⟨2, ![1024, 6144]⟩
abbrev S4x8192x6144 : Shape := ⟨3, ![4, 8192, 6144]⟩
abbrev S4x8192x2048 : Shape := ⟨3, ![4, 8192, 2048]⟩
abbrev S4x8192x4x256 : Shape := ⟨4, ![4, 8192, 4, 256]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S4x8192x4x128 : Shape := ⟨4, ![4, 8192, 4, 128]⟩
abbrev S1x8192x1x128 : Shape := ⟨4, ![1, 8192, 1, 128]⟩
abbrev S4x8192x4x512 : Shape := ⟨4, ![4, 8192, 4, 512]⟩
abbrev S4 : Shape := ⟨1, ![4]⟩
abbrev S64 : Shape := ⟨1, ![64]⟩
abbrev S4x4x256x512 : Shape := ⟨4, ![4, 4, 256, 512]⟩
abbrev S4x128x64x4x256 : Shape := ⟨5, ![4, 128, 64, 4, 256]⟩
abbrev S128x4x64x4x256 : Shape := ⟨5, ![128, 4, 64, 4, 256]⟩
abbrev S4x128x64x4x512 : Shape := ⟨5, ![4, 128, 64, 4, 512]⟩
abbrev S128x4x64x4x512 : Shape := ⟨5, ![128, 4, 64, 4, 512]⟩
abbrev S1x4x64x4x256 : Shape := ⟨5, ![1, 4, 64, 4, 256]⟩
abbrev S4x64x4x256 : Shape := ⟨4, ![4, 64, 4, 256]⟩
abbrev S1x4x64x4x512 : Shape := ⟨5, ![1, 4, 64, 4, 512]⟩
abbrev S4x64x4x512 : Shape := ⟨4, ![4, 64, 4, 512]⟩
abbrev S1x4 : Shape := ⟨2, ![1, 4]⟩
abbrev S64x1 : Shape := ⟨2, ![64, 1]⟩
abbrev S64x4 : Shape := ⟨2, ![64, 4]⟩
abbrev S1x64x4x1 : Shape := ⟨4, ![1, 64, 4, 1]⟩
abbrev S1x4x1x1 : Shape := ⟨4, ![1, 4, 1, 1]⟩

abbrev nBuf : Space → Nat
  | .hbm => 122
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x6144, .f32⟩
  | .hbm, ⟨2, _⟩ => ⟨S1x2048, .f32⟩
  | .hbm, ⟨3, _⟩ => ⟨S1x2048x1024, .f32⟩
  | .hbm, ⟨4, _⟩ => ⟨S2x1024, .f32⟩
  | .hbm, ⟨5, _⟩ => ⟨S2x1024, .f32⟩
  | .hbm, ⟨6, _⟩ => ⟨S2x1024x4, .f32⟩
  | .hbm, ⟨7, _⟩ => ⟨S2x4, .f32⟩
  | .hbm, ⟨8, _⟩ => ⟨S2x4x1024x8, .f32⟩
  | .hbm, ⟨9, _⟩ => ⟨S2x4x8, .f32⟩
  | .hbm, ⟨10, _⟩ => ⟨S2x32x1024x512, .f32⟩
  | .hbm, ⟨11, _⟩ => ⟨S2x32x1024x512, .f32⟩
  | .hbm, ⟨12, _⟩ => ⟨S2x32x512x1024, .f32⟩
  | .hbm, ⟨13, _⟩ => ⟨S8192, .i32⟩
  | .hbm, ⟨14, _⟩ => ⟨S1024x6144, .f32⟩
  | .hbm, ⟨15, _⟩ => ⟨S4x8192x6144, .f32⟩
  | .hbm, ⟨16, _⟩ => ⟨S4x8192x1024, .f32⟩
  | .hbm, ⟨17, _⟩ => ⟨S4x8192x1024, .f32⟩
  | .hbm, ⟨18, _⟩ => ⟨S4x8192x2048, .f32⟩
  | .hbm, ⟨19, _⟩ => ⟨S4x8192x2048, .f32⟩
  | .hbm, ⟨20, _⟩ => ⟨S4x8192x4x256, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S8192, .f32⟩
  | .hbm, ⟨30, _⟩ => ⟨S8192x1, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x1x128, .f32⟩
  | .hbm, ⟨37, _⟩ => ⟨S8192x128, .f32⟩
  | .hbm, ⟨38, _⟩ => ⟨S8192x1x128, .f32⟩
  | .hbm, ⟨39, _⟩ => ⟨S4x8192x4x128, .f32⟩
  | .hbm, ⟨40, _⟩ => ⟨S4x8192x4x128, .f32⟩
  | .hbm, ⟨41, _⟩ => ⟨S1x8192x1x128, .f32⟩
  | .hbm, ⟨42, _⟩ => ⟨S4x8192x4x128, .f32⟩
  | .hbm, ⟨43, _⟩ => ⟨S4x8192x4x128, .f32⟩
  | .hbm, ⟨44, _⟩ => ⟨S1x8192x1x128, .f32⟩
  | .hbm, ⟨45, _⟩ => ⟨S4x8192x4x128, .f32⟩
  | .hbm, ⟨46, _⟩ => ⟨S4x8192x4x128, .f32⟩
  | .hbm, ⟨47, _⟩ => ⟨S4x8192x4x128, .f32⟩
  | .hbm, ⟨48, _⟩ => ⟨S1x8192x1x128, .f32⟩
  | .hbm, ⟨49, _⟩ => ⟨S4x8192x4x128, .f32⟩
  | .hbm, ⟨50, _⟩ => ⟨S4x8192x4x128, .f32⟩
  | .hbm, ⟨51, _⟩ => ⟨S1x8192x1x128, .f32⟩
  | .hbm, ⟨52, _⟩ => ⟨S4x8192x4x128, .f32⟩
  | .hbm, ⟨53, _⟩ => ⟨S4x8192x4x128, .f32⟩
  | .hbm, ⟨54, _⟩ => ⟨S4x8192x4x128, .f32⟩
  | .hbm, ⟨55, _⟩ => ⟨S4x8192x4x256, .f32⟩
  | .hbm, ⟨56, _⟩ => ⟨S_, .f32⟩
  | .hbm, ⟨57, _⟩ => ⟨S4x8192x4x256, .f32⟩
  | .hbm, ⟨58, _⟩ => ⟨S4x8192x4x256, .f32⟩
  | .hbm, ⟨59, _⟩ => ⟨S4x8192x4x512, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S64, .f32⟩
  | .hbm, ⟨72, _⟩ => ⟨S_, .f32⟩
  | .hbm, ⟨73, _⟩ => ⟨S4x4x256x512, .f32⟩
  | .hbm, ⟨74, _⟩ => ⟨S4x128x64x4x256, .f32⟩
  | .hbm, ⟨75, _⟩ => ⟨S128x4x64x4x256, .f32⟩
  | .hbm, ⟨76, _⟩ => ⟨S4x128x64x4x512, .f32⟩
  | .hbm, ⟨77, _⟩ => ⟨S128x4x64x4x512, .f32⟩
  | .hbm, ⟨78, _⟩ => ⟨S_, .i32⟩
  | .hbm, ⟨79, _⟩ => ⟨S128x4x64x4x256, .f32⟩
  | .hbm, ⟨80, _⟩ => ⟨S128x4x64x4x512, .f32⟩
  | .hbm, ⟨81, _⟩ => ⟨S4, .f32⟩
  | .hbm, ⟨82, _⟩ => ⟨S64, .f32⟩
  | .hbm, ⟨83, _⟩ => ⟨S_, .i32⟩
  | .hbm, ⟨84, _⟩ => ⟨S4x4x256x512, .f32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1x4x64x4x256, .f32⟩
  | .hbm, ⟨92, _⟩ => ⟨S4x64x4x256, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S1x4x64x4x512, .f32⟩
  | .hbm, ⟨98, _⟩ => ⟨S4x64x4x512, .f32⟩
  | .hbm, ⟨99, _⟩ => ⟨S1x4, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x4, .f32⟩
  | .hbm, ⟨105, _⟩ => ⟨S64x4, .f32⟩
  | .hbm, ⟨106, _⟩ => ⟨S64x4, .f32⟩
  | .hbm, ⟨107, _⟩ => ⟨S64x4, .f32⟩
  | .hbm, ⟨108, _⟩ => ⟨S1x64x4x1, .f32⟩
  | .hbm, ⟨109, _⟩ => ⟨S4x64x4x256, .f32⟩
  | .hbm, ⟨110, _⟩ => ⟨S4x64x4x256, .f32⟩
  | .hbm, ⟨111, _⟩ => ⟨S_, .f32⟩
  | .hbm, ⟨112, _⟩ => ⟨S4, .f32⟩
  | .hbm, ⟨113, _⟩ => ⟨S4, .f32⟩
  | .hbm, ⟨114, _⟩ => ⟨S4, .f32⟩
  | .hbm, ⟨115, _⟩ => ⟨S1x4x1x1, .f32⟩
  | .hbm, ⟨116, _⟩ => ⟨S4x4x256x512, .f32⟩
  | .hbm, ⟨117, _⟩ => ⟨S4x4x256x512, .f32⟩
  | .hbm, ⟨118, _⟩ => ⟨S4x4x256x512, .f32⟩
  | .hbm, ⟨119, _⟩ => ⟨S4x4x256x512, .f32⟩
  | .hbm, ⟨120, _⟩ => ⟨S_, .i32⟩
  | .hbm, ⟨121, _⟩ => ⟨S_, .i32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_1 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c : Ref sig .tc := ⟨.hbm, 78, rfl⟩
abbrev main_v58_0 : Ref sig .tc := ⟨.hbm, 79, rfl⟩
abbrev main_v58_1 : Ref sig .tc := ⟨.hbm, 80, rfl⟩
abbrev main_v58_2 : Ref sig .tc := ⟨.hbm, 81, rfl⟩
abbrev main_v58_3 : Ref sig .tc := ⟨.hbm, 82, rfl⟩
abbrev main_v58_4 : Ref sig .tc := ⟨.hbm, 83, rfl⟩
abbrev main_v58_5 : Ref sig .tc := ⟨.hbm, 84, rfl⟩
abbrev main_while0c_c_11 : Ref sig .tc := ⟨.hbm, 85, rfl⟩
abbrev main_while0c_v59 : Ref sig .tc := ⟨.hbm, 86, rfl⟩
abbrev main_while0b_call0_c : Ref sig .tc := ⟨.hbm, 87, rfl⟩
abbrev main_while0b_call0_c_0 : Ref sig .tc := ⟨.hbm, 88, rfl⟩
abbrev main_while0b_call0_c_1 : Ref sig .tc := ⟨.hbm, 89, rfl⟩
abbrev main_while0b_call0_c_2 : Ref sig .tc := ⟨.hbm, 90, rfl⟩
abbrev main_while0b_call0_v0 : Ref sig .tc := ⟨.hbm, 91, rfl⟩
abbrev main_while0b_v59 : Ref sig .tc := ⟨.hbm, 92, rfl⟩
abbrev main_while0b_call1_c : Ref sig .tc := ⟨.hbm, 93, rfl⟩
abbrev main_while0b_call1_c_0 : Ref sig .tc := ⟨.hbm, 94, rfl⟩
abbrev main_while0b_call1_c_1 : Ref sig .tc := ⟨.hbm, 95, rfl⟩
abbrev main_while0b_call1_c_2 : Ref sig .tc := ⟨.hbm, 96, rfl⟩
abbrev main_while0b_call1_v0 : Ref sig .tc := ⟨.hbm, 97, rfl⟩
abbrev main_while0b_v60 : Ref sig .tc := ⟨.hbm, 98, rfl⟩
abbrev main_while0b_v61 : Ref sig .tc := ⟨.hbm, 99, rfl⟩
abbrev main_while0b_cst_11 : Ref sig .tc := ⟨.hbm, 100, rfl⟩
abbrev main_while0b_v62 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_cst_12 : Ref sig .tc := ⟨.hbm, 111, rfl⟩
abbrev main_while0b_v72 : Ref sig .tc := ⟨.hbm, 112, rfl⟩
abbrev main_while0b_v73 : Ref sig .tc := ⟨.hbm, 113, rfl⟩
abbrev main_while0b_v74 : Ref sig .tc := ⟨.hbm, 114, rfl⟩
abbrev main_while0b_v75 : Ref sig .tc := ⟨.hbm, 115, rfl⟩
abbrev main_while0b_v76 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_c_13 : Ref sig .tc := ⟨.hbm, 120, rfl⟩
abbrev main_while0b_v80 : Ref sig .tc := ⟨.hbm, 121, rfl⟩

abbrev nD : Nat := 1
abbrev τ : Topo := Topo.v7x

variable {F : FTy → Type} [FloatOps F]

abbrev main_while0_count : Scf.Loop 32 := ⟨0#32, 128#32, 1#32⟩
-- ==== Experts.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016x1024 : Shape := ⟨2, ![86016, 1024]⟩
abbrev S512x512 : Shape := ⟨2, ![512, 512]⟩
abbrev S1x1024x512 : Shape := ⟨3, ![1, 1024, 512]⟩
abbrev S1x512x1024 : Shape := ⟨3, ![1, 512, 1024]⟩
abbrev S512x1024 : Shape := ⟨2, ![512, 1024]⟩
abbrev S1024x512 : Shape := ⟨2, ![1024, 512]⟩

abbrev nBuf : Space → Nat
  | .hbm => 5
  | .vmem => 10
  | .smem => 2
  | _ => 0

abbrev bufTy : (tb : Table) → Fin (tcTables nBuf tb) → BufTy
  | .hbm, ⟨0, _⟩ => ⟨S21504x512, .i32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S86016x1024, .bf16⟩
  | .local _ .vmem, ⟨0, _⟩ => ⟨S512x512, .i32⟩
  | .local _ .vmem, ⟨1, _⟩ => ⟨S512x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .smem, ⟨0, _⟩ => ⟨S168, .i32⟩
  | .local _ .smem, ⟨1, _⟩ => ⟨S1, .i32⟩
  | _, _ => ⟨S21504x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![42], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c0_i32 : BitVec 32 := 0#32
  let arg0 : BitVec 32 := BitVec.ofNat 32 (i 0).val
  let v0 : BitVec 32 := Scalar.addi c0_i32 arg0
  let v1 : Index := Scalar.indexCast v0
  ![v1.toNat]
def k0_cond1 (i : grid0.Coords) (v1 : BitVec 32) : BitVec 1 :=
  let c0_i32 : BitVec 32 := 0#32
  let arg0 : BitVec 32 := BitVec.ofNat 32 (i 0).val
  let v0 : BitVec 32 := Scalar.addi c0_i32 arg0
  let v2 : BitVec 1 := Scalar.cmpi .slt v0 v1
  let v3 : BitVec 32 := Scalar.extui v2
  let c0_i32_0 : BitVec 32 := 0#32
  let v4 : BitVec 1 := Scalar.cmpi .ne v3 c0_i32_0
  v4

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.addi c0_i32 arg0
  let c0 : Index := 0#32
  let v1 : BitVec 32 := pf.at 1 (Rect.unit (s := S1) ![0] S1.size inb_S1_S1_0) numel1_S1
  let c1_i32 : BitVec 32 := 1#32
  let v2 : BitVec 32 := Scalar.subi v1 c1_i32
  let v3 : BitVec 32 := Scalar.minsi v0 v2
  let c0_i32_0 : BitVec 32 := 0#32
  let v4 : BitVec 32 := Scalar.subi v3 c0_i32_0
  let c0_i32_1 : BitVec 32 := 0#32
  let v5 : BitVec 32 := Scalar.maxsi v4 c0_i32_1
  let c0_i32_2 : BitVec 32 := 0#32
  let c0_i32_3 : BitVec 32 := 0#32
  ![v5.toNat, c0_i32_2.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S168) ![v1.toNat] S1.size (k0_off1_inb i)) numel1_S1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S168) ![v1.toNat] S1.size (k0_off1_inb i)) numel1_S1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S168) ![v1.toNat] S1.size (k0_off1_inb i)) numel1_S1
  let c0_i32_0 : BitVec 32 := 0#32
  let c0_i32_1 : BitVec 32 := 0#32
  let c0_i32_2 : BitVec 32 := 0#32
  ![v2.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.addi c0_i32 arg0
  let c0 : Index := 0#32
  let v1 : BitVec 32 := pf.at 1 (Rect.unit (s := S1) ![0] S1.size inb_S1_S1_0) numel1_S1
  let c1_i32 : BitVec 32 := 1#32
  let v2 : BitVec 32 := Scalar.subi v1 c1_i32
  let v3 : BitVec 32 := Scalar.minsi v0 v2
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S42 : Shape := ⟨1, ![42]⟩
abbrev S42x512 : Shape := ⟨2, ![42, 512]⟩
abbrev S21504 : Shape := ⟨1, ![21504]⟩
abbrev S21504x1 : Shape := ⟨2, ![21504, 1]⟩
abbrev S1x32 : Shape := ⟨2, ![1, 32]⟩
abbrev S21504x32 : Shape := ⟨2, ![21504, 32]⟩
abbrev S_ : Shape := ⟨0, ![]⟩
abbrev S21504x1024 : Shape := ⟨2, ![21504, 1024]⟩
abbrev S32x21504 : Shape := ⟨2, ![32, 21504]⟩
abbrev S1x21504 : Shape := ⟨2, ![1, 21504]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S86016x1024 : Shape := ⟨2, ![86016, 1024]⟩

abbrev nBuf : Space → Nat
  | .hbm => 78
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S21504x512, .i32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S42, .i32⟩
  | .hbm, ⟨7, _⟩ => ⟨S42x512, .i32⟩
  | .hbm, ⟨8, _⟩ => ⟨S21504, .i32⟩
  | .hbm, ⟨9, _⟩ => ⟨S21504x1, .i32⟩
  | .hbm, ⟨10, _⟩ => ⟨S1x32, .i32⟩
  | .hbm, ⟨11, _⟩ => ⟨S21504x32, .i32⟩
  | .hbm, ⟨12, _⟩ => ⟨S21504x32, .i32⟩
  | .hbm, ⟨13, _⟩ => ⟨S21504x32, .i1⟩
  | .hbm, ⟨14, _⟩ => ⟨S21504x32, .f32⟩
  | .hbm, ⟨15, _⟩ => ⟨S_, .i32⟩
  | .hbm, ⟨16, _⟩ => ⟨S21504x512, .i32⟩
  | .hbm, ⟨17, _⟩ => ⟨S21504x512, .i32⟩
  | .hbm, ⟨18, _⟩ => ⟨S21504x512, .f32⟩
  | .hbm, ⟨19, _⟩ => ⟨S_, .i32⟩
  | .hbm, ⟨20, _⟩ => ⟨S21504x512, .i32⟩
  | .hbm, ⟨21, _⟩ => ⟨S21504x512, .i32⟩
  | .hbm, ⟨22, _⟩ => ⟨S21504x512, .f32⟩
  | .hbm, ⟨23, _⟩ => ⟨S21504x1024, .f32⟩
  | .hbm, ⟨24, _⟩ => ⟨S_, .f32⟩
  | .hbm, ⟨25, _⟩ => ⟨S21504x1024, .f32⟩
  | .hbm, ⟨26, _⟩ => ⟨S32x21504, .f32⟩
  | .hbm, ⟨27, _⟩ => ⟨S32x1024x512, .f32⟩
  | .hbm, ⟨28, _⟩ => ⟨S32x1024x512, .f32⟩
  | .hbm, ⟨29, _⟩ => ⟨S32x512x1024, .f32⟩
  | .hbm, ⟨30, _⟩ => ⟨S_, .i32⟩
  | .hbm, ⟨31, _⟩ => ⟨S32x21504, .f32⟩
  | .hbm, ⟨32, _⟩ => ⟨S32x1024x512, .f32⟩
  | .hbm, ⟨33, _⟩ => ⟨S32x1024x512, .f32⟩
  | .hbm, ⟨34, _⟩ => ⟨S32x512x1024, .f32⟩
  | .hbm, ⟨35, _⟩ => ⟨S21504x1024, .f32⟩
  | .hbm, ⟨36, _⟩ => ⟨S_, .i32⟩
  | .hbm, ⟨37, _⟩ => ⟨S21504x1024, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S1x21504, .f32⟩
  | .hbm, ⟨42, _⟩ => ⟨S21504, .f32⟩
  | .hbm, ⟨43, _⟩ => ⟨S_, .i32⟩
  | .hbm, ⟨44, _⟩ => ⟨S_, .i32⟩
  | .hbm, ⟨45, _⟩ => ⟨S1x1024x512, .f32⟩
  | .hbm, ⟨46, _⟩ => ⟨S1024x512, .f32⟩
  | .hbm, ⟨47, _⟩ => ⟨S_, .i32⟩
  | .hbm, ⟨48, _⟩ => ⟨S_, .i32⟩
  | .hbm, ⟨49, _⟩ => ⟨S1x1024x512, .f32⟩
  | .hbm, ⟨50, _⟩ => ⟨S1024x512, .f32⟩
  | .hbm, ⟨51, _⟩ => ⟨S_, .i32⟩
  | .hbm, ⟨52, _⟩ => ⟨S_, .i32⟩
  | .hbm, ⟨53, _⟩ => ⟨S1x512x1024, .f32⟩
  | .hbm, ⟨54, _⟩ => ⟨S512x1024, .f32⟩
  | .hbm, ⟨55, _⟩ => ⟨S21504x512, .f32⟩
  | .hbm, ⟨56, _⟩ => ⟨S21504x512, .f32⟩
  | .hbm, ⟨57, _⟩ => ⟨S21504x512, .f32⟩
  | .hbm, ⟨58, _⟩ => ⟨S_, .f32⟩
  | .hbm, ⟨59, _⟩ => ⟨S21504x512, .f32⟩
  | .hbm, ⟨60, _⟩ => ⟨S21504x512, .f32⟩
  | .hbm, ⟨61, _⟩ => ⟨S_, .f32⟩
  | .hbm, ⟨62, _⟩ => ⟨S21504x512, .f32⟩
  | .hbm, ⟨63, _⟩ => ⟨S21504x512, .f32⟩
  | .hbm, ⟨64, _⟩ => ⟨S21504x512, .f32⟩
  | .hbm, ⟨65, _⟩ => ⟨S21504x512, .f32⟩
  | .hbm, ⟨66, _⟩ => ⟨S21504x512, .f32⟩
  | .hbm, ⟨67, _⟩ => ⟨S21504x1, .f32⟩
  | .hbm, ⟨68, _⟩ => ⟨S21504x1024, .f32⟩
  | .hbm, ⟨69, _⟩ => ⟨S21504x1024, .f32⟩
  | .hbm, ⟨70, _⟩ => ⟨S21504x1024, .f32⟩
  | .hbm, ⟨71, _⟩ => ⟨S21504x1024, .f32⟩
  | .hbm, ⟨72, _⟩ => ⟨S_, .i32⟩
  | .hbm, ⟨73, _⟩ => ⟨S_, .i32⟩
  | .hbm, ⟨74, _⟩ => ⟨S21504x1024, .bf16⟩
  | .hbm, ⟨75, _⟩ => ⟨S_, .i32⟩
  | .hbm, ⟨76, _⟩ => ⟨S_, .bf16⟩
  | .hbm, ⟨77, _⟩ => ⟨S86016x1024, .bf16⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev main_v16_6 : Ref sig .tc := ⟨.hbm, 37, rfl⟩
abbrev main_while0c_c_9 : Ref sig .tc := ⟨.hbm, 38, rfl⟩
abbrev main_while0c_v19 : Ref sig .tc := ⟨.hbm, 39, rfl⟩
abbrev main_while0b_call1_c : Ref sig .tc := ⟨.hbm, 40, rfl⟩
abbrev main_while0b_call1_v0 : Ref sig .tc := ⟨.hbm, 41, rfl⟩
abbrev main_while0b_v19 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_v0 : Ref sig .tc := ⟨.hbm, 45, rfl⟩
abbrev main_while0b_v20 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_call3_v0 : Ref sig .tc := ⟨.hbm, 49, rfl⟩
abbrev main_while0b_v21 : Ref sig .tc := ⟨.hbm, 50, rfl⟩
abbrev main_while0b_call4_c : Ref sig .tc := ⟨.hbm, 51, rfl⟩
abbrev main_while0b_call4_c_0 : Ref sig .tc := ⟨.hbm, 52, rfl⟩
abbrev main_while0b_call4_v0 : Ref sig .tc := ⟨.hbm, 53, rfl⟩
abbrev main_while0b_v22 : Ref sig .tc := ⟨.hbm, 54, rfl⟩
abbrev main_while0b_v23 : Ref sig .tc := ⟨.hbm, 55, rfl⟩
abbrev main_while0b_call5_v0 : Ref sig .tc := ⟨.hbm, 56, rfl⟩
abbrev main_while0b_call5_v1 : Ref sig .tc := ⟨.hbm, 57, rfl⟩
abbrev main_while0b_call5_cst : Ref sig .tc := ⟨.hbm, 58, rfl⟩
abbrev main_while0b_call5_v2 : Ref sig .tc := ⟨.hbm, 59, rfl⟩
abbrev main_while0b_call5_v3 : Ref sig .tc := ⟨.hbm, 60, rfl⟩
abbrev main_while0b_call5_cst_0 : Ref sig .tc := ⟨.hbm, 61, rfl⟩
abbrev main_while0b_call5_v4 : Ref sig .tc := ⟨.hbm, 62, rfl⟩
abbrev main_while0b_call5_v5 : Ref sig .tc := ⟨.hbm, 63, rfl⟩
abbrev main_while0b_v24 : Ref sig .tc := ⟨.hbm, 64, rfl⟩
abbrev main_while0b_v25 : Ref sig .tc := ⟨.hbm, 65, rfl⟩
abbrev main_while0b_v26 : Ref sig .tc := ⟨.hbm, 66, rfl⟩
abbrev main_while0b_v27 : Ref sig .tc := ⟨.hbm, 67, rfl⟩
abbrev main_while0b_v28 : Ref sig .tc := ⟨.hbm, 68, rfl⟩
abbrev main_while0b_v29 : Ref sig .tc := ⟨.hbm, 69, rfl⟩
abbrev main_while0b_v30 : Ref sig .tc := ⟨.hbm, 70, rfl⟩
abbrev main_while0b_v31 : Ref sig .tc := ⟨.hbm, 71, rfl⟩
abbrev main_while0b_c_9 : Ref sig .tc := ⟨.hbm, 72, rfl⟩
abbrev main_while0b_v32 : Ref sig .tc := ⟨.hbm, 73, rfl⟩
abbrev main_v17 : Ref sig .tc := ⟨.hbm, 74, rfl⟩
abbrev main_c_2 : Ref sig .tc := ⟨.hbm, 75, rfl⟩
abbrev main_call6_v0 : Ref sig .tc := ⟨.hbm, 76, rfl⟩
abbrev main_v18 : Ref sig .tc := ⟨.hbm, 77, rfl⟩

abbrev nD : Nat := 1
abbrev τ : Topo := Topo.v7x

variable {F : FTy → Type} [FloatOps F]

abbrev main_while0_count : Scf.Loop 32 := ⟨0#32, 32#32, 1#32⟩
-- ==== Experts1.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016x1024 : Shape := ⟨2, ![86016, 1024]⟩
abbrev S512x512 : Shape := ⟨2, ![512, 512]⟩
abbrev S1x1024x512 : Shape := ⟨3, ![1, 1024, 512]⟩
abbrev S1x512x1024 : Shape := ⟨3, ![1, 512, 1024]⟩
abbrev S512x1024 : Shape := ⟨2, ![512, 1024]⟩
abbrev S1024x512 : Shape := ⟨2, ![1024, 512]⟩

abbrev nBuf : Space → Nat
  | .hbm => 6
  | .vmem => 10
  | .smem => 2
  | _ => 0

abbrev bufTy : (tb : Table) → Fin (tcTables nBuf tb) → BufTy
  | .hbm, ⟨0, _⟩ => ⟨S21504x512, .i32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S86016x1024, .bf16⟩
  | .hbm, ⟨5, _⟩ => ⟨S86016x1024, .bf16⟩
  | .local _ .vmem, ⟨0, _⟩ => ⟨S512x512, .i32⟩
  | .local _ .vmem, ⟨1, _⟩ => ⟨S512x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .smem, ⟨0, _⟩ => ⟨S168, .i32⟩
  | .local _ .smem, ⟨1, _⟩ => ⟨S1, .i32⟩
  | _, _ => ⟨S21504x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![42], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c42_i32 : BitVec 32 := 42#32
  let arg0 : BitVec 32 := BitVec.ofNat 32 (i 0).val
  let v0 : BitVec 32 := Scalar.addi c42_i32 arg0
  let v1 : Index := Scalar.indexCast v0
  ![v1.toNat]
def k0_cond1 (i : grid0.Coords) (v1 : BitVec 32) : BitVec 1 :=
  let c42_i32 : BitVec 32 := 42#32
  let arg0 : BitVec 32 := BitVec.ofNat 32 (i 0).val
  let v0 : BitVec 32 := Scalar.addi c42_i32 arg0
  let v2 : BitVec 1 := Scalar.cmpi .slt v0 v1
  let v3 : BitVec 32 := Scalar.extui v2
  let c0_i32 : BitVec 32 := 0#32
  let v4 : BitVec 1 := Scalar.cmpi .ne v3 c0_i32
  v4

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c42_i32 : BitVec 32 := 42#32
  let v0 : BitVec 32 := Scalar.addi c42_i32 arg0
  let c0 : Index := 0#32
  let v1 : BitVec 32 := pf.at 1 (Rect.unit (s := S1) ![0] S1.size inb_S1_S1_0) numel1_S1
  let c1_i32 : BitVec 32 := 1#32
  let v2 : BitVec 32 := Scalar.subi v1 c1_i32
  let v3 : BitVec 32 := Scalar.minsi v0 v2
  let c42_i32_0 : BitVec 32 := 42#32
  let v4 : BitVec 32 := Scalar.subi v3 c42_i32_0
  let c0_i32 : BitVec 32 := 0#32
  let v5 : BitVec 32 := Scalar.maxsi v4 c0_i32
  let c0_i32_1 : BitVec 32 := 0#32
  let c0_i32_2 : BitVec 32 := 0#32
  ![v5.toNat, c0_i32_1.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c42_i32 : BitVec 32 := 42#32
  let v0 : BitVec 32 := Scalar.addi c42_i32 arg0
  let v1 : Index := Scalar.indexCast v0
  let v2 : BitVec 32 := pf.at 0 (Rect.unit (s := S168) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c42_i32 : BitVec 32 := 42#32
  let v0 : BitVec 32 := Scalar.addi c42_i32 arg0
  let v1 : Index := Scalar.indexCast v0
  let v2 : BitVec 32 := pf.at 0 (Rect.unit (s := S168) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c42_i32 : BitVec 32 := 42#32
  let v0 : BitVec 32 := Scalar.addi c42_i32 arg0
  let v1 : Index := Scalar.indexCast v0
  let v2 : BitVec 32 := pf.at 0 (Rect.unit (s := S168) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c42_i32 : BitVec 32 := 42#32
  let v0 : BitVec 32 := Scalar.addi c42_i32 arg0
  let c0 : Index := 0#32
  let v1 : BitVec 32 := pf.at 1 (Rect.unit (s := S1) ![0] S1.size inb_S1_S1_0) numel1_S1
  let c1_i32 : BitVec 32 := 1#32
  let v2 : BitVec 32 := Scalar.subi v1 c1_i32
  let v3 : BitVec 32 := Scalar.minsi v0 v2
  let c42_i32_0 : BitVec 32 := 42#32
  let v4 : BitVec 32 := Scalar.maxsi v3 c42_i32_0
  let c0_i32 : BitVec 32 := 0#32
  let c0_i32_1 : BitVec 32 := 0#32
  ![v4.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReference1Ideal.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016x1024 : Shape := ⟨2, ![86016, 1024]⟩
abbrev S42 : Shape := ⟨1, ![42]⟩
abbrev S42x512 : Shape := ⟨2, ![42, 512]⟩
abbrev S21504 : Shape := ⟨1, ![21504]⟩
abbrev S21504x1 : Shape := ⟨2, ![21504, 1]⟩
abbrev S1x32 : Shape := ⟨2, ![1, 32]⟩
abbrev S21504x32 : Shape := ⟨2, ![21504, 32]⟩
abbrev S_ : Shape := ⟨0, ![]⟩
abbrev S21504x1024 : Shape := ⟨2, ![21504, 1024]⟩
abbrev S32x21504 : Shape := ⟨2, ![32, 21504]⟩
abbrev S1x21504 : Shape := ⟨2, ![1, 21504]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S43008x1024 : Shape := ⟨2, ![43008, 1024]⟩

abbrev nBuf : Space → Nat
  | .hbm => 79
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S21504x512, .i32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S86016x1024, .bf16⟩
  | .hbm, ⟨7, _⟩ => ⟨S42, .i32⟩
  | .hbm, ⟨8, _⟩ => ⟨S42x512, .i32⟩
  | .hbm, ⟨9, _⟩ => ⟨S21504, .i32⟩
  | .hbm, ⟨10, _⟩ => ⟨S21504x1, .i32⟩
  | .hbm, ⟨11, _⟩ => ⟨S1x32, .i32⟩
  | .hbm, ⟨12, _⟩ => ⟨S21504x32, .i32⟩
  | .hbm, ⟨13, _⟩ => ⟨S21504x32, .i32⟩
  | .hbm, ⟨14, _⟩ => ⟨S21504x32, .i1⟩
  | .hbm, ⟨15, _⟩ => ⟨S21504x32, .f32⟩
  | .hbm, ⟨16, _⟩ => ⟨S_, .i32⟩
  | .hbm, ⟨17, _⟩ => ⟨S21504x512, .i32⟩
  | .hbm, ⟨18, _⟩ => ⟨S21504x512, .i32⟩
  | .hbm, ⟨19, _⟩ => ⟨S21504x512, .f32⟩
  | .hbm, ⟨20, _⟩ => ⟨S_, .i32⟩
  | .hbm, ⟨21, _⟩ => ⟨S21504x512, .i32⟩
  | .hbm, ⟨22, _⟩ => ⟨S21504x512, .i32⟩
  | .hbm, ⟨23, _⟩ => ⟨S21504x512, .f32⟩
  | .hbm, ⟨24, _⟩ => ⟨S21504x1024, .f32⟩
  | .hbm, ⟨25, _⟩ => ⟨S_, .f32⟩
  | .hbm, ⟨26, _⟩ => ⟨S21504x1024, .f32⟩
  | .hbm, ⟨27, _⟩ => ⟨S32x21504, .f32⟩
  | .hbm, ⟨28, _⟩ => ⟨S32x1024x512, .f32⟩
  | .hbm, ⟨29, _⟩ => ⟨S32x1024x512, .f32⟩
  | .hbm, ⟨30, _⟩ => ⟨S32x512x1024, .f32⟩
  | .hbm, ⟨31, _⟩ => ⟨S_, .i32⟩
  | .hbm, ⟨32, _⟩ => ⟨S32x21504, .f32⟩
  | .hbm, ⟨33, _⟩ => ⟨S32x1024x512, .f32⟩
  | .hbm, ⟨34, _⟩ => ⟨S32x1024x512, .f32⟩
  | .hbm, ⟨35, _⟩ => ⟨S32x512x1024, .f32⟩
  | .hbm, ⟨36, _⟩ => ⟨S21504x1024, .f32⟩
  | .hbm, ⟨37, _⟩ => ⟨S_, .i32⟩
  | .hbm, ⟨38, _⟩ => ⟨S21504x1024, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S1x21504, .f32⟩
  | .hbm, ⟨43, _⟩ => ⟨S21504, .f32⟩
  | .hbm, ⟨44, _⟩ => ⟨S_, .i32⟩
  | .hbm, ⟨45, _⟩ => ⟨S_, .i32⟩
  | .hbm, ⟨46, _⟩ => ⟨S1x1024x512, .f32⟩
  | .hbm, ⟨47, _⟩ => ⟨S1024x512, .f32⟩
  | .hbm, ⟨48, _⟩ => ⟨S_, .i32⟩
  | .hbm, ⟨49, _⟩ => ⟨S_, .i32⟩
  | .hbm, ⟨50, _⟩ => ⟨S1x1024x512, .f32⟩
  | .hbm, ⟨51, _⟩ => ⟨S1024x512, .f32⟩
  | .hbm, ⟨52, _⟩ => ⟨S_, .i32⟩
  | .hbm, ⟨53, _⟩ => ⟨S_, .i32⟩
  | .hbm, ⟨54, _⟩ => ⟨S1x512x1024, .f32⟩
  | .hbm, ⟨55, _⟩ => ⟨S512x1024, .f32⟩
  | .hbm, ⟨56, _⟩ => ⟨S21504x512, .f32⟩
  | .hbm, ⟨57, _⟩ => ⟨S21504x512, .f32⟩
  | .hbm, ⟨58, _⟩ => ⟨S21504x512, .f32⟩
  | .hbm, ⟨59, _⟩ => ⟨S_, .f32⟩
  | .hbm, ⟨60, _⟩ => ⟨S21504x512, .f32⟩
  | .hbm, ⟨61, _⟩ => ⟨S21504x512, .f32⟩
  | .hbm, ⟨62, _⟩ => ⟨S_, .f32⟩
  | .hbm, ⟨63, _⟩ => ⟨S21504x512, .f32⟩
  | .hbm, ⟨64, _⟩ => ⟨S21504x512, .f32⟩
  | .hbm, ⟨65, _⟩ => ⟨S21504x512, .f32⟩
  | .hbm, ⟨66, _⟩ => ⟨S21504x512, .f32⟩
  | .hbm, ⟨67, _⟩ => ⟨S21504x512, .f32⟩
  | .hbm, ⟨68, _⟩ => ⟨S21504x1, .f32⟩
  | .hbm, ⟨69, _⟩ => ⟨S21504x1024, .f32⟩
  | .hbm, ⟨70, _⟩ => ⟨S21504x1024, .f32⟩
  | .hbm, ⟨71, _⟩ => ⟨S21504x1024, .f32⟩
  | .hbm, ⟨72, _⟩ => ⟨S21504x1024, .f32⟩
  | .hbm, ⟨73, _⟩ => ⟨S_, .i32⟩
  | .hbm, ⟨74, _⟩ => ⟨S_, .i32⟩
  | .hbm, ⟨75, _⟩ => ⟨S21504x1024, .bf16⟩
  | .hbm, ⟨76, _⟩ => ⟨S21504x1024, .bf16⟩
  | .hbm, ⟨77, _⟩ => ⟨S43008x1024, .bf16⟩
  | .hbm, ⟨78, _⟩ => ⟨S86016x1024, .bf16⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev main_v16_5 : Ref sig .tc := ⟨.hbm, 37, rfl⟩
abbrev main_v16_6 : Ref sig .tc := ⟨.hbm, 38, rfl⟩
abbrev main_while0c_c_8 : Ref sig .tc := ⟨.hbm, 39, rfl⟩
abbrev main_while0c_v21 : Ref sig .tc := ⟨.hbm, 40, rfl⟩
abbrev main_while0b_call1_c : Ref sig .tc := ⟨.hbm, 41, rfl⟩
abbrev main_while0b_call1_v0 : Ref sig .tc := ⟨.hbm, 42, rfl⟩
abbrev main_while0b_v21 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_v0 : Ref sig .tc := ⟨.hbm, 46, rfl⟩
abbrev main_while0b_v22 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_v0 : Ref sig .tc := ⟨.hbm, 50, rfl⟩
abbrev main_while0b_v23 : Ref sig .tc := ⟨.hbm, 51, rfl⟩
abbrev main_while0b_call4_c : Ref sig .tc := ⟨.hbm, 52, rfl⟩
abbrev main_while0b_call4_c_0 : Ref sig .tc := ⟨.hbm, 53, rfl⟩
abbrev main_while0b_call4_v0 : Ref sig .tc := ⟨.hbm, 54, rfl⟩
abbrev main_while0b_v24 : Ref sig .tc := ⟨.hbm, 55, rfl⟩
abbrev main_while0b_v25 : Ref sig .tc := ⟨.hbm, 56, rfl⟩
abbrev main_while0b_call5_v0 : Ref sig .tc := ⟨.hbm, 57, rfl⟩
abbrev main_while0b_call5_v1 : Ref sig .tc := ⟨.hbm, 58, rfl⟩
abbrev main_while0b_call5_cst : Ref sig .tc := ⟨.hbm, 59, rfl⟩
abbrev main_while0b_call5_v2 : Ref sig .tc := ⟨.hbm, 60, rfl⟩
abbrev main_while0b_call5_v3 : Ref sig .tc := ⟨.hbm, 61, rfl⟩
abbrev main_while0b_call5_cst_0 : Ref sig .tc := ⟨.hbm, 62, rfl⟩
abbrev main_while0b_call5_v4 : Ref sig .tc := ⟨.hbm, 63, rfl⟩
abbrev main_while0b_call5_v5 : Ref sig .tc := ⟨.hbm, 64, rfl⟩
abbrev main_while0b_v26 : Ref sig .tc := ⟨.hbm, 65, rfl⟩
abbrev main_while0b_v27 : Ref sig .tc := ⟨.hbm, 66, rfl⟩
abbrev main_while0b_v28 : Ref sig .tc := ⟨.hbm, 67, rfl⟩
abbrev main_while0b_v29 : Ref sig .tc := ⟨.hbm, 68, rfl⟩
abbrev main_while0b_v30 : Ref sig .tc := ⟨.hbm, 69, rfl⟩
abbrev main_while0b_v31 : Ref sig .tc := ⟨.hbm, 70, rfl⟩
abbrev main_while0b_v32 : Ref sig .tc := ⟨.hbm, 71, rfl⟩
abbrev main_while0b_v33 : Ref sig .tc := ⟨.hbm, 72, rfl⟩
abbrev main_while0b_c_8 : Ref sig .tc := ⟨.hbm, 73, rfl⟩
abbrev main_while0b_v34 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩

abbrev nD : Nat := 1
abbrev τ : Topo := Topo.v7x

variable {F : FTy → Type} [FloatOps F]

abbrev main_while0_count : Scf.Loop 32 := ⟨0#32, 32#32, 1#32⟩
-- ==== Experts2.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016x1024 : Shape := ⟨2, ![86016, 1024]⟩
abbrev S512x512 : Shape := ⟨2, ![512, 512]⟩
abbrev S1x1024x512 : Shape := ⟨3, ![1, 1024, 512]⟩
abbrev S1x512x1024 : Shape := ⟨3, ![1, 512, 1024]⟩
abbrev S512x1024 : Shape := ⟨2, ![512, 1024]⟩
abbrev S1024x512 : Shape := ⟨2, ![1024, 512]⟩

abbrev nBuf : Space → Nat
  | .hbm => 6
  | .vmem => 10
  | .smem => 2
  | _ => 0

abbrev bufTy : (tb : Table) → Fin (tcTables nBuf tb) → BufTy
  | .hbm, ⟨0, _⟩ => ⟨S21504x512, .i32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S86016x1024, .bf16⟩
  | .hbm, ⟨5, _⟩ => ⟨S86016x1024, .bf16⟩
  | .local _ .vmem, ⟨0, _⟩ => ⟨S512x512, .i32⟩
  | .local _ .vmem, ⟨1, _⟩ => ⟨S512x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .smem, ⟨0, _⟩ => ⟨S168, .i32⟩
  | .local _ .smem, ⟨1, _⟩ => ⟨S1, .i32⟩
  | _, _ => ⟨S21504x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![42], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c84_i32 : BitVec 32 := 84#32
  let arg0 : BitVec 32 := BitVec.ofNat 32 (i 0).val
  let v0 : BitVec 32 := Scalar.addi c84_i32 arg0
  let v1 : Index := Scalar.indexCast v0
  ![v1.toNat]
def k0_cond1 (i : grid0.Coords) (v1 : BitVec 32) : BitVec 1 :=
  let c84_i32 : BitVec 32 := 84#32
  let arg0 : BitVec 32 := BitVec.ofNat 32 (i 0).val
  let v0 : BitVec 32 := Scalar.addi c84_i32 arg0
  let v2 : BitVec 1 := Scalar.cmpi .slt v0 v1
  let v3 : BitVec 32 := Scalar.extui v2
  let c0_i32 : BitVec 32 := 0#32
  let v4 : BitVec 1 := Scalar.cmpi .ne v3 c0_i32
  v4

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c84_i32 : BitVec 32 := 84#32
  let v0 : BitVec 32 := Scalar.addi c84_i32 arg0
  let c0 : Index := 0#32
  let v1 : BitVec 32 := pf.at 1 (Rect.unit (s := S1) ![0] S1.size inb_S1_S1_0) numel1_S1
  let c1_i32 : BitVec 32 := 1#32
  let v2 : BitVec 32 := Scalar.subi v1 c1_i32
  let v3 : BitVec 32 := Scalar.minsi v0 v2
  let c84_i32_0 : BitVec 32 := 84#32
  let v4 : BitVec 32 := Scalar.subi v3 c84_i32_0
  let c0_i32 : BitVec 32 := 0#32
  let v5 : BitVec 32 := Scalar.maxsi v4 c0_i32
  let c0_i32_1 : BitVec 32 := 0#32
  let c0_i32_2 : BitVec 32 := 0#32
  ![v5.toNat, c0_i32_1.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c84_i32 : BitVec 32 := 84#32
  let v0 : BitVec 32 := Scalar.addi c84_i32 arg0
  let v1 : Index := Scalar.indexCast v0
  let v2 : BitVec 32 := pf.at 0 (Rect.unit (s := S168) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c84_i32 : BitVec 32 := 84#32
  let v0 : BitVec 32 := Scalar.addi c84_i32 arg0
  let v1 : Index := Scalar.indexCast v0
  let v2 : BitVec 32 := pf.at 0 (Rect.unit (s := S168) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let c84_i32 : BitVec 32 := 84#32
  let v0 : BitVec 32 := Scalar.addi c84_i32 arg0
  let v1 : Index := Scalar.indexCast v0
  let v2 : BitVec 32 := pf.at 0 (Rect.unit (s := S168) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c84_i32 : BitVec 32 := 84#32
  let v0 : BitVec 32 := Scalar.addi c84_i32 arg0
  let c0 : Index := 0#32
  let v1 : BitVec 32 := pf.at 1 (Rect.unit (s := S1) ![0] S1.size inb_S1_S1_0) numel1_S1
  let c1_i32 : BitVec 32 := 1#32
  let v2 : BitVec 32 := Scalar.subi v1 c1_i32
  let v3 : BitVec 32 := Scalar.minsi v0 v2
  let c84_i32_0 : BitVec 32 := 84#32
  let v4 : BitVec 32 := Scalar.maxsi v3 c84_i32_0
  let c0_i32 : BitVec 32 := 0#32
  let c0_i32_1 : BitVec 32 := 0#32
  ![v4.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReference2Ideal.lean ====
abbrev S168 : Shape := ⟨1, ![168]⟩
abbrev S1 : Shape := ⟨1, ![1]⟩
abbrev S21504x512 : Shape := ⟨2, ![21504, 512]⟩
abbrev S32x1024x512 : Shape := ⟨3, ![32, 1024, 512]⟩
abbrev S32x512x1024 : Shape := ⟨3, ![32, 512, 1024]⟩
abbrev S86016x1024 : Shape := ⟨2, ![86016, 1024]⟩
abbrev S42 : Shape := ⟨1, ![42]⟩
abbrev S42x512 : Shape := ⟨2, ![42, 512]⟩
abbrev S21504 : Shape := ⟨1, ![21504]⟩
abbrev S21504x1 : Shape := ⟨2, ![21504, 1]⟩
abbrev S1x32 : Shape := ⟨2, ![1, 32]⟩
abbrev S21504x32 : Shape := ⟨2, ![21504, 32]⟩
abbrev S_ : Shape := ⟨0, ![]⟩
abbrev S21504x1024 : Shape := ⟨2, ![21504, 1024]⟩
abbrev S32x21504 : Shape := ⟨2, ![32, 21504]⟩
abbrev S1x21504 : Shape := ⟨2, ![1, 21504]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S43008x1024 : Shape := ⟨2, ![43008, 1024]⟩

abbrev nBuf : Space → Nat
  | .hbm => 79
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S21504x512, .i32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S86016x1024, .bf16⟩
  | .hbm, ⟨7, _⟩ => ⟨S42, .i32⟩
  | .hbm, ⟨8, _⟩ => ⟨S42x512, .i32⟩
  | .hbm, ⟨9, _⟩ => ⟨S21504, .i32⟩
  | .hbm, ⟨10, _⟩ => ⟨S21504x1, .i32⟩
  | .hbm, ⟨11, _⟩ => ⟨S1x32, .i32⟩
  | .hbm, ⟨12, _⟩ => ⟨S21504x32, .i32⟩
  | .hbm, ⟨13, _⟩ => ⟨S21504x32, .i32⟩
  | .hbm, ⟨14, _⟩ => ⟨S21504x32, .i1⟩
  | .hbm, ⟨15, _⟩ => ⟨S21504x32, .f32⟩
  | .hbm, ⟨16, _⟩ => ⟨S_, .i32⟩
  | .hbm, ⟨17, _⟩ => ⟨S21504x512, .i32⟩
  | .hbm, ⟨18, _⟩ => ⟨S21504x512, .i32⟩
  | .hbm, ⟨19, _⟩ => ⟨S21504x512, .f32⟩
  | .hbm, ⟨20, _⟩ => ⟨S_, .i32⟩
  | .hbm, ⟨21, _⟩ => ⟨S21504x512, .i32⟩
  | .hbm, ⟨22, _⟩ => ⟨S21504x512, .i32⟩
  | .hbm, ⟨23, _⟩ => ⟨S21504x512, .f32⟩
  | .hbm, ⟨24, _⟩ => ⟨S21504x1024, .f32⟩
  | .hbm, ⟨25, _⟩ => ⟨S_, .f32⟩
  | .hbm, ⟨26, _⟩ => ⟨S21504x1024, .f32⟩
  | .hbm, ⟨27, _⟩ => ⟨S32x21504, .f32⟩
  | .hbm, ⟨28, _⟩ => ⟨S32x1024x512, .f32⟩
  | .hbm, ⟨29, _⟩ => ⟨S32x1024x512, .f32⟩
  | .hbm, ⟨30, _⟩ => ⟨S32x512x1024, .f32⟩
  | .hbm, ⟨31, _⟩ => ⟨S_, .i32⟩
  | .hbm, ⟨32, _⟩ => ⟨S32x21504, .f32⟩
  | .hbm, ⟨33, _⟩ => ⟨S32x1024x512, .f32⟩
  | .hbm, ⟨34, _⟩ => ⟨S32x1024x512, .f32⟩
  | .hbm, ⟨35, _⟩ => ⟨S32x512x1024, .f32⟩
  | .hbm, ⟨36, _⟩ => ⟨S21504x1024, .f32⟩
  | .hbm, ⟨37, _⟩ => ⟨S_, .i32⟩
  | .hbm, ⟨38, _⟩ => ⟨S21504x1024, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S1x21504, .f32⟩
  | .hbm, ⟨43, _⟩ => ⟨S21504, .f32⟩
  | .hbm, ⟨44, _⟩ => ⟨S_, .i32⟩
  | .hbm, ⟨45, _⟩ => ⟨S_, .i32⟩
  | .hbm, ⟨46, _⟩ => ⟨S1x1024x512, .f32⟩
  | .hbm, ⟨47, _⟩ => ⟨S1024x512, .f32⟩
  | .hbm, ⟨48, _⟩ => ⟨S_, .i32⟩
  | .hbm, ⟨49, _⟩ => ⟨S_, .i32⟩
  | .hbm, ⟨50, _⟩ => ⟨S1x1024x512, .f32⟩
  | .hbm, ⟨51, _⟩ => ⟨S1024x512, .f32⟩
  | .hbm, ⟨52, _⟩ => ⟨S_, .i32⟩
  | .hbm, ⟨53, _⟩ => ⟨S_, .i32⟩
  | .hbm, ⟨54, _⟩ => ⟨S1x512x1024, .f32⟩
  | .hbm, ⟨55, _⟩ => ⟨S512x1024, .f32⟩
  | .hbm, ⟨56, _⟩ => ⟨S21504x512, .f32⟩
  | .hbm, ⟨57, _⟩ => ⟨S21504x512, .f32⟩
  | .hbm, ⟨58, _⟩ => ⟨S21504x512, .f32⟩
  | .hbm, ⟨59, _⟩ => ⟨S_, .f32⟩
  | .hbm, ⟨60, _⟩ => ⟨S21504x512, .f32⟩
  | .hbm, ⟨61, _⟩ => ⟨S21504x512, .f32⟩
  | .hbm, ⟨62, _⟩ => ⟨S_, .f32⟩
  | .hbm, ⟨63, _⟩ => ⟨S21504x512, .f32⟩
  | .hbm, ⟨64, _⟩ => ⟨S21504x512, .f32⟩
  | .hbm, ⟨65, _⟩ => ⟨S21504x512, .f32⟩
  | .hbm, ⟨66, _⟩ => ⟨S21504x512, .f32⟩
  | .hbm, ⟨67, _⟩ => ⟨S21504x512, .f32⟩
  | .hbm, ⟨68, _⟩ => ⟨S21504x1, .f32⟩
  | .hbm, ⟨69, _⟩ => ⟨S21504x1024, .f32⟩
  | .hbm, ⟨70, _⟩ => ⟨S21504x1024, .f32⟩
  | .hbm, ⟨71, _⟩ => ⟨S21504x1024, .f32⟩
  | .hbm, ⟨72, _⟩ => ⟨S21504x1024, .f32⟩
  | .hbm, ⟨73, _⟩ => ⟨S_, .i32⟩
  | .hbm, ⟨74, _⟩ => ⟨S_, .i32⟩
  | .hbm, ⟨75, _⟩ => ⟨S21504x1024, .bf16⟩
  | .hbm, ⟨76, _⟩ => ⟨S43008x1024, .bf16⟩
  | .hbm, ⟨77, _⟩ => ⟨S21504x1024, .bf16⟩
  | .hbm, ⟨78, _⟩ => ⟨S86016x1024, .bf16⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev main_v16_5 : Ref sig .tc := ⟨.hbm, 37, rfl⟩
abbrev main_v16_6 : Ref sig .tc := ⟨.hbm, 38, rfl⟩
abbrev main_while0c_c_8 : Ref sig .tc := ⟨.hbm, 39, rfl⟩
abbrev main_while0c_v21 : Ref sig .tc := ⟨.hbm, 40, rfl⟩
abbrev main_while0b_call1_c : Ref sig .tc := ⟨.hbm, 41, rfl⟩
abbrev main_while0b_call1_v0 : Ref sig .tc := ⟨.hbm, 42, rfl⟩
abbrev main_while0b_v21 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_v0 : Ref sig .tc := ⟨.hbm, 46, rfl⟩
abbrev main_while0b_v22 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_v0 : Ref sig .tc := ⟨.hbm, 50, rfl⟩
abbrev main_while0b_v23 : Ref sig .tc := ⟨.hbm, 51, rfl⟩
abbrev main_while0b_call4_c : Ref sig .tc := ⟨.hbm, 52, rfl⟩
abbrev main_while0b_call4_c_0 : Ref sig .tc := ⟨.hbm, 53, rfl⟩
abbrev main_while0b_call4_v0 : Ref sig .tc := ⟨.hbm, 54, rfl⟩
abbrev main_while0b_v24 : Ref sig .tc := ⟨.hbm, 55, rfl⟩
abbrev main_while0b_v25 : Ref sig .tc := ⟨.hbm, 56, rfl⟩
abbrev main_while0b_call5_v0 : Ref sig .tc := ⟨.hbm, 57, rfl⟩
abbrev main_while0b_call5_v1 : Ref sig .tc := ⟨.hbm, 58, rfl⟩
abbrev main_while0b_call5_cst : Ref sig .tc := ⟨.hbm, 59, rfl⟩
abbrev main_while0b_call5_v2 : Ref sig .tc := ⟨.hbm, 60, rfl⟩
abbrev main_while0b_call5_v3 : Ref sig .tc := ⟨.hbm, 61, rfl⟩
abbrev main_while0b_call5_cst_0 : Ref sig .tc := ⟨.hbm, 62, rfl⟩
abbrev main_while0b_call5_v4 : Ref sig .tc := ⟨.hbm, 63, rfl⟩
abbrev main_while0b_call5_v5 : Ref sig .tc := ⟨.hbm, 64, rfl⟩
abbrev main_while0b_v26 : Ref sig .tc := ⟨.hbm, 65, rfl⟩
abbrev main_while0b_v27 : Ref sig .tc := ⟨.hbm, 66, rfl⟩
abbrev main_while0b_v28 : Ref sig .tc := ⟨.hbm, 67, rfl⟩
abbrev main_while0b_v29 : Ref sig .tc := ⟨.hbm, 68, rfl⟩
abbrev main_while0b_v30 : Ref sig .tc := ⟨.hbm, 69, rfl⟩
abbrev main_while0b_v31 : Ref sig .tc := ⟨.hbm, 70, rfl⟩
abbrev main_while0b_v32 : Ref sig .tc := ⟨.hbm, 71, rfl⟩
abbrev main_while0b_v33 : Ref sig .tc := ⟨.hbm, 72, rfl⟩
abbrev main_while0b_c_8 : Ref sig .tc := ⟨.hbm, 73, rfl⟩
abbrev main_while0b_v34 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩

abbrev nD : Nat := 1
abbrev τ : Topo := Topo.v7x

variable {F : FTy → Type} [FloatOps F]

abbrev main_while0_count : Scf.Loop 32 := ⟨0#32, 32#32, 1#32⟩
-- ==== Proof.FramePoints.lean ====
/- At each of the 65 grid points: which branch of the body runs, where an output is idle, where it is written back, and the staging buffers by name. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 64 — decided over the grid. -/
theorem hcond0_0 : ∀ t : Fin cfg0.N, cond0_0 (grid0.coords t) ↔ t.val < 64 :=
  (by decide +kernel : ∀ t : Fin grid0.N, cond0_0 (grid0.coords t) ↔ t.val < 64)

/-- The condition of the body's `scf.if` 1 (`k0_h2`), from the grid coordinates (the skeleton's scalar
    chain substituted). -/
abbrev cond0_1 (i : grid0.Coords) : Prop := k0_cond2 i = 1#1
/-- It holds at the points ≡ 0 (mod 16) — decided over the grid. -/
theorem hcond0_1 : ∀ t : Fin cfg0.N, cond0_1 (grid0.coords t) ↔ t.val % 16 = 0 :=
  (by decide +kernel : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the last point only — decided over the grid. -/
theorem hcond0_2 : ∀ t : Fin cfg0.N, cond0_2 (grid0.coords t) ↔ t.val % 65 = 64 :=
  (by decide +kernel : ∀ t : Fin grid0.N, cond0_2 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- At the points of case A the printed configuration (`Cfg.idle`) calls output 15 live: the case stores into it. -/
theorem liveAt0_15_A : ∀ t : Fin cfg0.N, cond0_0 (grid0.coords t) → cond0_1 (grid0.coords t) → ¬cond0_2 (grid0.coords t) → cfg0.idle 15 (grid0.coords t) = false := by decide +kernel
/-- At the points of case B the printed configuration (`Cfg.idle`) calls output 15 live: the case stores into it. -/
theorem liveAt0_15_B : ∀ t : Fin cfg0.N, cond0_0 (grid0.coords t) → ¬cond0_1 (grid0.coords t) → ¬cond0_2 (grid0.coords t) → cfg0.idle 15 (grid0.coords t) = false := by decide +kernel
/-- At the points of case C the printed configuration (`Cfg.idle`) calls output 15 live: the case stores into it. -/
theorem liveAt0_15_C : ∀ t : Fin cfg0.N, ¬cond0_0 (grid0.coords t) → cond0_2 (grid0.coords t) → cfg0.idle 15 (grid0.coords t) = false := by decide +kernel
/-- At the points of case A the printed configuration (`Cfg.idle`) calls output 16 live: the case stores into it. -/
theorem liveAt0_16_A : ∀ t : Fin cfg0.N, cond0_0 (grid0.coords t) → cond0_1 (grid0.coords t) → ¬cond0_2 (grid0.coords t) → cfg0.idle 16 (grid0.coords t) = false := by decide +kernel
/-- At the points of case B the printed configuration (`Cfg.idle`) calls output 16 live: the case stores into it. -/
theorem liveAt0_16_B : ∀ t : Fin cfg0.N, cond0_0 (grid0.coords t) → ¬cond0_1 (grid0.coords t) → ¬cond0_2 (grid0.coords t) → cfg0.idle 16 (grid0.coords t) = false := by decide +kernel
/-- At the points of case C the printed configuration (`Cfg.idle`) calls output 16 live: the case stores into it. -/
theorem liveAt0_16_C : ∀ t : Fin cfg0.N, ¬cond0_0 (grid0.coords t) → cond0_2 (grid0.coords t) → cfg0.idle 16 (grid0.coords t) = false := by decide +kernel
/-- At the points of case A the printed configuration (`Cfg.idle`) calls output 17 live: the case stores into it. -/
theorem liveAt0_17_A : ∀ t : Fin cfg0.N, cond0_0 (grid0.coords t) → cond0_1 (grid0.coords t) → ¬cond0_2 (grid0.coords t) → cfg0.idle 17 (grid0.coords t) = false := by decide +kernel
/-- At the points of case B the printed configuration (`Cfg.idle`) calls output 17 live: the case stores into it. -/
theorem liveAt0_17_B : ∀ t : Fin cfg0.N, cond0_0 (grid0.coords t) → ¬cond0_1 (grid0.coords t) → ¬cond0_2 (grid0.coords t) → cfg0.idle 17 (grid0.coords t) = false := by decide +kernel
/-- At the points of case C the printed configuration (`Cfg.idle`) calls output 17 live: the case stores into it. -/
theorem liveAt0_17_C : ∀ t : Fin cfg0.N, ¬cond0_0 (grid0.coords t) → cond0_2 (grid0.coords t) → cfg0.idle 17 (grid0.coords t) = false := by decide +kernel
/-- Whether output 18's buffer is FRESH at each position `1 ‥ N` — holds nothing the body stored since the region's entry or the
    last write-back (written back at the point before, or idle there and fresh before it) —, as a bitmask the classifier
    computed, bit `n` for position `n + 1`; position 0 is fresh. `freshTab0_18_step` checks it against the configuration's own
    step point by point and `Cfg.fresh_tab` makes it `Cfg.fresh` (`fresh0_18_eq`). -/
def freshTab0_18 : ℕ → Bool
  | 0 => true
  | n + 1 => (0x10000800080008000 : ℕ).testBit n
theorem freshTab0_18_step : ∀ t : Fin cfg0.N,
    freshTab0_18 (t.val + 1) = ((cfg0.win 18).flush t || (cfg0.idle 18 (cfg0.grid.coords t) && freshTab0_18 t.val)) := by decide +kernel
theorem fresh0_18_eq (t : Fin cfg0.N) : cfg0.fresh 18 t.val = freshTab0_18 t.val :=
  Pipeline.Cfg.fresh_tab cfg0 18 freshTab0_18 rfl freshTab0_18_step t.val (Nat.le_of_lt t.isLt)
/-- At the points of case A the printed configuration (`Cfg.idle`) calls output 18 live: the case stores into it. -/
theorem liveAt0_18_A : ∀ t : Fin cfg0.N, cond0_0 (grid0.coords t) → cond0_1 (grid0.coords t) → ¬cond0_2 (grid0.coords t) → cfg0.idle 18 (grid0.coords t) = false := by decide +kernel
/-- At the points of case B the printed configuration (`Cfg.idle`) calls output 18 live: the case stores into it. -/
theorem liveAt0_18_B : ∀ t : Fin cfg0.N, cond0_0 (grid0.coords t) → ¬cond0_1 (grid0.coords t) → ¬cond0_2 (grid0.coords t) → cfg0.idle 18 (grid0.coords t) = false := by decide +kernel
/-- At the points of case B, which keeps output 18's prior contents (reads it before covering, or covers it in part), the
    window's buffer is not FRESH: something was stored into it since the region's entry or its last write-back, idle points
    between or not (`Cfg.fresh`, by the table `freshTab0_18`). -/
theorem notFresh0_18_B : ∀ t : Fin cfg0.N, cond0_0 (grid0.coords t) → ¬cond0_1 (grid0.coords t) → ¬cond0_2 (grid0.coords t) → cfg0.fresh 18 t.val = false := by
  intro t; rw [fresh0_18_eq t]; revert t; decide +kernel
/-- At the points of case C the printed configuration (`Cfg.idle`) calls output 18 idle: the case stores nothing into it. -/
theorem idleAt0_18_C : ∀ t : Fin cfg0.N, ¬cond0_0 (grid0.coords t) → cond0_2 (grid0.coords t) → cfg0.idle 18 (grid0.coords t) = true := by decide +kernel
/-- At the points of case C the pipeline writes output 18's block back. -/
theorem flushAt0_18_C : ∀ t : Fin cfg0.N, ¬cond0_0 (grid0.coords t) → cond0_2 (grid0.coords t) → (cfg0.win 18).flush t = true := by decide +kernel
/-- At the points of case C, which keeps output 18's prior contents (reads it before covering, or covers it in part), the
    window's buffer is not FRESH: something was stored into it since the region's entry or its last write-back, idle points
    between or not (`Cfg.fresh`, by the table `freshTab0_18`). -/
theorem notFresh0_18_C : ∀ t : Fin cfg0.N, ¬cond0_0 (grid0.coords t) → cond0_2 (grid0.coords t) → cfg0.fresh 18 t.val = false := by
  intro t; rw [fresh0_18_eq t]; revert t; decide +kernel
/-- Whether output 19's buffer is FRESH at each position `1 ‥ N` — holds nothing the body stored since the region's entry or the
    last write-back (written back at the point before, or idle there and fresh before it) —, as a bitmask the classifier
    computed, bit `n` for position `n + 1`; position 0 is fresh. `freshTab0_19_step` checks it against the configuration's own
    step point by point and `Cfg.fresh_tab` makes it `Cfg.fresh` (`fresh0_19_eq`). -/
def freshTab0_19 : ℕ → Bool
  | 0 => true
  | n + 1 => (0x17fffffffffffffff : ℕ).testBit n
theorem freshTab0_19_step : ∀ t : Fin cfg0.N,
    freshTab0_19 (t.val + 1) = ((cfg0.win 19).flush t || (cfg0.idle 19 (cfg0.grid.coords t) && freshTab0_19 t.val)) := by decide +kernel
theorem fresh0_19_eq (t : Fin cfg0.N) : cfg0.fresh 19 t.val = freshTab0_19 t.val :=
  Pipeline.Cfg.fresh_tab cfg0 19 freshTab0_19 rfl freshTab0_19_step t.val (Nat.le_of_lt t.isLt)
/-- At the points of case A the printed configuration (`Cfg.idle`) calls output 19 live: the case stores into it. -/
theorem liveAt0_19_A : ∀ t : Fin cfg0.N, cond0_0 (grid0.coords t) → cond0_1 (grid0.coords t) → ¬cond0_2 (grid0.coords t) → cfg0.idle 19 (grid0.coords t) = false := by decide +kernel
/-- At the points of case B the printed configuration (`Cfg.idle`) calls output 19 live: the case stores into it. -/
theorem liveAt0_19_B : ∀ t : Fin cfg0.N, cond0_0 (grid0.coords t) → ¬cond0_1 (grid0.coords t) → ¬cond0_2 (grid0.coords t) → cfg0.idle 19 (grid0.coords t) = false := by decide +kernel
/-- At the points of case C the printed configuration (`Cfg.idle`) calls output 19 idle: the case stores nothing into it. -/
theorem idleAt0_19_C : ∀ t : Fin cfg0.N, ¬cond0_0 (grid0.coords t) → cond0_2 (grid0.coords t) → cfg0.idle 19 (grid0.coords t) = true := by decide +kernel
/-- At the points of case C the pipeline writes output 19's block back. -/
theorem flushAt0_19_C : ∀ t : Fin cfg0.N, ¬cond0_0 (grid0.coords t) → cond0_2 (grid0.coords t) → (cfg0.win 19).flush t = true := by decide +kernel
/-- At the points of case C, which keeps output 19's prior contents (reads it before covering, or covers it in part), the
    window's buffer is not FRESH: something was stored into it since the region's entry or its last write-back, idle points
    between or not (`Cfg.fresh`, by the table `freshTab0_19`). -/
theorem notFresh0_19_C : ∀ t : Fin cfg0.N, ¬cond0_0 (grid0.coords t) → cond0_2 (grid0.coords t) → cfg0.fresh 19 t.val = false := by
  intro t; rw [fresh0_19_eq t]; revert t; decide +kernel
/-- Whether output 20's buffer is FRESH at each position `1 ‥ N` — holds nothing the body stored since the region's entry or the
    last write-back (written back at the point before, or idle there and fresh before it) —, as a bitmask the classifier
    computed, bit `n` for position `n + 1`; position 0 is fresh. `freshTab0_20_step` checks it against the configuration's own
    step point by point and `Cfg.fresh_tab` makes it `Cfg.fresh` (`fresh0_20_eq`). -/
def freshTab0_20 : ℕ → Bool
  | 0 => true
  | n + 1 => (0x17fffffffffffffff : ℕ).testBit n
theorem freshTab0_20_step : ∀ t : Fin cfg0.N,
    freshTab0_20 (t.val + 1) = ((cfg0.win 20).flush t || (cfg0.idle 20 (cfg0.grid.coords t) && freshTab0_20 t.val)) := by decide +kernel
theorem fresh0_20_eq (t : Fin cfg0.N) : cfg0.fresh 20 t.val = freshTab0_20 t.val :=
  Pipeline.Cfg.fresh_tab cfg0 20 freshTab0_20 rfl freshTab0_20_step t.val (Nat.le_of_lt t.isLt)
/-- At the points of case A the printed configuration (`Cfg.idle`) calls output 20 live: the case stores into it. -/
theorem liveAt0_20_A : ∀ t : Fin cfg0.N, cond0_0 (grid0.coords t) → cond0_1 (grid0.coords t) → ¬cond0_2 (grid0.coords t) → cfg0.idle 20 (grid0.coords t) = false := by decide +kernel
/-- At the points of case B the printed configuration (`Cfg.idle`) calls output 20 live: the case stores into it. -/
theorem liveAt0_20_B : ∀ t : Fin cfg0.N, cond0_0 (grid0.coords t) → ¬cond0_1 (grid0.coords t) → ¬cond0_2 (grid0.coords t) → cfg0.idle 20 (grid0.coords t) = false := by decide +kernel
/-- At the points of case C the printed configuration (`Cfg.idle`) calls output 20 idle: the case stores nothing into it. -/
theorem idleAt0_20_C : ∀ t : Fin cfg0.N, ¬cond0_0 (grid0.coords t) → cond0_2 (grid0.coords t) → cfg0.idle 20 (grid0.coords t) = true := by decide +kernel
/-- At the points of case C the pipeline writes output 20's block back. -/
theorem flushAt0_20_C : ∀ t : Fin cfg0.N, ¬cond0_0 (grid0.coords t) → cond0_2 (grid0.coords t) → (cfg0.win 20).flush t = true := by decide +kernel
/-- At the points of case C, which keeps output 20's prior contents (reads it before covering, or covers it in part), the
    window's buffer is not FRESH: something was stored into it since the region's entry or its last write-back, idle points
    between or not (`Cfg.fresh`, by the table `freshTab0_20`). -/
theorem notFresh0_20_C : ∀ t : Fin cfg0.N, ¬cond0_0 (grid0.coords t) → cond0_2 (grid0.coords t) → cfg0.fresh 20 t.val = false := by
  intro t; rw [fresh0_20_eq t]; revert t; decide +kernel
/-- Whether output 21's buffer is FRESH at each position `1 ‥ N` — holds nothing the body stored since the region's entry or the
    last write-back (written back at the point before, or idle there and fresh before it) —, as a bitmask the classifier
    computed, bit `n` for position `n + 1`; position 0 is fresh. `freshTab0_21_step` checks it against the configuration's own
    step point by point and `Cfg.fresh_tab` makes it `Cfg.fresh` (`fresh0_21_eq`). -/
def freshTab0_21 : ℕ → Bool
  | 0 => true
  | n + 1 => (0x17fffffffffffffff : ℕ).testBit n
theorem freshTab0_21_step : ∀ t : Fin cfg0.N,
    freshTab0_21 (t.val + 1) = ((cfg0.win 21).flush t || (cfg0.idle 21 (cfg0.grid.coords t) && freshTab0_21 t.val)) := by decide +kernel
theorem fresh0_21_eq (t : Fin cfg0.N) : cfg0.fresh 21 t.val = freshTab0_21 t.val :=
  Pipeline.Cfg.fresh_tab cfg0 21 freshTab0_21 rfl freshTab0_21_step t.val (Nat.le_of_lt t.isLt)
/-- At the points of case A the printed configuration (`Cfg.idle`) calls output 21 live: the case stores into it. -/
theorem liveAt0_21_A : ∀ t : Fin cfg0.N, cond0_0 (grid0.coords t) → cond0_1 (grid0.coords t) → ¬cond0_2 (grid0.coords t) → cfg0.idle 21 (grid0.coords t) = false := by decide +kernel
/-- At the points of case B the printed configuration (`Cfg.idle`) calls output 21 live: the case stores into it. -/
theorem liveAt0_21_B : ∀ t : Fin cfg0.N, cond0_0 (grid0.coords t) → ¬cond0_1 (grid0.coords t) → ¬cond0_2 (grid0.coords t) → cfg0.idle 21 (grid0.coords t) = false := by decide +kernel
/-- At the points of case C the printed configuration (`Cfg.idle`) calls output 21 idle: the case stores nothing into it. -/
theorem idleAt0_21_C : ∀ t : Fin cfg0.N, ¬cond0_0 (grid0.coords t) → cond0_2 (grid0.coords t) → cfg0.idle 21 (grid0.coords t) = true := by decide +kernel
/-- At the points of case C the pipeline writes output 21's block back. -/
theorem flushAt0_21_C : ∀ t : Fin cfg0.N, ¬cond0_0 (grid0.coords t) → cond0_2 (grid0.coords t) → (cfg0.win 21).flush t = true := by decide +kernel
/-- At the points of case C, which keeps output 21's prior contents (reads it before covering, or covers it in part), the
    window's buffer is not FRESH: something was stored into it since the region's entry or its last write-back, idle points
    between or not (`Cfg.fresh`, by the table `freshTab0_21`). -/
theorem notFresh0_21_C : ∀ t : Fin cfg0.N, ¬cond0_0 (grid0.coords t) → cond0_2 (grid0.coords t) → cfg0.fresh 21 t.val = false := by
  intro t; rw [fresh0_21_eq t]; revert t; decide +kernel

/-! ## The kernel body on any staging memrefs: a subtype the run finds -/

/-- One staging buffer of output window 15, through which its contents are stated (`View.read_writes_of_cover`: the
    choice does not matter). -/
abbrev VO0_15 : View sig .tc .vmem S512x1024 .f32 := (Memref.whole cc0_stg15_0 : Memref sig .tc .vmem S512x1024 .f32).view
/-- One staging buffer of output window 16, through which its contents are stated (`View.read_writes_of_cover`: the
    choice does not matter). -/
abbrev VO0_16 : View sig .tc .vmem S512x1024 .bf16 := (Memref.whole cc0_stg16_0 : Memref sig .tc .vmem S512x1024 .bf16).view
/-- One staging buffer of output window 17, through which its contents are stated (`View.read_writes_of_cover`: the
    choice does not matter). -/
abbrev VO0_17 : View sig .tc .vmem S512x128 .f32 := (Memref.whole cc0_stg17_0 : Memref sig .tc .vmem S512x128 .f32).view
/-- One staging buffer of output window 18, through which its contents are stated (`View.read_writes_of_cover`: the
    choice does not matter). -/
abbrev VO0_18 : View sig .tc .vmem S1x4x256x512 .f32 := (Memref.whole cc0_stg18_0 : Memref sig .tc .vmem S1x4x256x512 .f32).view
/-- One staging buffer of output window 19, through which its contents are stated (`View.read_writes_of_cover`: the
    choice does not matter). -/
abbrev VO0_19 : View sig .tc .vmem S512x512 .bf16 := (Memref.whole cc0_stg19_0 : Memref sig .tc .vmem S512x512 .bf16).view
/-- One staging buffer of output window 20, through which its contents are stated (`View.read_writes_of_cover`: the
    choice does not matter). -/
abbrev VO0_20 : View sig .tc .vmem S512x512 .bf16 := (Memref.whole cc0_stg20_0 : Memref sig .tc .vmem S512x512 .bf16).view
/-- One staging buffer of output window 21, through which its contents are stated (`View.read_writes_of_cover`: the
    choice does not matter). -/
abbrev VO0_21 : View sig .tc .vmem S256x1024 .bf16 := (Memref.whole cc0_stg21_0 : Memref sig .tc .vmem S256x1024 .bf16).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x6144 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x4x256x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S512x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x512 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x1024 .bf16 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S512x2048 .bf16 := Memref.whole cc0_scratch0

/-- The frame kit's invariant with the scratch operands as memrefs owned at some contents (`scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.FrameFill.lean ====
/- The run of the body at the last grid point, which fills the rows past the prompt with zeros. -/
module

public import proofs.«01_k».proof.Proof.FramePoints

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE C (`scf.if` 0 not taken, `scf.if` 2 taken: points 64), WITH the
    proof that on whole staging memrefs — the inputs' at their contents, the outputs it reads before covering (18, 19, 20, 21) at their running contents `xo·`, the other outputs' at
    anything, the scratch buffers at anything, the body runs to the continuation holding the inputs' as they were,
    the scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) :
    Σ' (L15 : List (View.Piece (Elt F) S512x1024 .f32)), Σ' (L16 : List (View.Piece (Elt F) S512x1024 .bf16)), Σ' (L17 : List (View.Piece (Elt F) S512x128 .f32)), Σ' (L18 : List (View.Piece (Elt F) S1x4x256x512 .f32)), Σ' (L19 : List (View.Piece (Elt F) S512x512 .bf16)), Σ' (L20 : List (View.Piece (Elt F) S512x512 .bf16)), Σ' (L21 : List (View.Piece (Elt F) S256x1024 .bf16)), { LT0 : List (View.Piece (Elt F) S512x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo18 ∗ owns (c : Thread nD τ) arg20 fullShare xo19 ∗ owns (c : Thread nD τ) arg21 fullShare xo20 ∗ owns (c : Thread nD τ) arg22 fullShare xo21 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ owns (c : Thread nD τ) arg19 fullShare xo18 ∗ owns (c : Thread nD τ) arg20 fullShare xo19 ∗ owns (c : Thread nD τ) arg21 fullShare xo20 ∗ owns (c : Thread nD τ) arg22 fullShare xo21 ∗ (∃ d, owns (c : Thread nD τ) arg23 fullShare d)) -∗ K ⟨⟩))
          ⊢ wp frame (wpE (defs₀ (F := F)) Variants.none c none) E (cc0_ret_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, [], [], [], [], [], fun E K => ?run⟩
  case run =>
    simp only [cc0_ret_mixer_eq_skeleton]; unfold cc0_ret_mixer_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg19.eq_unread hf18; obtain rfl := harg20.eq_unread hf19; obtain rfl := harg21.eq_unread hf20; obtain rfl := harg22.eq_unread hf21
    sl_exec (disch := first | sl_exact hc0 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    iexists _, _; isplitr; swap; · iexact HS0
    ipureintro; rfl

end Cert.KernelIdeal.Hand

end
-- ==== Proof.FrameLater.lean ====
/- The run of the body at a later block of a sequence. -/
module

public import proofs.«01_k».proof.Proof.FramePoints

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 taken, `scf.if` 1 not taken, `scf.if` 2 not taken: points 1, 2, … 63: 60 of 65), WITH the
    proof that on whole staging memrefs — the inputs' at their contents, the outputs it reads before covering (18) at their running contents `xo·`, the other outputs' at
    anything, the scratch buffers at anything, the body runs to the continuation holding the inputs' as they were,
    a scratch it stored into and does not carry with its pieces (`LT·`) written over some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) :
    Σ' (L15 : List (View.Piece (Elt F) S512x1024 .f32)), Σ' (L16 : List (View.Piece (Elt F) S512x1024 .bf16)), Σ' (L17 : List (View.Piece (Elt F) S512x128 .f32)), Σ' (L18 : List (View.Piece (Elt F) S1x4x256x512 .f32)), Σ' (L19 : List (View.Piece (Elt F) S512x512 .bf16)), Σ' (L20 : List (View.Piece (Elt F) S512x512 .bf16)), Σ' (L21 : List (View.Piece (Elt F) S256x1024 .bf16)), { LT0 : List (View.Piece (Elt F) S512x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0)) -∗ K ⟨⟩))
          ⊢ wp frame (wpE (defs₀ (F := F)) Variants.none c none) E (cc0_ret_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, fun E K => ?run⟩
  case run =>
    simp only [cc0_ret_mixer_eq_skeleton]; unfold cc0_ret_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%d19, %f19, -, H19⟩, ⟨%d20, %f20, -, H20⟩, ⟨%d21, %f21, -, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg19.eq_unread hf18
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact HS0

end Cert.KernelIdeal.Hand

end
-- ==== Proof.FrameFirst.lean ====
/- The run of the body at the first block of a sequence. -/
module

public import proofs.«01_k».proof.Proof.FramePoints

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken, `scf.if` 1 taken, `scf.if` 2 not taken: points 0, 16, 32, 48), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) :
    Σ' (L15 : List (View.Piece (Elt F) S512x1024 .f32)), Σ' (L16 : List (View.Piece (Elt F) S512x1024 .bf16)), Σ' (L17 : List (View.Piece (Elt F) S512x128 .f32)), Σ' (L18 : List (View.Piece (Elt F) S1x4x256x512 .f32)), Σ' (L19 : List (View.Piece (Elt F) S512x512 .bf16)), Σ' (L20 : List (View.Piece (Elt F) S512x512 .bf16)), Σ' (L21 : List (View.Piece (Elt F) S256x1024 .bf16)), { LT0 : List (View.Piece (Elt F) S512x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0)) -∗ K ⟨⟩))
          ⊢ wp frame (wpE (defs₀ (F := F)) Variants.none c none) E (cc0_ret_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, fun E K => ?run⟩
  case run =>
    simp only [cc0_ret_mixer_eq_skeleton]; unfold cc0_ret_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact HS0

end Cert.KernelIdeal.Hand

end
-- ==== Proof.FrameOuts.lean ====
/- What each of the three branches of the body leaves in each output. -/
module

public import proofs.«01_k».proof.Proof.FrameFill
public import proofs.«01_k».proof.Proof.FrameLater
public import proofs.«01_k».proof.Proof.FrameFirst

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 15 tile its block (2 stores of `S256x1024`, by computation), so they cover it. -/
theorem cover0_A_15 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).1 S256x1024.size (by sl_kernel_rfl) y

/-- What case A leaves in output 15's staging buffer: its pieces read back over junk. -/
def out0_A_15 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) : Vec F S512x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).1)

/-- Case A's pieces for output 16 tile its block (2 stores of `S256x1024`, by computation), so they cover it. -/
theorem cover0_A_16 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.1 S256x1024.size (by sl_kernel_rfl) y

/-- What case A leaves in output 16's staging buffer: its pieces read back over junk. -/
def out0_A_16 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) : Vec F S512x1024 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.1)

/-- Case A's pieces for output 17 tile its block (2 stores of `S256x128`, by computation), so they cover it. -/
theorem cover0_A_17 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.1 S256x128.size (by sl_kernel_rfl) y

/-- What case A leaves in output 17's staging buffer: its pieces read back over junk. -/
def out0_A_17 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) : Vec F S512x128 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.1)

/-- Case A's pieces for output 18 are of SEVERAL sizes (9 stores of `S1x1x256x512`, `S1x4x256x512`): cut into blocks of `![1, 1, 256, 512]` they tile its block (by computation), so they cover it. -/
theorem cover0_A_18 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (y : S1x4x256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.1 ![1, 1, 256, 512] (by sl_kernel_rfl) y

/-- What case A leaves in output 18's staging buffer: its pieces read back over junk. -/
def out0_A_18 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) : Vec F S1x4x256x512 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.1)

/-- Case A's pieces for output 19 tile its block (1 store of `S512x512`, by computation), so they cover it. -/
theorem cover0_A_19 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.1 S512x512.size (by sl_kernel_rfl) y

/-- What case A leaves in output 19's staging buffer: its pieces read back over junk. -/
def out0_A_19 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) : Vec F S512x512 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.1)

/-- Case A's pieces for output 20 tile its block (1 store of `S512x512`, by computation), so they cover it. -/
theorem cover0_A_20 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.2.1 S512x512.size (by sl_kernel_rfl) y

/-- What case A leaves in output 20's staging buffer: its pieces read back over junk. -/
def out0_A_20 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) : Vec F S512x512 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.2.1)

/-- Case A's pieces for output 21 tile its block (1 store of `S256x1024`, by computation), so they cover it. -/
theorem cover0_A_21 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.2.2.1 S256x1024.size (by sl_kernel_rfl) y

/-- What case A leaves in output 21's staging buffer: its pieces read back over junk. -/
def out0_A_21 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) : Vec F S256x1024 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14).2.2.2.2.2.2.1)

/-- Case B's pieces for output 15 tile its block (2 stores of `S256x1024`, by computation), so they cover it. -/
theorem cover0_B_15 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).1 S256x1024.size (by sl_kernel_rfl) y

/-- What case B leaves in output 15's staging buffer: its pieces read back over junk. -/
def out0_B_15 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) : Vec F S512x1024 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).1)

/-- Case B's pieces for output 16 tile its block (2 stores of `S256x1024`, by computation), so they cover it. -/
theorem cover0_B_16 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.1 S256x1024.size (by sl_kernel_rfl) y

/-- What case B leaves in output 16's staging buffer: its pieces read back over junk. -/
def out0_B_16 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) : Vec F S512x1024 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.1)

/-- Case B's pieces for output 17 tile its block (2 stores of `S256x128`, by computation), so they cover it. -/
theorem cover0_B_17 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.1 S256x128.size (by sl_kernel_rfl) y

/-- What case B leaves in output 17's staging buffer: its pieces read back over junk. -/
def out0_B_17 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) : Vec F S512x128 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.1)

/-- Case B's pieces for output 18 tile its block (8 stores of `S1x1x256x512`, by computation), so they cover it. -/
theorem cover0_B_18 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (y : S1x4x256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.1 S1x1x256x512.size (by sl_kernel_rfl) y

/-- What case B leaves in output 18's staging buffer: its pieces read back over junk. -/
def out0_B_18 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) : Vec F S1x4x256x512 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.1)

/-- Case B's pieces for output 19 tile its block (1 store of `S512x512`, by computation), so they cover it. -/
theorem cover0_B_19 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.1 S512x512.size (by sl_kernel_rfl) y

/-- What case B leaves in output 19's staging buffer: its pieces read back over junk. -/
def out0_B_19 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) : Vec F S512x512 .bf16 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.1)

/-- Case B's pieces for output 20 tile its block (1 store of `S512x512`, by computation), so they cover it. -/
theorem cover0_B_20 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.2.1 S512x512.size (by sl_kernel_rfl) y

/-- What case B leaves in output 20's staging buffer: its pieces read back over junk. -/
def out0_B_20 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) : Vec F S512x512 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.2.1)

/-- Case B's pieces for output 21 tile its block (1 store of `S256x1024`, by computation), so they cover it. -/
theorem cover0_B_21 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.2.2.1 S256x1024.size (by sl_kernel_rfl) y

/-- What case B leaves in output 21's staging buffer: its pieces read back over junk. -/
def out0_B_21 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : cond0_0 i) (hc1 : ¬cond0_1 i) (hc2 : ¬cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) : Vec F S256x1024 .bf16 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 xo18).2.2.2.2.2.2.1)

/-- Case C's pieces for output 15 tile its block (1 store of `S512x1024`, by computation), so they cover it. -/
theorem cover0_C_15 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).1 S512x1024.size (by sl_kernel_rfl) y

/-- What case C leaves in output 15's staging buffer: its pieces read back over junk. -/
def out0_C_15 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) : Vec F S512x1024 .f32 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).1)

/-- Case C's pieces for output 16 tile its block (1 store of `S512x1024`, by computation), so they cover it. -/
theorem cover0_C_16 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).2.1 S512x1024.size (by sl_kernel_rfl) y

/-- What case C leaves in output 16's staging buffer: its pieces read back over junk. -/
def out0_C_16 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) : Vec F S512x1024 .bf16 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).2.1)

/-- Case C's pieces for output 17 tile its block (1 store of `S512x128`, by computation), so they cover it. -/
theorem cover0_C_17 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).2.2.1 S512x128.size (by sl_kernel_rfl) y

/-- What case C leaves in output 17's staging buffer: its pieces read back over junk. -/
def out0_C_17 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) : Vec F S512x128 .f32 :=
  VO0_17.read (Elt F) (VO0_17.writes (Elt F) VO0_17.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc2 x0 x1 x2 x3 x4 x5 x6 x7 x8 x9 x10 x11 x12 x13 x14 xo18 xo19 xo20 xo21).2.2.1)

/-- Case C stores nothing into output 18, a live window: its staging buffer holds what the point before left. -/
def out0_C_18 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) : Vec F S1x4x256x512 .f32 := xo18

/-- Case C stores nothing into output 19, a live window: its staging buffer holds what the point before left. -/
def out0_C_19 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) : Vec F S512x512 .bf16 := xo19

/-- Case C stores nothing into output 20, a live window: its staging buffer holds what the point before left. -/
def out0_C_20 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) : Vec F S512x512 .bf16 := xo20

/-- Case C stores nothing into output 21, a live window: its staging buffer holds what the point before left. -/
def out0_C_21 (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S4x256x256 .f32) (harg4 : arg4.IsWhole) (arg5 : Memref sig .tc .vmem S1024x6144 .bf16) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x256x1024 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x128 .f32) (harg18 : arg18.IsWhole) (arg19 : Memref sig .tc .vmem S1x4x256x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S256x1024 .bf16) (harg22 : arg22.IsWhole) (arg23 : Memref sig .tc .vmem S512x2048 .bf16) (harg23 : arg23.IsWhole) (hc0 : ¬cond0_0 i) (hc2 : cond0_2 i)
    (x0 : Vec F S512x1024 .f32) (x1 : Vec F S512x128 .f32) (x2 : Vec F S512x128 .f32) (x3 : Vec F S4x256x256 .f32) (x4 : Vec F S1024x6144 .bf16) (x5 : Vec F S2048x1024 .bf16) (x6 : Vec F S1x2048 .f32) (x7 : Vec F S1x1024 .f32) (x8 : Vec F S1x1024 .f32) (x9 : Vec F S1024x256 .bf16) (x10 : Vec F S1024x128 .bf16) (x11 : Vec F S1x128 .f32) (x12 : Vec F S1x512x512 .f32) (x13 : Vec F S1x512x512 .f32) (x14 : Vec F S1x256x1024 .f32) (xo18 : Vec F S1x4x256x512 .f32) (xo19 : Vec F S512x512 .bf16) (xo20 : Vec F S512x512 .bf16) (xo21 : Vec F S256x1024 .bf16) : Vec F S256x1024 .bf16 := xo21

end Cert.KernelIdeal.Hand

end
-- ==== Proof.FrameHeld.lean ====
/- What the outputs hold after each grid point, and what each point finds in them. -/
module

public import proofs.«01_k».proof.Proof.FrameOuts

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x1024 .f32 × Vec F S512x1024 .bf16 × Vec F S512x128 .f32 × Vec F S1x4x256x512 .f32 × Vec F S512x512 .bf16 × Vec F S512x512 .bf16 × Vec F S256x1024 .bf16
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) < 64 then
      if h1 : (n + 1) % 16 = 0 then
        if h2 : (n + 1) % 65 = 64 then
          False.elim (by have hN : n + 1 < 65 := lt_of_lt_of_eq hn (show cfg0.N = 65 from N_0); omega)
        else
          (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
      else
        if h2 : (n + 1) % 65 = 64 then
          False.elim (by have hN : n + 1 < 65 := lt_of_lt_of_eq hn (show cfg0.N = 65 from N_0); omega)
        else
          (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1)
    else
      if h2 : (n + 1) % 65 = 64 then
        (out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
      else
        False.elim (by have hN : n + 1 < 65 := lt_of_lt_of_eq hn (show cfg0.N = 65 from N_0); omega)

/-- `outsAt0` at a point of case A: that case's contents. -/
theorem outsAt0_A (c : Dev nD) (t : Fin cfg0.N) (h0 : t.val < 64) (h1 : t.val % 16 = 0) (h2 : ¬t.val % 65 = 64) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : t.val < 64) (h1 : ¬t.val % 16 = 0) (h2 : ¬t.val % 65 = 64) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- `outsAt0` at a point of case C: that case's contents, over what the point before left. -/
theorem outsAt0_C (c : Dev nD) (t : Fin cfg0.N) (h0 : ¬t.val < 64) (h2 : t.val % 65 = 64) :
    outsAt0 m c t.val t.isLt = (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact by omega)
  | succ n => exact (dif_neg h0).trans ((dif_pos h2).trans rfl)

/-! ## The pipeline's proof data -/

/-- The proof data of the one pipeline on core `c`: the arrays as the region finds them (`V`); after the body at
    point `t` each input's buffer at its block and the outputs' at `outsAt0`; the invariant the class's
    (`ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- Output 18's contents CARRY through the points that leave it idle: at such a point, its buffer not fresh, the proof data's
    `after` is the point before's (the case there stores nothing into the window and its term says so; a case that stores
    into it is not idle there by `liveAt0_18_κ`) — the hypothesis of `Dat.before_out_traj`. -/
theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t _ hi _
  have hN : t.val < 65 := lt_of_lt_of_eq t.isLt (show cfg0.N = 65 from N_0)
  rw [after0_18, after0_18]
  by_cases h0 : t.val < 64
  · by_cases h1 : t.val % 16 = 0
    · by_cases h2 : t.val % 65 = 64
      · exfalso; omega
      · rw [liveAt0_18_A t ((hcond0_0 t).mpr h0) ((hcond0_1 t).mpr h1) (fun h => h2 ((hcond0_2 t).mp h))] at hi
        exact absurd hi Bool.false_ne_true
    · by_cases h2 : t.val % 65 = 64
      · exfalso; omega
      · rw [liveAt0_18_B t ((hcond0_0 t).mpr h0) (fun h => h1 ((hcond0_1 t).mp h)) (fun h => h2 ((hcond0_2 t).mp h))] at hi
        exact absurd hi Bool.false_ne_true
  · by_cases h2 : t.val % 65 = 64
    · rw [outsAt0_C m c t h0 h2]
      dsimp only
      unfold out0_C_18
      rfl
    · exfalso; omega

/-- Output 19's contents CARRY through the points that leave it idle: at such a point, its buffer not fresh, the proof data's
    `after` is the point before's (the case there stores nothing into the window and its term says so; a case that stores
    into it is not idle there by `liveAt0_19_κ`) — the hypothesis of `Dat.before_out_traj`. -/
theorem hcarry0_19 (c : Dev nD) : ∀ (t : Fin cfg0.N) (_ : t.val ≠ 0), cfg0.idle 19 (grid0.coords t) = true → cfg0.fresh 19 t.val = false →
    (dats m 0 c).after 19 t = (dats m 0 c).after 19 ⟨t.val - 1, by omega⟩ := by
  intro t _ hi _
  have hN : t.val < 65 := lt_of_lt_of_eq t.isLt (show cfg0.N = 65 from N_0)
  rw [after0_19, after0_19]
  by_cases h0 : t.val < 64
  · by_cases h1 : t.val % 16 = 0
    · by_cases h2 : t.val % 65 = 64
      · exfalso; omega
      · rw [liveAt0_19_A t ((hcond0_0 t).mpr h0) ((hcond0_1 t).mpr h1) (fun h => h2 ((hcond0_2 t).mp h))] at hi
        exact absurd hi Bool.false_ne_true
    · by_cases h2 : t.val % 65 = 64
      · exfalso; omega
      · rw [liveAt0_19_B t ((hcond0_0 t).mpr h0) (fun h => h1 ((hcond0_1 t).mp h)) (fun h => h2 ((hcond0_2 t).mp h))] at hi
        exact absurd hi Bool.false_ne_true
  · by_cases h2 : t.val % 65 = 64
    · rw [outsAt0_C m c t h0 h2]
      dsimp only
      unfold out0_C_19
      rfl
    · exfalso; omega

/-- Output 20's contents CARRY through the points that leave it idle: at such a point, its buffer not fresh, the proof data's
    `after` is the point before's (the case there stores nothing into the window and its term says so; a case that stores
    into it is not idle there by `liveAt0_20_κ`) — the hypothesis of `Dat.before_out_traj`. -/
theorem hcarry0_20 (c : Dev nD) : ∀ (t : Fin cfg0.N) (_ : t.val ≠ 0), cfg0.idle 20 (grid0.coords t) = true → cfg0.fresh 20 t.val = false →
    (dats m 0 c).after 20 t = (dats m 0 c).after 20 ⟨t.val - 1, by omega⟩ := by
  intro t _ hi _
  have hN : t.val < 65 := lt_of_lt_of_eq t.isLt (show cfg0.N = 65 from N_0)
  rw [after0_20, after0_20]
  by_cases h0 : t.val < 64
  · by_cases h1 : t.val % 16 = 0
    · by_cases h2 : t.val % 65 = 64
      · exfalso; omega
      · rw [liveAt0_20_A t ((hcond0_0 t).mpr h0) ((hcond0_1 t).mpr h1) (fun h => h2 ((hcond0_2 t).mp h))] at hi
        exact absurd hi Bool.false_ne_true
    · by_cases h2 : t.val % 65 = 64
      · exfalso; omega
      · rw [liveAt0_20_B t ((hcond0_0 t).mpr h0) (fun h => h1 ((hcond0_1 t).mp h)) (fun h => h2 ((hcond0_2 t).mp h))] at hi
        exact absurd hi Bool.false_ne_true
  · by_cases h2 : t.val % 65 = 64
    · rw [outsAt0_C m c t h0 h2]
      dsimp only
      unfold out0_C_20
      rfl
    · exfalso; omega

/-- Output 21's contents CARRY through the points that leave it idle: at such a point, its buffer not fresh, the proof data's
    `after` is the point before's (the case there stores nothing into the window and its term says so; a case that stores
    into it is not idle there by `liveAt0_21_κ`) — the hypothesis of `Dat.before_out_traj`. -/
theorem hcarry0_21 (c : Dev nD) : ∀ (t : Fin cfg0.N) (_ : t.val ≠ 0), cfg0.idle 21 (grid0.coords t) = true → cfg0.fresh 21 t.val = false →
    (dats m 0 c).after 21 t = (dats m 0 c).after 21 ⟨t.val - 1, by omega⟩ := by
  intro t _ hi _
  have hN : t.val < 65 := lt_of_lt_of_eq t.isLt (show cfg0.N = 65 from N_0)
  rw [after0_21, after0_21]
  by_cases h0 : t.val < 64
  · by_cases h1 : t.val % 16 = 0
    · by_cases h2 : t.val % 65 = 64
      · exfalso; omega
      · rw [liveAt0_21_A t ((hcond0_0 t).mpr h0) ((hcond0_1 t).mpr h1) (fun h => h2 ((hcond0_2 t).mp h))] at hi
        exact absurd hi Bool.false_ne_true
    · by_cases h2 : t.val % 65 = 64
      · exfalso; omega
      · rw [liveAt0_21_B t ((hcond0_0 t).mpr h0) (fun h => h1 ((hcond0_1 t).mp h)) (fun h => h2 ((hcond0_2 t).mp h))] at hi
        exact absurd hi Bool.false_ne_true
  · by_cases h2 : t.val % 65 = 64
    · rw [outsAt0_C m c t h0 h2]
      dsimp only
      unfold out0_C_21
      rfl
    · exfalso; omega
/-- At a point of case B output 18's current staging buffer holds what the point before left: the buffer is not fresh
    there (`notFresh0_18_B`: stored into since the region's entry or the last write-back, carried through the points that
    leave it idle by `hcarry0_18`; `Dat.before_out_traj`). -/
theorem before0_18_B (c : Dev nD) (t : Fin cfg0.N) (h0 : t.val < 64) (h1 : ¬t.val % 16 = 0) (h2 : ¬t.val % 65 = 64) (d) :
    (dats m 0 c).before 18 t d = (outsAt0 m c (t.val - 1) (Nat.lt_of_le_of_lt (Nat.sub_le _ _) t.isLt)).2.2.2.1 := by
  rw [Dat.before_out_traj _ 18 rfl (fun _ _ => rfl) (hcarry0_18 m c) t.val t rfl d,
    if_neg (by rw [notFresh0_18_B t ((hcond0_0 t).mpr h0) (fun h => h1 ((hcond0_1 t).mp h)) (fun h => h2 ((hcond0_2 t).mp h))]; exact Bool.false_ne_true)]
  dsimp only [dats]
/-- At a point of case C output 18's current staging buffer holds what the point before left: the buffer is not fresh
    there (`notFresh0_18_C`: stored into since the region's entry or the last write-back, carried through the points that
    leave it idle by `hcarry0_18`; `Dat.before_out_traj`). -/
theorem before0_18_C (c : Dev nD) (t : Fin cfg0.N) (h0 : ¬t.val < 64) (h2 : t.val % 65 = 64) (d) :
    (dats m 0 c).before 18 t d = (outsAt0 m c (t.val - 1) (Nat.lt_of_le_of_lt (Nat.sub_le _ _) t.isLt)).2.2.2.1 := by
  rw [Dat.before_out_traj _ 18 rfl (fun _ _ => rfl) (hcarry0_18 m c) t.val t rfl d,
    if_neg (by rw [notFresh0_18_C t (fun h => h0 ((hcond0_0 t).mp h)) ((hcond0_2 t).mpr h2)]; exact Bool.false_ne_true)]
  dsimp only [dats]
/-- At a point of case C output 19's current staging buffer holds what the point before left: the buffer is not fresh
    there (`notFresh0_19_C`: stored into since the region's entry or the last write-back, carried through the points that
    leave it idle by `hcarry0_19`; `Dat.before_out_traj`). -/
theorem before0_19_C (c : Dev nD) (t : Fin cfg0.N) (h0 : ¬t.val < 64) (h2 : t.val % 65 = 64) (d) :
    (dats m 0 c).before 19 t d = (outsAt0 m c (t.val - 1) (Nat.lt_of_le_of_lt (Nat.sub_le _ _) t.isLt)).2.2.2.2.1 := by
  rw [Dat.before_out_traj _ 19 rfl (fun _ _ => rfl) (hcarry0_19 m c) t.val t rfl d,
    if_neg (by rw [notFresh0_19_C t (fun h => h0 ((hcond0_0 t).mp h)) ((hcond0_2 t).mpr h2)]; exact Bool.false_ne_true)]
  dsimp only [dats]
/-- At a point of case C output 20's current staging buffer holds what the point before left: the buffer is not fresh
    there (`notFresh0_20_C`: stored into since the region's entry or the last write-back, carried through the points that
    leave it idle by `hcarry0_20`; `Dat.before_out_traj`). -/
theorem before0_20_C (c : Dev nD) (t : Fin cfg0.N) (h0 : ¬t.val < 64) (h2 : t.val % 65 = 64) (d) :
    (dats m 0 c).before 20 t d = (outsAt0 m c (t.val - 1) (Nat.lt_of_le_of_lt (Nat.sub_le _ _) t.isLt)).2.2.2.2.2.1 := by
  rw [Dat.before_out_traj _ 20 rfl (fun _ _ => rfl) (hcarry0_20 m c) t.val t rfl d,
    if_neg (by rw [notFresh0_20_C t (fun h => h0 ((hcond0_0 t).mp h)) ((hcond0_2 t).mpr h2)]; exact Bool.false_ne_true)]
  dsimp only [dats]
/-- At a point of case C output 21's current staging buffer holds what the point before left: the buffer is not fresh
    there (`notFresh0_21_C`: stored into since the region's entry or the last write-back, carried through the points that
    leave it idle by `hcarry0_21`; `Dat.before_out_traj`). -/
theorem before0_21_C (c : Dev nD) (t : Fin cfg0.N) (h0 : ¬t.val < 64) (h2 : t.val % 65 = 64) (d) :
    (dats m 0 c).before 21 t d = (outsAt0 m c (t.val - 1) (Nat.lt_of_le_of_lt (Nat.sub_le _ _) t.isLt)).2.2.2.2.2.2 := by
  rw [Dat.before_out_traj _ 21 rfl (fun _ _ => rfl) (hcarry0_21 m c) t.val t rfl d,
    if_neg (by rw [notFresh0_21_C t (fun h => h0 ((hcond0_0 t).mp h)) ((hcond0_2 t).mpr h2)]; exact Bool.false_ne_true)]
  dsimp only [dats]

end Cert.KernelIdeal.Hand

end
-- ==== Proof.FrameBody.lean ====
/- The body at any grid point, the run of the whole program, and the frame. -/
module

public import proofs.«01_k».proof.Proof.FrameHeld
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 6000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 65 := lt_of_lt_of_eq t.isLt (show cfg0.N = 65 from N_0)
  by_cases h0 : t.val < 64
  · by_cases h1 : t.val % 16 = 0
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_A t ((hcond0_0 t).mpr h0) ((hcond0_1 t).mpr h1) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_A t ((hcond0_0 t).mpr h0) ((hcond0_1 t).mpr h1) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_A t ((hcond0_0 t).mpr h0) ((hcond0_1 t).mpr h1) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_A t ((hcond0_0 t).mpr h0) ((hcond0_1 t).mpr h1) (fun h => h2 ((hcond0_2 t).mp h))], after0_19]
        rw [show (dats m 0 c).leavesExact 20 t = owns (c : Thread nD τ) (ms0_20 t) fullShare ((dats m 0 c).after 20 t) from by
      unfold Dat.leavesExact; rw [liveAt0_20_A t ((hcond0_0 t).mpr h0) ((hcond0_1 t).mpr h1) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_A t ((hcond0_0 t).mpr h0) ((hcond0_1 t).mpr h1) (fun h => h2 ((hcond0_2 t).mp h))], after0_21]
        rw [outsAt0_A m c t h0 h1 h2]
        unfold out0_A_15 out0_A_16 out0_A_17 out0_A_18 out0_A_19 out0_A_20 out0_A_21; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [HS0]; · iexact HS0
        iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%fT0, HS0⟩⟩
        isplitl [HS0 Hg]
        · isplitl [HS0]
          · iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15_B t ((hcond0_0 t).mpr h0) (fun h => h1 ((hcond0_1 t).mp h)) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_B t ((hcond0_0 t).mpr h0) (fun h => h1 ((hcond0_1 t).mp h)) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_B t ((hcond0_0 t).mpr h0) (fun h => h1 ((hcond0_1 t).mp h)) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_B t ((hcond0_0 t).mpr h0) (fun h => h1 ((hcond0_1 t).mp h)) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_B t ((hcond0_0 t).mpr h0) (fun h => h1 ((hcond0_1 t).mp h)) (fun h => h2 ((hcond0_2 t).mp h))], after0_19]
        rw [show (dats m 0 c).leavesExact 20 t = owns (c : Thread nD τ) (ms0_20 t) fullShare ((dats m 0 c).after 20 t) from by
      unfold Dat.leavesExact; rw [liveAt0_20_B t ((hcond0_0 t).mpr h0) (fun h => h1 ((hcond0_1 t).mp h)) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_B t ((hcond0_0 t).mpr h0) (fun h => h1 ((hcond0_1 t).mp h)) (fun h => h2 ((hcond0_2 t).mp h))], after0_21]
        rw [outsAt0_B m c t h0 h1 h2]
        simp only [before0_18_B m c t h0 h1 h2]
        unfold out0_B_15 out0_B_16 out0_B_17 out0_B_18 out0_B_19 out0_B_20 out0_B_21; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_B c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexact H18
        isplitl [H19]; · iexists _; iexact H19
        isplitl [H20]; · iexists _; iexact H20
        isplitl [H21]; · iexists _; iexact H21
        isplitl [HS0]; · iexact HS0
        iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%fT0, HS0⟩⟩
        isplitl [HS0 Hg]
        · isplitl [HS0]
          · iexists _; unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]
        · unfold owns; iexists _; isplitr
          swap; · iexact H20
          ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h2 : t.val % 65 = 64
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15_C t (fun h => h0 ((hcond0_0 t).mp h)) ((hcond0_2 t).mpr h2)], after0_15]
      rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_2 t).mpr h2)], after0_16]
      rw [show (dats m 0 c).leavesExact 17 t = owns (c : Thread nD τ) (ms0_17 t) fullShare ((dats m 0 c).after 17 t) from by
      unfold Dat.leavesExact; rw [liveAt0_17_C t (fun h => h0 ((hcond0_0 t).mp h)) ((hcond0_2 t).mpr h2)], after0_17]
      rw [show (dats m 0 c).leavesExact 18 t = owns (c : Thread nD τ) (ms0_18 t) fullShare ((dats m 0 c).after 18 t) from by
      unfold Dat.leavesExact; rw [idleAt0_18_C t (fun h => h0 ((hcond0_0 t).mp h)) ((hcond0_2 t).mpr h2), flushAt0_18_C t (fun h => h0 ((hcond0_0 t).mp h)) ((hcond0_2 t).mpr h2)], after0_18]
      rw [show (dats m 0 c).leavesExact 19 t = owns (c : Thread nD τ) (ms0_19 t) fullShare ((dats m 0 c).after 19 t) from by
      unfold Dat.leavesExact; rw [idleAt0_19_C t (fun h => h0 ((hcond0_0 t).mp h)) ((hcond0_2 t).mpr h2), flushAt0_19_C t (fun h => h0 ((hcond0_0 t).mp h)) ((hcond0_2 t).mpr h2)], after0_19]
      rw [show (dats m 0 c).leavesExact 20 t = owns (c : Thread nD τ) (ms0_20 t) fullShare ((dats m 0 c).after 20 t) from by
      unfold Dat.leavesExact; rw [idleAt0_20_C t (fun h => h0 ((hcond0_0 t).mp h)) ((hcond0_2 t).mpr h2), flushAt0_20_C t (fun h => h0 ((hcond0_0 t).mp h)) ((hcond0_2 t).mpr h2)], after0_20]
      rw [show (dats m 0 c).leavesExact 21 t = owns (c : Thread nD τ) (ms0_21 t) fullShare ((dats m 0 c).after 21 t) from by
      unfold Dat.leavesExact; rw [idleAt0_21_C t (fun h => h0 ((hcond0_0 t).mp h)) ((hcond0_2 t).mpr h2), flushAt0_21_C t (fun h => h0 ((hcond0_0 t).mp h)) ((hcond0_2 t).mpr h2)], after0_21]
      rw [outsAt0_C m c t h0 h2]
      simp only [before0_18_C m c t h0 h2, before0_19_C m c t h0 h2, before0_20_C m c t h0 h2, before0_21_C m c t h0 h2]
      unfold out0_C_15 out0_C_16 out0_C_17 out0_C_18 out0_C_19 out0_C_20 out0_C_21; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexact H18
      isplitl [H19]; · iexact H19
      isplitl [H20]; · iexact H20
      isplitl [H21]; · iexact H21
      isplitl [HS0]; · iexact HS0
      iintro ⟨H0, H1, H2, H3, H4, H5, H6, H7, H8, H9, H10, H11, H12, H13, H14, ⟨%e15, H15⟩, ⟨%e16, H16⟩, ⟨%e17, H17⟩, H18, H19, H20, H21, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]; · iexact H18
      isplitl [H19]; · iexact H19
      isplitl [H20]; · iexact H20
      iexact H21
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 6000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_KernelIdeal`'s statement at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Hand

end
-- ==== Proof.Same.lean ====
/- The kernel over float words runs as the idealized one does: the two programs differ in the named constants alone, which over float words are their words. -/
module

public import proofs.«01_k».proof.Defs
public import proofs.«01_k».proof.Proof.FrameBody
public import proofs.«01_k».proof.Proof.Gen.Kernel

@[expose] public section

set_option maxRecDepth 65536
set_option maxHeartbeats 4000000

noncomputable section

namespace Cert.Same

open Idealize.ShloMosaic Idealize.ShloMosaic.TcCoe Idealize.SL.Sem

/-- A named constant over float words is its word. -/
local instance words : Named Bits := ⟨fun _ _ {φ} b => Scalar.ofBits φ b⟩

theorem body_eq : @Cert.Kernel.cc0_ret_mixer Bits _ _ = @Cert.KernelIdeal.cc0_ret_mixer Bits _ _ _ := rfl

theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_eq : Cert.Kernel.defs (F := Bits) = Cert.KernelIdeal.defs (F := Bits) := by
  unfold Cert.Kernel.defs Cert.KernelIdeal.defs
  exact congrArg (Pipeline.defs _) defs0_eq

theorem main_eq : Cert.Kernel.main (F := Bits) = Cert.KernelIdeal.main (F := Bits) := rfl

/-- So over float words too every run ends, with the arguments unchanged and every counter at zero. -/
theorem frame : Cert.quiescent_Kernel := fun m g _ => by
  rw [defs_eq, main_eq]
  exact Cert.KernelIdeal.Hand.frame (F := Bits) m g

end Cert.Same

end
-- ==== Proof.Recur.lean ====
/- The recurrence of the retention state, on the extended reals, free of any program. -/
module

public import Idealize.ShloMosaic.PureOps.Ideal

@[expose] public section

noncomputable section

namespace Cert.Recur

/-- The state after the first `n` rows of a sequence: the outer products `k m * v m`, each scaled by the decay `e^g` once for every row
    that has come since. -/
def decayed (g : ℝ) (k v : ℕ → EReal) (n : ℕ) : EReal :=
  ∑ m ∈ Finset.range n, (k m * ((Real.exp (g * ((n : ℝ) - 1 - m)) : ℝ) : EReal)) * v m

/-- A nonnegative real factor goes into a finite sum of extended reals. -/
theorem mul_sum_range (c : ℝ) (hc : 0 ≤ c) (f : ℕ → EReal) (n : ℕ) :
    (c : EReal) * ∑ m ∈ Finset.range n, f m = ∑ m ∈ Finset.range n, (c : EReal) * f m := by
  induction n with
  | zero => simp
  | succ n ih =>
    rw [Finset.sum_range_succ, Finset.sum_range_succ, ← ih,
      EReal.left_distrib_of_nonneg_of_ne_top (by exact_mod_cast hc) (EReal.coe_ne_top c)]

theorem decayed_zero (g : ℝ) (k v : ℕ → EReal) : decayed g k v 0 = 0 := by
  simp [decayed]

/-- A block of `B` rows at once: the old state scaled by `e^(g B)`, and the block's own outer products decayed to its end. -/
theorem decayed_add (g : ℝ) (k v : ℕ → EReal) (n B : ℕ) :
    ((Real.exp (g * B) : ℝ) : EReal) * decayed g k v n
      + ∑ r ∈ Finset.range B, (k (n + r) * ((Real.exp (g * ((B : ℝ) - 1 - r)) : ℝ) : EReal)) * v (n + r)
      = decayed g k v (n + B) := by
  unfold decayed
  rw [Finset.sum_range_add, mul_sum_range _ (Real.exp_pos _).le]
  refine congrArg₂ (· + ·) (Finset.sum_congr rfl fun m _ => ?_) (Finset.sum_congr rfl fun r _ => ?_)
  · rw [← mul_assoc, mul_left_comm, ← EReal.coe_mul, ← Real.exp_add]
    congr 4
    push_cast
    ring
  · congr 4
    push_cast
    ring

/-- The decay's logarithm of head `h`: `log (1 - 2^(-5-h))`. -/
def lg (h : ℕ) : ℝ := Real.log (1 - (2 : ℝ) ^ (-5 - (h : ℝ)))

theorem lg_eq (h : ℕ) : lg h = Real.log ((2 ^ (5 + h) - 1) / 2 ^ (5 + h)) := by
  have e : (2 : ℝ) ^ (-5 - (h : ℝ)) = (2 ^ (5 + h))⁻¹ := by
    rw [show (-5 - (h : ℝ)) = -(((5 + h : ℕ) : ℝ)) by push_cast; ring, Real.rpow_neg (by norm_num), Real.rpow_natCast]
  rw [lg, e, sub_div, div_self (by positivity), one_div]

end Cert.Recur

end
-- ==== Proof.Keys.lean ====
/- The retention layer's keys and values, row by row, as extended reals: the projections of the input rows, the keys rotated by their
   position and scaled. -/
module

public import proofs.«01_k».proof.Proof.Recur
public import Idealize.ShloMosaic.Lib.Pointwise

@[expose] public section

noncomputable section

namespace Cert.Keys

open Idealize.ShloMosaic

/-- The input rows, `4` sequences of `8192` rows of `1024` numbers. -/
abbrev Rows : Type := (⟨3, ![4, 8192, 1024]⟩ : Shape).Idx → EReal

/-- The weights of the joint projection, `1024` rows of `6144` columns. -/
abbrev Weights : Type := (⟨3, ![1, 1024, 6144]⟩ : Shape).Idx → EReal

/-- The rotation's angle at position `n` and pair `d`: `n * 10000 ^ (-d / 128)`. -/
def angle (n d : ℕ) : EReal :=
  (FloatOps.sitofp FTy.f32 (BitVec.ofNat 32 n) : Ideal .f32) *
    Ideal.pow (Ideal.ofBits FTy.f32 1176256512#32)
      (Ideal.div (-(FloatOps.sitofp FTy.f32 (BitVec.ofNat 32 d) : Ideal .f32)) (Ideal.ofBits FTy.f32 1124073472#32))

/-- Column `c` of row `n` of sequence `b` times the weights. -/
def proj (X : Rows) (W : Weights) (b : Fin 4) (n c : ℕ) : EReal :=
  if h : n < 8192 ∧ c < 6144 then ∑ q : Fin 1024, X (ix3 b ⟨n, h.1⟩ q) * W (ix3 0 q ⟨c, h.2⟩) else 0

/-- Component `d` of head `h`'s key at row `n` of sequence `b`. -/
def key (X : Rows) (W : Weights) (b : Fin 4) (h d n : ℕ) : EReal :=
  (if d < 128 then
    proj X W b n (1024 + (h * 256 + d)) * Ideal.cos (angle n d) - proj X W b n (1024 + (h * 256 + (128 + d))) * Ideal.sin (angle n d)
  else
    proj X W b n (1024 + (h * 256 + (d - 128))) * Ideal.sin (angle n (d - 128))
      + proj X W b n (1024 + (h * 256 + (128 + (d - 128)))) * Ideal.cos (angle n (d - 128)))
    * Ideal.ofBits FTy.f32 1031798784#32

/-- Component `e` of head `h`'s value at row `n` of sequence `b`. -/
def value (X : Rows) (W : Weights) (b : Fin 4) (h e n : ℕ) : EReal :=
  proj X W b n (2048 + (h * 512 + e))

theorem proj_of (X : Rows) (W : Weights) (b : Fin 4) (n c : ℕ) (hn : n < 8192) (hc : c < 6144) :
    proj X W b n c = ∑ q : Fin 1024, X (ix3 b ⟨n, hn⟩ q) * W (ix3 0 q ⟨c, hc⟩) := dif_pos ⟨hn, hc⟩

end Cert.Keys

end
-- ==== Proof.KernelBlock.lean ====
/- One block of 256 rows in the kernel's arithmetic: each head's state update, as a function of what the block loads, is the state recurrence over
   the block's keys and values. -/
module

public import proofs.«01_k».proof.Proof.Keys
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Cert.Recur Cert.Keys

variable (X : Rows) (W : Weights) (b : Fin 4)

/-- What a block that starts at row `n` of sequence `b` loads: its rows, the keys' and values' columns of the weights, and its rows of the
    rotation's cosines and sines. -/
structure Loads (n : ℕ) (x : Vec Ideal S256x1024 .f32) (wk : Vec Ideal S1024x1024 .bf16) (wv : Vec Ideal S1024x2048 .bf16)
    (cs sn : Vec Ideal S256x128 .f32) : Prop where
  le : n + 256 ≤ 8192
  rows : ∀ (r : Fin 256) (q : Fin 1024), x (ix2 r q) = X (ix3 b ⟨n + r, by omega⟩ q)
  keys : ∀ (q c : Fin 1024), wk (ix2 q c) = W (ix3 0 q ⟨1024 + c, by omega⟩)
  vals : ∀ (q : Fin 1024) (c : Fin 2048), wv (ix2 q c) = W (ix3 0 q ⟨2048 + c, by omega⟩)
  cos : ∀ (r : Fin 256) (d : Fin 128), cs (ix2 r d) = Ideal.cos (angle (n + r) d)
  sin : ∀ (r : Fin 256) (d : Fin 128), sn (ix2 r d) = Ideal.sin (angle (n + r) d)

/-- The state after a block: the state before it decayed by 256 rows, and the block's outer products decayed to its end. -/
def next (h d e n : ℕ) (s : EReal) : EReal :=
  ((Real.exp (lg h * (256 : ℕ)) : ℝ) : EReal) * s
    + ∑ r ∈ Finset.range 256, (key X W b h d (n + r) * ((Real.exp (lg h * (((256 : ℕ) : ℝ) - 1 - r)) : ℝ) : EReal)) * value X W b h e (n + r)

/-- From the closed form at the block's first row, the closed form at its end. -/
theorem next_decayed (h d e n : ℕ) :
    next X W b h d e n (decayed (lg h) (key X W b h d) (value X W b h e) n)
      = decayed (lg h) (key X W b h d) (value X W b h e) (n + 256) := decayed_add _ _ _ _ _

theorem next_eq (h d e n : ℕ) (s : EReal) :
    next X W b h d e n s = Ideal.exp ((256 * lg h : ℝ) : EReal) * s
      + ∑ r : Fin 256, (key X W b h d (n + r) * Ideal.exp (((lg h : ℝ) : EReal) * (Ideal.ofBits .f32 1132396544#32 - ((r : ℝ) : EReal)))) * value X W b h e (n + r) := by
  have e255 : Ideal.ofBits .f32 1132396544#32 = ((255 : ℝ) : EReal) := by
    simp [Ideal.ofBits, Ideal.ieee, -EReal.coe_mul]; norm_num
  rw [next, Finset.sum_range, e255]
  simp only [← EReal.coe_mul, ← EReal.coe_sub, Ideal.exp_coe]
  refine congrArg₂ (· + ·) ?_ (Finset.sum_congr rfl fun r _ => ?_)
  · rw [mul_comm (lg h)]; norm_num
  · norm_num

/-- The row numbers of a block, as numbers. -/
theorem lanes (r : Fin 256) : k0_pay8 (F := Ideal) (ix2 r 0) = ((r : ℝ) : EReal) := by
  pointwise [k0_pay8]
  show (((BitVec.ofNat 32 (r : ℕ)).toInt : ℝ) : EReal) = _
  have h : (BitVec.ofNat 32 (r : ℕ)).toNat = r := by rw [BitVec.toNat_ofNat]; omega
  rw [BitVec.toInt_eq_toNat_of_lt (by omega), h]; simp

variable {X W b} {n : ℕ} {x : Vec Ideal S256x1024 .f32} {wk : Vec Ideal S1024x1024 .bf16} {wv : Vec Ideal S1024x2048 .bf16}
  {cs sn : Vec Ideal S256x128 .f32} (L : Loads X W b n x wk wv cs sn)
include L

/-- The first block's keys before the rotation. -/
theorem keysA (r : Fin 256) (c : Fin 1024) : k0_pay12 (k0_pay10 x) wk (ix2 r c) = proj X W b (n + r) (1024 + c) := by
  have h := L.le
  rw [proj_of X W b _ _ (by omega) (by omega)]
  pointwise [k0_pay12, k0_pay10]
  simp only [L.rows, L.keys]

/-- The first block's values. -/
theorem valsA (r : Fin 256) (c : Fin 2048) : k0_pay13 (k0_pay10 x) wv (ix2 r c) = proj X W b (n + r) (2048 + c) := by
  have h := L.le
  rw [proj_of X W b _ _ (by omega) (by omega)]
  pointwise [k0_pay13, k0_pay10]
  simp only [L.rows, L.vals]

/-- The second block's keys before the rotation. -/
theorem keysB (r : Fin 256) (c : Fin 1024) : k0_pay30 x wk (ix2 r c) = proj X W b (n + r) (1024 + c) := by
  have h := L.le
  rw [proj_of X W b _ _ (by omega) (by omega)]
  pointwise [k0_pay30, k0_pay28]
  simp only [L.rows, L.keys]

/-- The second block's values. -/
theorem valsB (r : Fin 256) (c : Fin 2048) : k0_pay31 x wv (ix2 r c) = proj X W b (n + r) (2048 + c) := by
  have h := L.le
  rw [proj_of X W b _ _ (by omega) (by omega)]
  pointwise [k0_pay31, k0_pay28]
  simp only [L.rows, L.vals]

set_option maxHeartbeats 2000000 in
/-- Head 0's state after the first block. -/
theorem upd00 (prev : Vec Ideal S1x1x256x512 .f32) (d : Fin 256) (e : Fin 512) :
    k0_pay24 k0_pay8 (k0_pay18 (k0_pay10 x) wk cs sn) (k0_pay20 (k0_pay10 x) wv) prev
      (ix4 0 0 d e) = next X W b 0 d e n (prev (ix4 0 0 d e)) := by
  have h1 : Named.named (F := Ideal) (φ := .f32) κ "lg0" 0xBD020AEC#32 = ((lg 0 : ℝ) : EReal) := by
    rw [IdealRules.named_const.ideal_named_scalar κ "lg0" _ _ rfl, lg_eq]; norm_num
  have h2 : Named.named (F := Ideal) (φ := .f32) κ "lgb0" 0xC1020AEC#32 = ((256 * lg 0 : ℝ) : EReal) := by
    rw [IdealRules.named_const.ideal_named_scalar κ "lgb0" _ _ rfl, lg_eq]; norm_num
  have hle := L.le
  have hK := keysA L
  have hV := valsA L
  rw [next_eq]
  pointwise [k0_pay24, k0_pay23, k0_pay18, k0_pay15, k0_pay16, k0_pay20]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

set_option maxHeartbeats 2000000 in
/-- Head 1's state after the first block. -/
theorem upd01 (prev : Vec Ideal S1x1x256x512 .f32) (d : Fin 256) (e : Fin 512) :
    k0_pay44 k0_pay8 (k0_pay37 (k0_pay12 (k0_pay10 x) wk) cs sn) (k0_pay39 (k0_pay13 (k0_pay10 x) wv)) (k0_pay41 prev)
      (ix4 0 0 d e) = next X W b 1 d e n (prev (ix4 0 0 d e)) := by
  have h1 : Named.named (F := Ideal) (φ := .f32) κ "lg1" 0xBC8102B3#32 = ((lg 1 : ℝ) : EReal) := by
    rw [IdealRules.named_const.ideal_named_scalar κ "lg1" _ _ rfl, lg_eq]; norm_num
  have h2 : Named.named (F := Ideal) (φ := .f32) κ "lgb1" 0xC08102B3#32 = ((256 * lg 1 : ℝ) : EReal) := by
    rw [IdealRules.named_const.ideal_named_scalar κ "lgb1" _ _ rfl, lg_eq]; norm_num
  have hle := L.le
  have hK := keysA L
  have hV := valsA L
  rw [next_eq]
  pointwise [k0_pay44, k0_pay37, k0_pay35, k0_pay34, k0_pay39, k0_pay41]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

set_option maxHeartbeats 2000000 in
/-- Head 2's state after the first block. -/
theorem upd02 (prev : Vec Ideal S1x1x256x512 .f32) (d : Fin 256) (e : Fin 512) :
    k0_pay56 k0_pay8 (k0_pay51 (k0_pay12 (k0_pay10 x) wk) cs sn) (k0_pay53 (k0_pay13 (k0_pay10 x) wv)) prev
      (ix4 0 0 d e) = next X W b 2 d e n (prev (ix4 0 0 d e)) := by
  have h1 : Named.named (F := Ideal) (φ := .f32) κ "lg2" 0xBC0080AC#32 = ((lg 2 : ℝ) : EReal) := by
    rw [IdealRules.named_const.ideal_named_scalar κ "lg2" _ _ rfl, lg_eq]; norm_num
  have h2 : Named.named (F := Ideal) (φ := .f32) κ "lgb2" 0xC00080AC#32 = ((256 * lg 2 : ℝ) : EReal) := by
    rw [IdealRules.named_const.ideal_named_scalar κ "lgb2" _ _ rfl, lg_eq]; norm_num
  have hle := L.le
  have hK := keysA L
  have hV := valsA L
  rw [next_eq]
  pointwise [k0_pay56, k0_pay55, k0_pay51, k0_pay49, k0_pay48, k0_pay53]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

set_option maxHeartbeats 2000000 in
/-- Head 3's state after the first block. -/
theorem upd03 (prev : Vec Ideal S1x1x256x512 .f32) (d : Fin 256) (e : Fin 512) :
    k0_pay68 k0_pay8 (k0_pay63 (k0_pay12 (k0_pay10 x) wk) cs sn) (k0_pay65 (k0_pay13 (k0_pay10 x) wv)) prev
      (ix4 0 0 d e) = next X W b 3 d e n (prev (ix4 0 0 d e)) := by
  have h1 : Named.named (F := Ideal) (φ := .f32) κ "lg3" 0xBB80402B#32 = ((lg 3 : ℝ) : EReal) := by
    rw [IdealRules.named_const.ideal_named_scalar κ "lg3" _ _ rfl, lg_eq]; norm_num
  have h2 : Named.named (F := Ideal) (φ := .f32) κ "lgb3" 0xBF80402B#32 = ((256 * lg 3 : ℝ) : EReal) := by
    rw [IdealRules.named_const.ideal_named_scalar κ "lgb3" _ _ rfl, lg_eq]; norm_num
  have hle := L.le
  have hK := keysA L
  have hV := valsA L
  rw [next_eq]
  pointwise [k0_pay68, k0_pay67, k0_pay63, k0_pay60, k0_pay61, k0_pay65]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

set_option maxHeartbeats 2000000 in
/-- Head 0's state after the second block. -/
theorem upd10 (prev : Vec Ideal S1x1x256x512 .f32) (d : Fin 256) (e : Fin 512) :
    k0_pay84 (k0_pay83 k0_pay8 (k0_pay31 x wv) (k0_pay76 (k0_pay30 x wk) cs sn) prev)
      (ix4 0 0 d e) = next X W b 0 d e n (prev (ix4 0 0 d e)) := by
  have h1 : Named.named (F := Ideal) (φ := .f32) κ "lg0" 0xBD020AEC#32 = ((lg 0 : ℝ) : EReal) := by
    rw [IdealRules.named_const.ideal_named_scalar κ "lg0" _ _ rfl, lg_eq]; norm_num
  have h2 : Named.named (F := Ideal) (φ := .f32) κ "lgb0" 0xC1020AEC#32 = ((256 * lg 0 : ℝ) : EReal) := by
    rw [IdealRules.named_const.ideal_named_scalar κ "lgb0" _ _ rfl, lg_eq]; norm_num
  have hle := L.le
  have hK := keysB L
  have hV := valsB L
  rw [next_eq]
  pointwise [k0_pay84, k0_pay83, k0_pay79, k0_pay81, k0_pay77, k0_pay76, k0_pay74, k0_pay73]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

set_option maxHeartbeats 2000000 in
/-- Head 1's state after the second block. -/
theorem upd11 (prev : Vec Ideal S1x1x256x512 .f32) (d : Fin 256) (e : Fin 512) :
    k0_pay97 (k0_pay91 (k0_pay31 x wv)) (k0_pay93 prev) (k0_pay95 k0_pay8 (k0_pay30 x wk) (k0_pay86 cs) (k0_pay87 sn)) k0_pay96
      (ix4 0 0 d e) = next X W b 1 d e n (prev (ix4 0 0 d e)) := by
  have h1 : Named.named (F := Ideal) (φ := .f32) κ "lg1" 0xBC8102B3#32 = ((lg 1 : ℝ) : EReal) := by
    rw [IdealRules.named_const.ideal_named_scalar κ "lg1" _ _ rfl, lg_eq]; norm_num
  have h2 : Named.named (F := Ideal) (φ := .f32) κ "lgb1" 0xC08102B3#32 = ((256 * lg 1 : ℝ) : EReal) := by
    rw [IdealRules.named_const.ideal_named_scalar κ "lgb1" _ _ rfl, lg_eq]; norm_num
  have hle := L.le
  have hK := keysB L
  have hV := valsB L
  rw [next_eq]
  pointwise [k0_pay97, k0_pay91, k0_pay93, k0_pay95, k0_pay89, k0_pay86, k0_pay87, k0_pay96]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

set_option maxHeartbeats 2000000 in
/-- Head 2's state after the second block. -/
theorem upd12 (prev : Vec Ideal S1x1x256x512 .f32) (d : Fin 256) (e : Fin 512) :
    k0_pay114 k0_pay8 (k0_pay109 (k0_pay30 x wk) cs sn) (k0_pay111 (k0_pay31 x wv)) prev
      (ix4 0 0 d e) = next X W b 2 d e n (prev (ix4 0 0 d e)) := by
  have h1 : Named.named (F := Ideal) (φ := .f32) κ "lg2" 0xBC0080AC#32 = ((lg 2 : ℝ) : EReal) := by
    rw [IdealRules.named_const.ideal_named_scalar κ "lg2" _ _ rfl, lg_eq]; norm_num
  have h2 : Named.named (F := Ideal) (φ := .f32) κ "lgb2" 0xC00080AC#32 = ((256 * lg 2 : ℝ) : EReal) := by
    rw [IdealRules.named_const.ideal_named_scalar κ "lgb2" _ _ rfl, lg_eq]; norm_num
  have hle := L.le
  have hK := keysB L
  have hV := valsB L
  rw [next_eq]
  pointwise [k0_pay114, k0_pay113, k0_pay109, k0_pay106, k0_pay107, k0_pay111]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

set_option maxHeartbeats 2000000 in
/-- Head 3's state after the second block. -/
theorem upd13 (prev : Vec Ideal S1x1x256x512 .f32) (d : Fin 256) (e : Fin 512) :
    k0_pay129 (k0_pay128 k0_pay8 (k0_pay31 x wv) (k0_pay121 (k0_pay30 x wk) cs sn) (Scalar.ofBits .f32 0x3D800000#32) prev)
      (ix4 0 0 d e) = next X W b 3 d e n (prev (ix4 0 0 d e)) := by
  have h1 : Named.named (F := Ideal) (φ := .f32) κ "lg3" 0xBB80402B#32 = ((lg 3 : ℝ) : EReal) := by
    rw [IdealRules.named_const.ideal_named_scalar κ "lg3" _ _ rfl, lg_eq]; norm_num
  have h2 : Named.named (F := Ideal) (φ := .f32) κ "lgb3" 0xBF80402B#32 = ((256 * lg 3 : ℝ) : EReal) := by
    rw [IdealRules.named_const.ideal_named_scalar κ "lgb3" _ _ rfl, lg_eq]; norm_num
  have hle := L.le
  have hK := keysB L
  have hV := valsB L
  rw [next_eq]
  pointwise [k0_pay129, k0_pay128, k0_pay126, k0_pay124, k0_pay122, k0_pay121, k0_pay118, k0_pay119]
  rw [h1, h2]
  simp only [hK, hV, lanes, L.cos, L.sin]
  refine congrArg _ (Finset.sum_congr rfl fun r _ => ?_)
  by_cases hd : (d : ℕ) < 128 <;>
    simp only [key, value, hd, ↓reduceDIte, ↓reduceIte, Nat.one_mul, Nat.zero_mul, Nat.zero_add, Nat.reduceMul]

end Cert.KernelIdeal.Block

end
-- ==== Proof.KernelEntry.lean ====
/- What the kernel's blocks hold when a grid point reads them: the rows of its sequence, the rotation's cosines and sines, and the joint
   projection's weights. -/
module

public import proofs.«01_k».proof.Proof.KernelBlock
public import proofs.«01_k».proof.Proof.Gen.KernelIdeal.Frame
public import Idealize.ShloMosaic.Lib.Pipeline.ValueKit

@[expose] public section

set_option maxRecDepth 16384

noncomputable section

namespace Cert.KernelIdeal.Entry

open Cert.KernelIdeal Cert.KernelIdeal.Gen Idealize.ShloMosaic Idealize.ShloMosaic.TcCoe Cert.Recur Cert.Keys

variable (m : (ℓ : Loc nD τ sig) → Buf (Elt Ideal) ℓ) (c : Dev nD)

/-- Rows laid end to end, -/
theorem flat_rows (x : Vec Ideal S4x8192x1024 .f32) (b : Fin 4) (n : Fin 8192) (q : Fin 1024) :
    shapeCast S32768x1024 x shapeCasts_S4x8192x1024_S32768x1024 (ix2 ⟨b.val * 8192 + n, by omega⟩ q) = x (ix3 b n q) := by
  pointwise
  blk_ext

/-- and the weights without their unit axis. -/
theorem flat_weights (x : Vec Ideal S1x1024x6144 .f32) (q : Fin 1024) (k : Fin 6144) :
    truncf (F := Ideal) .bf16 (shapeCast S1024x6144 x shapeCasts_S1x1024x6144_S1024x6144) bitsLt_bf16_f32 (ix2 q k) = x (ix3 0 q k) := by
  pointwise

theorem add_zero_word (n : ℕ) : IntOp.addi (0#32) (BitVec.ofNat 32 n) = BitVec.ofNat 32 n := by
  show 0#32 + _ = _
  simp

/-- Which block of its array each of the four inputs shows at a grid point. -/
theorem idx : ∀ t : Fin cfg0.N, t.val < 64 → win0_0.index t = ![t.val, 0] ∧ win0_1.index t = ![t.val % 16, 0] ∧ win0_2.index t = ![t.val % 16, 0]
    ∧ win0_4.index t = ![0, 0] := by decide +kernel

/-- The host's rows, sequence after sequence, -/
theorem entry_rows : V m c main_v33 = shapeCast S32768x1024 (m ((c : Thread nD τ).loc main_arg0)) shapeCasts_S4x8192x1024_S32768x1024 := by
  unfold V
  simp only [hostOps0, hostOps0_1, hostOps0_2, hostOps0_3, hostOps0_4, hostOps0_5, hostOps0_6, List.flatten_cons, List.flatten_nil, List.append_nil,
    List.cons_append, List.nil_append]
  after_results
  rfl

/-- its weights -/
theorem entry_weights (q : Fin 1024) (k : Fin 6144) : V m c main_v28 (ix2 q k) = m ((c : Thread nD τ).loc main_arg1) (ix3 0 q k) := by
  unfold V
  simp only [hostOps0, hostOps0_1, hostOps0_2, hostOps0_3, hostOps0_4, hostOps0_5, hostOps0_6, List.flatten_cons, List.flatten_nil, List.append_nil,
    List.cons_append, List.nil_append]
  after_results
  exact flat_weights (m ((c : Thread nD τ).loc main_arg1)) q k

/-- and its rotation's cosines -/
theorem entry_cos (n : Fin 8192) (d : Fin 128) : V m c main_v49 (ix2 n d) = Ideal.cos (angle n d) := by
  unfold V
  simp only [hostOps0, hostOps0_1, hostOps0_2, hostOps0_3, hostOps0_4, hostOps0_5, hostOps0_6, List.flatten_cons, List.flatten_nil, List.append_nil,
    List.cons_append, List.nil_append]
  after_results
  pointwise
  rw [add_zero_word]
  rfl

/-- and sines. -/
theorem entry_sin (n : Fin 8192) (d : Fin 128) : V m c main_v50 (ix2 n d) = Ideal.sin (angle n d) := by
  unfold V
  simp only [hostOps0, hostOps0_1, hostOps0_2, hostOps0_3, hostOps0_4, hostOps0_5, hostOps0_6, List.flatten_cons, List.flatten_nil, List.append_nil,
    List.cons_append, List.nil_append]
  after_results
  pointwise
  rw [add_zero_word]
  rfl

variable (t : Fin cfg0.N) (ht : t.val < 64)
include ht

/-- The rows: block `t % 16` of sequence `t / 16`. -/
theorem rows_at (r : Fin 512) (q : Fin 1024) :
    iblk m c 0 t (ix2 r q) = m ((c : Thread nD τ).loc main_arg0) (ix3 ⟨t.val / 16, by omega⟩ ⟨512 * (t.val % 16) + r, by omega⟩ q) := by
  have h := idx t ht
  show V m c main_v33 (((cfg0.win 0).blk t).view.emb (ix2 r q)) = _
  have e : ((cfg0.win 0).blk t).view.emb (ix2 r q)
      = ix2 ⟨(⟨t.val / 16, by omega⟩ : Fin 4).val * 8192 + (⟨512 * (t.val % 16) + r, by omega⟩ : Fin 8192), by dsimp only; omega⟩ q := by
    blk_ext [h.1]
  rw [e, entry_rows]
  exact flat_rows _ _ _ _

/-- The weights, whole. -/
theorem weights_at (q : Fin 1024) (k : Fin 6144) :
    iblk m c 4 t (ix2 q k) = m ((c : Thread nD τ).loc main_arg1) (ix3 0 q k) := by
  have h := idx t ht
  show V m c main_v28 (((cfg0.win 4).blk t).view.emb (ix2 q k)) = _
  have e : ((cfg0.win 4).blk t).view.emb (ix2 q k) = ix2 q k := by blk_ext [h.2.2.2]
  rw [e, entry_weights]

/-- The cosines of the block's positions -/
theorem cos_at (r : Fin 512) (d : Fin 128) :
    iblk m c 1 t (ix2 r d) = Ideal.cos (angle (512 * (t.val % 16) + r) d) := by
  have h := idx t ht
  show V m c main_v49 (((cfg0.win 1).blk t).view.emb (ix2 r d)) = _
  have e : ((cfg0.win 1).blk t).view.emb (ix2 r d) = ix2 ⟨512 * (t.val % 16) + r, by omega⟩ d := by blk_ext [h.2.1]
  rw [e, entry_cos]

/-- and their sines. -/
theorem sin_at (r : Fin 512) (d : Fin 128) :
    iblk m c 2 t (ix2 r d) = Ideal.sin (angle (512 * (t.val % 16) + r) d) := by
  have h := idx t ht
  show V m c main_v50 (((cfg0.win 2).blk t).view.emb (ix2 r d)) = _
  have e : ((cfg0.win 2).blk t).view.emb (ix2 r d) = ix2 ⟨512 * (t.val % 16) + r, by omega⟩ d := by blk_ext [h.2.2.1]
  rw [e, entry_sin]

end Cert.KernelIdeal.Entry

end
-- ==== Proof.KernelPoint.lean ====
/- One grid point's effect on the running state: two blocks of 256 rows, in every head. -/
module

public import proofs.«01_k».proof.Proof.FrameHeld
public import proofs.«01_k».proof.Proof.KernelBlock
public import proofs.«01_k».proof.Proof.KernelEntry
public import Idealize.ShloMosaic.Lib.Pipeline.ReadBack
public import Idealize.ShloMosaic.Lib.Pipeline.ValueKit

@[expose] public section

set_option maxRecDepth 16384

noncomputable section

namespace Cert.KernelIdeal.Point

open Idealize.ShloMosaic Idealize.ShloMosaic.TcCoe Cert.KernelIdeal Cert.KernelIdeal.Gen Cert.KernelIdeal.Hand Cert.KernelIdeal.Block Cert.KernelIdeal.Entry Cert.Recur Cert.Keys

/-- A head's place in the state -/
theorem hit (k : ℕ) (hk : k < 4) (inb : ∀ a, ![0, k, 0, 0] a + S1x1x256x512.size a ≤ S1x4x256x512.size a) (d : Fin 256) (e : Fin 512) :
    (ix4 0 ⟨k, hk⟩ d e : S1x4x256x512.Idx) = (Rect.unit (s := S1x4x256x512) ![0, k, 0, 0] S1x1x256x512.size inb).emb (ix4 0 0 d e) := by
  blk_ext

/-- is in no other head's. -/
theorem miss (k j : ℕ) (hk : k < 4) (hkj : k ≠ j) (inb : ∀ a, ![0, j, 0, 0] a + S1x1x256x512.size a ≤ S1x4x256x512.size a) (d : Fin 256) (e : Fin 512) :
    (ix4 0 ⟨k, hk⟩ d e : S1x4x256x512.Idx) ∉ (Rect.unit (s := S1x4x256x512) ![0, j, 0, 0] S1x1x256x512.size inb).set := by
  intro hm
  have h1 : j ≤ k ∧ k < j + 1 := Rect.mem_set_unit.mp hm 1
  omega

/-- Writing one head leaves the others, -/
theorem passes (k j : ℕ) (hk : k < 4) (hkj : k ≠ j) (inb : ∀ a, ![0, j, 0, 0] a + S1x1x256x512.size a ≤ S1x4x256x512.size a)
    (w : Vec Ideal S1x1x256x512 .f32) (L : List (View.Piece (Elt Ideal) S1x4x256x512 .f32)) (d : Fin 256) (e : Fin 512) :
    View.canon ((⟨Rect.unit (s := S1x4x256x512) ![0, j, 0, 0] S1x1x256x512.size inb, w⟩ : View.Piece (Elt Ideal) S1x4x256x512 .f32) :: L) (ix4 0 ⟨k, hk⟩ d e)
      = View.canon L (ix4 0 ⟨k, hk⟩ d e) :=
  View.canon_cons_of_not_mem (⟨Rect.unit (s := S1x4x256x512) ![0, j, 0, 0] S1x1x256x512.size inb, w⟩ : View.Piece (Elt Ideal) S1x4x256x512 .f32) L
    (miss k j hk hkj inb d e)

/-- and itself is read back. -/
theorem reads (k : ℕ) (hk : k < 4) (inb : ∀ a, ![0, k, 0, 0] a + S1x1x256x512.size a ≤ S1x4x256x512.size a)
    (w : Vec Ideal S1x1x256x512 .f32) (L : List (View.Piece (Elt Ideal) S1x4x256x512 .f32)) (d : Fin 256) (e : Fin 512) :
    View.canon ((⟨Rect.unit (s := S1x4x256x512) ![0, k, 0, 0] S1x1x256x512.size inb, w⟩ : View.Piece (Elt Ideal) S1x4x256x512 .f32) :: L) (ix4 0 ⟨k, hk⟩ d e)
      = w (ix4 0 0 d e) :=
  (congrArg _ (hit k hk inb d e)).trans
    (View.canon_cons_emb (Rect.unit (s := S1x4x256x512) ![0, k, 0, 0] S1x1x256x512.size inb) w L (ix4 0 0 d e))

/-- Four heads written one after another: each is read back from the last time it was written. -/
theorem heads (q0 q1 q2 q3 : Vec Ideal S1x1x256x512 .f32) (L : List (View.Piece (Elt Ideal) S1x4x256x512 .f32)) (h : Fin 4) (d : Fin 256) (e : Fin 512) :
    View.canon
      ((⟨Rect.unit (s := S1x4x256x512) ![0, 3, 0, 0] S1x1x256x512.size inb_S1x4x256x512_S1x1x256x512_0_3_0_0, q3⟩ : View.Piece (Elt Ideal) S1x4x256x512 .f32)
        :: ⟨Rect.unit (s := S1x4x256x512) ![0, 2, 0, 0] S1x1x256x512.size inb_S1x4x256x512_S1x1x256x512_0_2_0_0, q2⟩
        :: ⟨Rect.unit (s := S1x4x256x512) ![0, 1, 0, 0] S1x1x256x512.size inb_S1x4x256x512_S1x1x256x512_0_1_0_0, q1⟩
        :: ⟨Rect.unit (s := S1x4x256x512) ![0, 0, 0, 0] S1x1x256x512.size inb_S1x4x256x512_S1x1x256x512_0_0_0_0, q0⟩ :: L) (ix4 0 h d e)
      = (match h with | 0 => q0 | 1 => q1 | 2 => q2 | 3 => q3) (ix4 0 0 d e) := by
  match h with
  | ⟨0, h4⟩ =>
    exact (passes 0 3 h4 (by decide) _ _ _ d e).trans ((passes 0 2 h4 (by decide) _ _ _ d e).trans ((passes 0 1 h4 (by decide) _ _ _ d e).trans
      (reads 0 h4 _ _ _ d e)))
  | ⟨1, h4⟩ =>
    exact (passes 1 3 h4 (by decide) _ _ _ d e).trans ((passes 1 2 h4 (by decide) _ _ _ d e).trans (reads 1 h4 _ _ _ d e))
  | ⟨2, h4⟩ => exact (passes 2 3 h4 (by decide) _ _ _ d e).trans (reads 2 h4 _ _ _ d e)
  | ⟨3, h4⟩ => exact reads 3 h4 _ _ _ d e

/-- One head read out of the four. -/
theorem head_of (x : Vec Ideal S1x4x256x512 .f32) (k : ℕ) (hk : k < 4)
    (inb : ∀ a, ![0, k, 0, 0] a + S1x1x256x512.size a ≤ S1x4x256x512.size a) (d : Fin 256) (e : Fin 512) :
    View.ld x (Rect.unit (s := S1x4x256x512) ![0, k, 0, 0] S1x1x256x512.size inb) (ix4 0 0 d e) = x (ix4 0 ⟨k, hk⟩ d e) := by
  pointwise

variable (m : (ℓ : Loc nD τ sig) → Buf (Elt Ideal) ℓ) (c : Dev nD) (t : Fin cfg0.N) (h0 : t.val < 64)

/-- The prompt's rows -/
abbrev X : Rows := m ((c : Thread nD τ).loc main_arg0)
/-- and the projections' weights. -/
abbrev W : Weights := m ((c : Thread nD τ).loc main_arg1)

include h0

/-- What a point's first block loads -/
theorem loads0 : Loads (X m c) (W m c) ⟨t.val / 16, by omega⟩ (512 * (t.val % 16))
    (View.ld (iblk m c 0 t) (Rect.unit (s := S512x1024) ![0, 0] S256x1024.size inb_S512x1024_S256x1024_0_0))
    (View.ld (iblk m c 4 t) (Rect.unit (s := S1024x6144) ![0, 1024] S1024x1024.size inb_S1024x6144_S1024x1024_0_1024))
    (View.ld (iblk m c 4 t) (Rect.unit (s := S1024x6144) ![0, 2048] S1024x2048.size inb_S1024x6144_S1024x2048_0_2048))
    (View.ld (iblk m c 1 t) (Rect.unit (s := S512x128) ![0, 0] S256x128.size inb_S512x128_S256x128_0_0))
    (View.ld (iblk m c 2 t) (Rect.unit (s := S512x128) ![0, 0] S256x128.size inb_S512x128_S256x128_0_0)) := by
  refine ⟨by omega, fun r q => ?_, fun q k => ?_, fun q k => ?_, fun r d => ?_, fun r d => ?_⟩
  · pointwise; exact rows_at m c t h0 ⟨r, by omega⟩ q
  · pointwise; exact weights_at m c t h0 q ⟨1024 + k, by omega⟩
  · pointwise; exact weights_at m c t h0 q ⟨2048 + k, by omega⟩
  · pointwise; exact cos_at m c t h0 ⟨r, by omega⟩ d
  · pointwise; exact sin_at m c t h0 ⟨r, by omega⟩ d

/-- and what its second block does. -/
theorem loads1 : Loads (X m c) (W m c) ⟨t.val / 16, by omega⟩ (512 * (t.val % 16) + 256)
    (View.ld (iblk m c 0 t) (Rect.unit (s := S512x1024) ![256, 0] S256x1024.size inb_S512x1024_S256x1024_256_0))
    (View.ld (iblk m c 4 t) (Rect.unit (s := S1024x6144) ![0, 1024] S1024x1024.size inb_S1024x6144_S1024x1024_0_1024))
    (View.ld (iblk m c 4 t) (Rect.unit (s := S1024x6144) ![0, 2048] S1024x2048.size inb_S1024x6144_S1024x2048_0_2048))
    (View.ld (iblk m c 1 t) (Rect.unit (s := S512x128) ![256, 0] S256x128.size inb_S512x128_S256x128_256_0))
    (View.ld (iblk m c 2 t) (Rect.unit (s := S512x128) ![256, 0] S256x128.size inb_S512x128_S256x128_256_0)) := by
  refine ⟨by omega, fun r q => ?_, fun q k => ?_, fun q k => ?_, fun r d => ?_, fun r d => ?_⟩
  · pointwise; refine (rows_at m c t h0 ⟨256 + r, by omega⟩ q).trans ?_; congr 2; apply Fin.ext; dsimp only; omega
  · pointwise; exact weights_at m c t h0 q ⟨1024 + k, by omega⟩
  · pointwise; exact weights_at m c t h0 q ⟨2048 + k, by omega⟩
  · pointwise; refine (cos_at m c t h0 ⟨256 + r, by omega⟩ d).trans ?_; rw [← Nat.add_assoc]
  · pointwise; refine (sin_at m c t h0 ⟨256 + r, by omega⟩ d).trans ?_; rw [← Nat.add_assoc]

/-- A point that goes on from the point before: two blocks over the state it finds. -/
theorem later (h1 : ¬t.val % 16 = 0) (h : Fin 4) (d : Fin 256) (e : Fin 512) :
    (outsAt0 m c t.val t.isLt).2.2.2.1 (ix4 0 h d e)
      = next (X m c) (W m c) ⟨t.val / 16, by omega⟩ h d e (512 * (t.val % 16) + 256)
          (next (X m c) (W m c) ⟨t.val / 16, by omega⟩ h d e (512 * (t.val % 16))
            ((outsAt0 m c (t.val - 1) (Nat.lt_of_le_of_lt (Nat.sub_le _ _) t.isLt)).2.2.2.1 (ix4 0 h d e))) := by
  have L0 := loads0 m c t h0
  have L1 := loads1 m c t h0
  rw [outsAt0_B m c t h0 h1 (by omega)]
  generalize (outsAt0 m c (t.val - 1) _).2.2.2.1 = prev
  dsimp only
  frame_open
  simp (disch := decide) only [↓ View.readCov_skip, ↓ View.readCov_cons_toLoadRect, ↓ View.readCov_fill]
  frame_out
  refine (heads _ _ _ _ _ h d e).trans ?_
  match h with
  | 0 => exact (upd10 L1 _ d e).trans (congrArg _ ((upd00 L0 _ d e).trans (congrArg _ (head_of prev 0 _ _ d e))))
  | 1 => exact (upd11 L1 _ d e).trans (congrArg _ ((upd01 L0 _ d e).trans (congrArg _ (head_of prev 1 _ _ d e))))
  | 2 => exact (upd12 L1 _ d e).trans (congrArg _ ((upd02 L0 _ d e).trans (congrArg _ (head_of prev 2 _ _ d e))))
  | 3 => exact (upd13 L1 _ d e).trans (congrArg _ ((upd03 L0 _ d e).trans (congrArg _ (head_of prev 3 _ _ d e))))

/-- A sequence's first point: two blocks over the zero state. -/
theorem first (h1 : t.val % 16 = 0) (h : Fin 4) (d : Fin 256) (e : Fin 512) :
    (outsAt0 m c t.val t.isLt).2.2.2.1 (ix4 0 h d e)
      = next (X m c) (W m c) ⟨t.val / 16, by omega⟩ h d e (512 * (t.val % 16) + 256)
          (next (X m c) (W m c) ⟨t.val / 16, by omega⟩ h d e (512 * (t.val % 16)) 0) := by
  have L0 := loads0 m c t h0
  have L1 := loads1 m c t h0
  have z : ∀ y, k0_pay9 (F := Ideal) y = 0 := fun y => by pointwise [k0_pay9]
  rw [outsAt0_A m c t h0 h1 (by omega)]
  dsimp only
  frame_open
  simp (disch := decide) only [↓ View.readCov_skip, ↓ View.readCov_cons_toLoadRect, ↓ View.readCov_fill]
  frame_out
  refine (heads _ _ _ _ _ h d e).trans ?_
  match h with
  | 0 => exact (upd10 L1 _ d e).trans (congrArg _ ((upd00 L0 _ d e).trans (congrArg _ ((head_of _ 0 (by omega) _ d e).trans (z _)))))
  | 1 => exact (upd11 L1 _ d e).trans (congrArg _ ((upd01 L0 _ d e).trans (congrArg _ ((head_of _ 1 (by omega) _ d e).trans (z _)))))
  | 2 => exact (upd12 L1 _ d e).trans (congrArg _ ((upd02 L0 _ d e).trans (congrArg _ ((head_of _ 2 (by omega) _ d e).trans (z _)))))
  | 3 => exact (upd13 L1 _ d e).trans (congrArg _ ((upd03 L0 _ d e).trans (congrArg _ ((head_of _ 3 (by omega) _ d e).trans (z _)))))

end Cert.KernelIdeal.Point

end
-- ==== Proof.KernelState.lean ====
/- The state the kernel leaves: after every grid point it is the closed form of the recurrence at the rows seen so far, and so is the result. -/
module

public import proofs.«01_k».proof.Proof.KernelPoint

@[expose] public section

set_option maxRecDepth 16384

noncomputable section

namespace Cert.KernelIdeal.Final

open Idealize.ShloMosaic Idealize.ShloMosaic.TcCoe Cert.KernelIdeal Cert.KernelIdeal.Gen Cert.KernelIdeal.Hand Cert.KernelIdeal.Block
  Cert.KernelIdeal.Point Cert.Recur Cert.Keys

variable (m : (ℓ : Loc nD τ sig) → Buf (Elt Ideal) ℓ) (c : Dev nD)

/-- The state of sequence `b` after its first `n` rows. -/
def stateOf (b : Fin 4) (h : Fin 4) (d : Fin 256) (e : Fin 512) (n : ℕ) : EReal :=
  decayed (lg h) (key (X m c) (W m c) b h d) (value (X m c) (W m c) b h e) n

theorem same {b b' : Fin 4} (h : Fin 4) (d : Fin 256) (e : Fin 512) {n n' : ℕ} (hb : b = b') (hn : n = n') :
    stateOf m c b h d e n = stateOf m c b' h d e n' := by
  rw [hb, hn]

/-- A point's two blocks take it 512 rows further. -/
theorem two (b : Fin 4) (h : Fin 4) (d : Fin 256) (e : Fin 512) (n : ℕ) :
    next (X m c) (W m c) b h d e (n + 256) (next (X m c) (W m c) b h d e n (stateOf m c b h d e n)) = stateOf m c b h d e (n + 512) := by
  unfold stateOf
  rw [next_decayed, next_decayed]

/-- After a point: the rows up to the end of the point's own. -/
theorem after_point (n : ℕ) (hn : n < cfg0.N) (h0 : n < 64) (h : Fin 4) (d : Fin 256) (e : Fin 512) :
    (outsAt0 m c n hn).2.2.2.1 (ix4 0 h d e) = stateOf m c ⟨n / 16, by omega⟩ h d e (512 * (n % 16) + 512) := by
  induction n with
  | zero =>
    refine (first m c ⟨0, hn⟩ h0 rfl h d e).trans ?_
    have z : (0 : EReal) = stateOf m c ⟨0 / 16, by omega⟩ h d e (512 * (0 % 16)) := (decayed_zero _ _ _).symm
    rw [← two, ← z]
  | succ n ih =>
    by_cases h1 : (n + 1) % 16 = 0
    · refine (first m c ⟨n + 1, hn⟩ h0 h1 h d e).trans ?_
      have z : (0 : EReal) = stateOf m c ⟨(n + 1) / 16, by omega⟩ h d e (512 * ((n + 1) % 16)) := by
        rw [h1]; exact (decayed_zero _ _ _).symm
      rw [← two, ← z]
    · refine (later m c ⟨n + 1, hn⟩ h0 h1 h d e).trans ?_
      have p : (outsAt0 m c n (by omega)).2.2.2.1 (ix4 0 h d e) = stateOf m c ⟨(n + 1) / 16, by omega⟩ h d e (512 * ((n + 1) % 16)) := by
        rw [ih (by omega) (by omega)]
        have e1 : n / 16 = (n + 1) / 16 := by omega
        have e2 : 512 * (n % 16) + 512 = 512 * ((n + 1) % 16) := by omega
        simp only [e1, e2]
      rw [← two, ← p]
      rfl

/-- The last point only fills other outputs: it keeps the state. -/
theorem after_last (t : Fin cfg0.N) (h0 : ¬t.val < 64) :
    (outsAt0 m c t.val t.isLt).2.2.2.1 = (outsAt0 m c (t.val - 1) (Nat.lt_of_le_of_lt (Nat.sub_le _ _) t.isLt)).2.2.2.1 := by
  have hN : t.val < 65 := lt_of_lt_of_eq t.isLt (show cfg0.N = 65 from N_0)
  rw [outsAt0_C m c t h0 (by omega)]
  rfl

/-- Where the state is written back, and to which block. -/
theorem written : ∀ t : Fin cfg0.N, (cfg0.win 18).flush t = true →
    ((t.val < 64 ∧ t.val % 16 = 15) ∨ t.val = 64) ∧ win0_18.index t = ![min (t.val / 16) 3, 0, 0, 0] := by decide +kernel

/-- The result: each sequence's state after all of its rows. -/
theorem result (b : Fin 4) (h : Fin 4) (d : Fin 256) (e : Fin 512) :
    (dats m 0 c).arrAt 18 cfg0.N (ix4 b h d e) = stateOf m c b h d e 8192 := by
  have key : (dats m 0 c).arrAt 18 cfg0.N = fun y : S4x4x256x512.Idx => stateOf m c (y 0) (y 1) (y 2) (y 3) 8192 := by
    refine (dats m 0 c).arrAt_eq_of_covers 18 _ (by decide +kernel) fun t hf y => ?_
    have hw := written t hf
    blk_simp
    rw [after0_18]
    have hy : ∀ y : S1x4x256x512.Idx, y = ix4 0 (y 1) (y 2) (y 3) := fun y => by
      blk_ext
    have he : (win0_18.blk t).view.emb y = ix4 ⟨min (t.val / 16) 3, by omega⟩ (y 1) (y 2) (y 3) := by
      blk_ext [hw.2]
    rw [he, hy y]
    show _ = stateOf m c ⟨min (t.val / 16) 3, by omega⟩ (y 1) (y 2) (y 3) 8192
    rcases hw.1 with ⟨h0, h1⟩ | h1
    · have ha := after_point m c t.val t.isLt h0 (y 1) (y 2) (y 3)
      exact ha.trans (same m c _ _ _ (Fin.ext (by dsimp only; omega)) (by omega))
    · have h0 : ¬t.val < 64 := by omega
      have hp : t.val - 1 = 63 := by omega
      rw [after_last m c t h0]
      refine (after_point m c (t.val - 1) (Nat.lt_of_le_of_lt (Nat.sub_le _ _) t.isLt) (by omega) (y 1) (y 2) (y 3)).trans ?_
      exact same m c _ _ _ (Fin.ext (by dsimp only; omega)) (by omega)
  exact congrFun key (ix4 b h d e)

end Cert.KernelIdeal.Final

end
-- ==== Proof.Final.lean ====
/- The array of states after all rows, which both programs leave. -/
module

public import proofs.«01_k».proof.Proof.Keys

@[expose] public section

noncomputable section

namespace Cert.Final

open Idealize.ShloMosaic Cert.Recur Cert.Keys

/-- Every sequence's state, head by head, after its 8192 rows. -/
def final (X : Rows) (W : Weights) : (⟨4, ![4, 4, 256, 512]⟩ : Shape).Idx → EReal :=
  fun y => decayed (lg (y 1).val) (key X W (y 0) (y 1).val (y 2).val) (value X W (y 0) (y 1).val (y 3).val) 8192

/-- An array is that one once it is so at every sequence, head, key column and value column. -/
theorem eq_final (X : Rows) (W : Weights) (f : (⟨4, ![4, 4, 256, 512]⟩ : Shape).Idx → EReal)
    (hf : ∀ (b : Fin 4) (h : Fin 4) (d : Fin 256) (e : Fin 512),
      f (ix4 b h d e) = decayed (lg h) (key X W b h d) (value X W b h e) 8192) : f = final X W := by
  funext y
  have e := hf (y 0) (y 1) (y 2) (y 3)
  rw [ix4_eta] at e
  exact e

end Cert.Final

end
-- ==== Proof.KernelRun.lean ====
/- The idealized kernel's run: its result is the recurrence's closed form after all rows, and its arguments are unchanged. -/
module

public import proofs.«01_k».proof.Proof.KernelState
public import proofs.«01_k».proof.Proof.FrameBody
public import proofs.«01_k».proof.Proof.Final

@[expose] public section

set_option maxRecDepth 16384

noncomputable section

namespace Cert.KernelIdeal.Final

open Idealize.ShloMosaic Idealize.ShloMosaic.TcCoe Idealize.SL.Sem Cert.KernelIdeal Cert.KernelIdeal.Gen Cert.KernelIdeal.Hand Cert.KernelIdeal.Point
  Cert.Final

variable (m : (ℓ : Loc nD τ sig) → Buf (Elt Ideal) ℓ) (ρ : Dev nD → PrngReg)

/-- Every execution ends with each sequence's state after its 8192 rows in the result, and every argument as it was. -/
theorem run : θ_run (defs (F := Ideal)) (onTc (τ := τ) (main (F := Ideal))) ⟨m, fun _ => 0, ρ⟩ (fun r => ∀ c : Dev nD,
      r.2.mem ((c.tc : Thread nD τ).loc main_v79_3) = final (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ⟨?_, h.2 c⟩) (θ_run_and (run_main m ρ) (unchanged m ρ))
  exact ((h.1 c).1 18).trans (eq_final (X m c) (W m c) _ fun b h d e => result m c b h d e)

end Cert.KernelIdeal.Final

end
-- ==== Proof.RefState.lean ====
/- What the reference's loop leaves in its state, as the recurrence's closed form over its keys and values. -/
module

public import proofs.«01_k».proof.Proof.Keys
public import proofs.«01_k».proof.Proof.Gen.ReferenceIdeal.Step
public import Idealize.ShloMosaic.Lib.Pointwise

@[expose] public section

set_option maxRecDepth 16384

noncomputable section

namespace Cert.RefState

open Idealize.ShloMosaic Cert.ReferenceIdeal Cert.ReferenceIdeal.Gen Cert.ReferenceIdeal.Step Cert.Recur Cert.Keys

variable (X : (⟨S4x8192x1024, .f32⟩ : BufTy).Contents (Elt Ideal)) (W : (⟨S1x1024x6144, .f32⟩ : BufTy).Contents (Elt Ideal))

/-- A small number as a signed word is itself. -/
theorem toInt_small (n : ℕ) (hn : n < 65536) : (BitVec.ofNat 32 n).toInt = n := by
  have h : (BitVec.ofNat 32 n).toNat = n := by rw [BitVec.toNat_ofNat]; omega
  rw [BitVec.toInt_eq_toNat_of_lt (by omega), h]

/-- Trip `j` reads block `j` of the keys, -/
theorem keys_slice (j : ℕ) (hj : j < 128) (s : State Ideal) (b : Fin 4) (r : Fin 64) (h : Fin 4) (d : Fin 256) :
    b5 j s (ix4 b r h d) = s.main_v58_0 (ix5 ⟨j, hj⟩ b r h d) := by
  have e : ((BitVec.ofNat 32 j).toInt : ℤ) = j := by
    exact toInt_small j (by omega)
  pointwise [b5, b4, b0, b1, b2, b3]
  refine congrArg _ ?_
  simp only [ix5_inj, Fin.ext_iff]
  refine ⟨Host.clampedStart_of_le _ _ _ j e (show j + 1 ≤ 128 by omega), ?_, ?_, ?_, ?_⟩
  all_goals rw [Host.clampedStart_of_le _ _ _ 0 rfl (by decide), Nat.zero_add]

/-- and block `j` of the values. -/
theorem vals_slice (j : ℕ) (hj : j < 128) (s : State Ideal) (b : Fin 4) (r : Fin 64) (h : Fin 4) (e : Fin 512) :
    b11 j s (ix4 b r h e) = s.main_v58_1 (ix5 ⟨j, hj⟩ b r h e) := by
  have i : ((BitVec.ofNat 32 j).toInt : ℤ) = j := by
    exact toInt_small j (by omega)
  pointwise [b11, b10, b6, b7, b8, b9]
  refine congrArg _ ?_
  simp only [ix5_inj, Fin.ext_iff]
  refine ⟨Host.clampedStart_of_le _ _ _ j i (show j + 1 ≤ 128 by omega), ?_, ?_, ?_, ?_⟩
  all_goals rw [Host.clampedStart_of_le _ _ _ 0 rfl (by decide), Nat.zero_add]

theorem lg_at (h : Fin 4) : K_main_v51 (F := Ideal) (ix1 h) = (lg h : EReal) := by
  pointwise [K_main_v51, K_main_v50, K_main_v49, K_main_cst_4, K_main_v48, K_main_v47, K_main_cst_3, K_main_v46, K_main_v45, K_main_cst_2,
    K_main_v44]
  have e2 : Ideal.ofBits .f32 1073741824#32 = ((2 : ℝ) : EReal) := by
    simp [Ideal.ofBits, Ideal.ieee, -EReal.coe_mul]; norm_num
  have e5 : Ideal.ofBits .f32 3231711232#32 = ((-5 : ℝ) : EReal) := by
    simp [Ideal.ofBits, Ideal.ieee, -EReal.coe_mul]; norm_num
  have eh : (FloatOps.sitofp .f32 (BitVec.ofNat 32 (h : ℕ)) : Ideal .f32) = ((h : ℝ) : EReal) := by
    show (((BitVec.ofNat 32 (h : ℕ)).toInt : ℝ) : EReal) = _
    rw [toInt_small h (by omega)]; simp
  rw [e2, e5, eh, ← EReal.coe_sub, Ideal.pow_coe_coe, ← EReal.coe_one, ← EReal.coe_sub, Ideal.log_coe, if_neg]
  · rfl
  · rw [not_le, sub_pos, Real.rpow_eq_pow]
    exact Real.rpow_lt_one_of_one_lt_of_neg (by norm_num) (by have : (0:ℝ) ≤ (h : ℕ) := Nat.cast_nonneg _; linarith)

theorem lanes_at (r : Fin 64) : K_main_v52 (F := Ideal) (ix1 r) = ((r : ℝ) : EReal) := by
  pointwise [K_main_v52]
  show (((BitVec.ofNat 32 (r : ℕ)).toInt : ℝ) : EReal) = _
  rw [toInt_small r (by omega)]; simp

/-- One trip: the state scaled by `e^(64 lg)`, and the block's keys, decayed to the block's end, times its values. -/
theorem step_at (j : ℕ) (hj : j < 128) (s : State Ideal) (b : Fin 4) (h : Fin 4) (d : Fin 256) (e : Fin 512) :
    b32 j s (ix4 b h d e) = ((Real.exp (lg h * (64 : ℕ)) : ℝ) : EReal) * s.main_v58_5 (ix4 b h d e)
      + ∑ r ∈ Finset.range 64, (if hr : r < 64 then (s.main_v58_0 (ix5 ⟨j, hj⟩ b ⟨r, hr⟩ h d)
          * ((Real.exp (lg h * (((64 : ℕ) : ℝ) - 1 - r)) : ℝ) : EReal)) * s.main_v58_1 (ix5 ⟨j, hj⟩ b ⟨r, hr⟩ h e) else 0) := by
  have e63 : Ideal.ofBits .f32 1115422720#32 = ((63 : ℝ) : EReal) := by
    simp [Ideal.ofBits, Ideal.ieee, -EReal.coe_mul]; norm_num
  have e64 : Ideal.ofBits .f32 1115684864#32 = ((64 : ℝ) : EReal) := by
    simp [Ideal.ofBits, Ideal.ieee, -EReal.coe_mul]; norm_num
  rw [Finset.sum_range]
  pointwise [b32, b31, b30, b29, b28, b27, b26, b25, b24, b23, b22, b21, b20, b19, b18, b17, b16, b15, b14, b13, b12]
  simp only [keys_slice j hj, vals_slice j hj, lg_at, lanes_at]
  rw [e63, e64]
  simp only [← EReal.coe_mul, ← EReal.coe_sub, Ideal.exp_coe]
  refine congrArg₂ (· + ·) ?_ (Finset.sum_congr rfl fun r _ => ?_)
  · norm_num
  · norm_num

/-- The rotation's cosines -/
theorem cos_at (n : Fin 8192) (d : Fin 128) : K_main_v20 (F := Ideal) (ix2 n d) = Ideal.cos (angle n d) := by
  pointwise [K_main_v20, K_main_v19, K_main_v18, K_main_v17, K_main_v16, K_main_v15, K_main_v14, K_main_v13, K_main_v12, K_main_v11, K_main_v10, K_main_v9,
    K_main_v8, K_main_cst, K_main_cst_0, K_main_v0]
  rfl

/-- and sines. -/
theorem sin_at (n : Fin 8192) (d : Fin 128) : K_main_v22 (F := Ideal) (ix2 n d) = Ideal.sin (angle n d) := by
  pointwise [K_main_v22, K_main_v19, K_main_v18, K_main_v17, K_main_v16, K_main_v15, K_main_v14, K_main_v13, K_main_v12, K_main_v11, K_main_v10, K_main_v9,
    K_main_v8, K_main_cst, K_main_cst_0, K_main_v0]
  rfl

/-- The keys the loop is handed, block by block, -/
theorem keys_at (j : Fin 128) (b : Fin 4) (r : Fin 64) (h : Fin 4) (d : Fin 256) :
    A_main_v55 X W (ix5 j b r h d) = key X W b h d (j * 64 + r) := by
  pointwise [A_main_v55, A_main_v54, A_main_v42, A_main_v40, A_main_v39, A_main_v38, A_main_v35, A_main_v32, A_main_v31, A_main_v28, A_main_v25,
    A_main_v24, A_main_v7, A_main_v4, A_main_v2, A_main_v1, K_main_v41, K_main_cst_1, K_main_v37, K_main_v36, K_main_v34, K_main_v33, K_main_v30, K_main_v29,
    K_main_v27, K_main_v26, K_main_v23, K_main_v21]
  have hn : (j : ℕ) * 64 + r < 8192 := by omega
  simp only [cos_at, sin_at]
  unfold key
  by_cases hd : (d : ℕ) < 128
  · have e1 := proj_of X W b _ (1024 + (h * 256 + d)) hn (by omega)
    have e2 := proj_of X W b _ (1024 + (h * 256 + (128 + d))) hn (by omega)
    simp only [hd, ↓reduceDIte, ↓reduceIte, e1, e2]
  · have e1 := proj_of X W b _ (1024 + (h * 256 + (d - 128))) hn (by omega)
    have e2 := proj_of X W b _ (1024 + (h * 256 + (128 + (d - 128)))) hn (by omega)
    simp only [hd, ↓reduceDIte, ↓reduceIte, e1, e2]

/-- and the values. -/
theorem vals_at (j : Fin 128) (b : Fin 4) (r : Fin 64) (h : Fin 4) (e : Fin 512) :
    A_main_v57 X W (ix5 j b r h e) = value X W b h e (j * 64 + r) := by
  pointwise [A_main_v57, A_main_v56, A_main_v43, A_main_v5, A_main_v2, A_main_v1]
  rw [value, proj_of X W b _ _ (by omega) (by omega)]

variable (it : ℕ → State Ideal) (h0 : it 0 = init X W) (hs : ∀ n, it (n + 1) = step n (it n))
include h0 hs

/-- No trip changes the keys or the values. -/
theorem held (j : ℕ) : (it j).main_v58_0 = A_main_v55 X W ∧ (it j).main_v58_1 = A_main_v57 X W := by
  induction j with
  | zero => rw [h0]; exact ⟨rfl, rfl⟩
  | succ j ih => rw [hs]; exact ih

/-- After `j` trips the state holds the outer products of the first `64 j` rows, each decayed to row `64 j`. -/
theorem state_at (j : ℕ) (hj : j ≤ 128) (b : Fin 4) (h : Fin 4) (d : Fin 256) (e : Fin 512) :
    (it j).main_v58_5 (ix4 b h d e) = decayed (lg h) (key X W b h d) (value X W b h e) (j * 64) := by
  induction j with
  | zero =>
    rw [h0, Nat.zero_mul, decayed_zero]
    show K_main_v53 (F := Ideal) (ix4 b h d e) = 0
    pointwise [K_main_v53, K_main_cst_5]
  | succ j ih =>
    rw [hs, step_main_v58_5, step_at j (by omega), ih (by omega), Nat.succ_mul, ← decayed_add]
    refine congrArg _ (Finset.sum_congr rfl fun r hr => ?_)
    have hr' := Finset.mem_range.mp hr
    rw [dif_pos hr', (held X W it h0 hs j).1, (held X W it h0 hs j).2, keys_at, vals_at]

end Cert.RefState

end
-- ==== Proof.RefRun.lean ====
/- The reference's run: its result is the same closed form, and its arguments are unchanged. -/
module

public import proofs.«01_k».proof.Proof.RefState
public import proofs.«01_k».proof.Proof.Gen.ReferenceIdeal.StepRun
public import Idealize.ShloMosaic.Lib.Quiescent
public import proofs.«01_k».proof.Proof.Final

@[expose] public section

set_option maxRecDepth 16384

noncomputable section

namespace Cert.RefRun

open Idealize.ShloMosaic Idealize.ShloMosaic.TcCoe Idealize.SL.Sem Cert.ReferenceIdeal Cert.ReferenceIdeal.Gen Cert.ReferenceIdeal.Step
  Cert.ReferenceIdeal.StepRun Cert.Recur Cert.Keys Cert.RefState Cert.Final

variable (m : (ℓ : Loc nD τ sig) → Buf (Elt Ideal) ℓ) (ρ : Dev nD → PrngReg)

/-- The loop's states, trip after trip. -/
def states (c : Dev nD) : ℕ → State Ideal
  | 0 => initState m c
  | n + 1 => step n (states c n)

/-- Every execution ends with each sequence's state after its 8192 rows in the result, and every argument as it was. -/
theorem run : θ_run (defs (F := Ideal)) (onTc (τ := τ) (main (F := Ideal))) ⟨m, fun _ => 0, ρ⟩ (fun r => ∀ c : Dev nD,
      r.2.mem ((c.tc : Thread nD τ).loc main_v58_5) = final (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ⟨(h c).1.trans (eq_final _ _ _ fun b h d e => ?_), (h c).2⟩)
    (run_iter m ρ (states m) (fun _ => rfl) (fun _ _ => rfl))
  exact state_at _ _ (states m c) rfl (fun _ => rfl) 128 le_rfl b h d e

/-- The same with every counter at zero: the program has none. -/
theorem frame : θ_run (defs (F := Ideal)) (onTc (τ := τ) (main (F := Ideal))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => (h c).2, sem_eq_zero_of_no_sems (by decide) r.2⟩) (run m ρ)

end Cert.RefRun

end
-- ==== Proof.ExpertsBase.lean ====
/- The experts' call: its tables, its windows' blocks, and what a run of it leaves of its arguments. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arguments on device `c` are in the memory `m'` as they are in `m`. -/
abbrev Kept {F : FTy → Type} (m m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- The call is the whole of the program. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the call is entered. -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The experts' table and the number of tiles in use keep every window's block inside its array. -/
abbrev Ok : Prop := ok0 (F := F) (tbl m)
/-- The call at those tables. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S168 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c`, and half of it held at `f`: the body only reads it. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the body is handed, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, if the body leaves it in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, if the body leaves it in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, if the body leaves it in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, if the body leaves it in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run of the pipeline leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      Kept m r.2.mem c) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-- One staging buffer of the output, through which its contents are stated. -/
abbrev VO0_4 : View sig .tc .vmem S512x1024 .bf16 := (Memref.whole cc0_stg4_0 : Memref sig .tc .vmem S512x1024 .bf16).view
/-- Each window's staging buffer at point `t`. -/
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gemm (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The one index of a table of one word. -/
def at0 : S1.Idx := fun a => ⟨0, by revert a; decide⟩

theorem eq_at0 (i : S1.Idx) : i = at0 := by
  funext a
  fin_cases a
  exact Subsingleton.elim (α := Fin 1) _ _

/-- The number of tiles in use, as the second table holds it. -/
abbrev used : BitVec 32 := (tbl m 1 : S1.Idx → BitVec 32) at0

/-- Every one of the call's tiles is in use: the body does not skip any. -/
def AllUsed : Prop := ∀ i : grid0.Coords, k0_cond1 i (used m) = 1#1

theorem word_eq (T : S1.Idx → BitVec 32) : View.readAt (Elt F) (tbM0_1).view (Rect.unit (s := S1) ![0] S1.size inb_S1_S1_0).toLoadRect T (Shape.Idx.first (numel1_S1.symm ▸ Nat.one_pos))
    = T at0 := by
  exact congrArg T (eq_at0 _)

end Cert.ExpertsIdeal.Hand

end
-- ==== Proof.ExpertsBody.lean ====
/- The experts' body run on one tile in use. -/
module

public import proofs.«01_k».proof.Proof.ExpertsBase

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On a tile in use the body runs to its end, with what it wrote into the output's buffer. -/
noncomputable def kernelRun0_A (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_gemm i tbM0_0 htbM0_0 tbM0_1 htbM0_1 arg3 harg3 arg4 harg4 arg5 harg5 arg6 harg6 arg7 harg7) K } := by
  refine ⟨?_, fun E K => ?run⟩
  case run =>
    simp only [cc0_moe_gemm_eq_skeleton]; unfold cc0_moe_gemm_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec! (disch := first | (guard_target = k0_cond1 _ _ = _; exact hc))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.ExpertsIdeal.Hand

end
-- ==== Proof.ExpertsFrame.lean ====
/- The experts' call at every tile: what it leaves, and that it leaves its arguments alone. -/
module

public import proofs.«01_k».proof.Proof.ExpertsBody
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test at any of the call's tiles. -/
theorem cond_at (hU : AllUsed m) (i : grid0.Coords) : k0_cond1 i (View.readAt (Elt F) (tbM0_1).view (Rect.unit (s := S1) ![0] S1.size inb_S1_S1_0).toLoadRect (tbl m 1) (Shape.Idx.first (numel1_S1.symm ▸ Nat.one_pos))) = 1#1 := by
  exact (congrArg (k0_cond1 i) (word_eq (F := F) (tbl m 1))).trans (hU i)

/-- So the output's buffer is written at every tile. -/
theorem idle_4 (hO : Ok m) (hU : AllUsed m) (t : Fin (cfgM m hO).N) : (cfgM m hO).idle (4 : Fin 5) ((cfgM m hO).grid.coords t) = false := by
  show (!(k0_cond1 ((cfgM m hO).grid.coords t) ((tbl m).atD 1 ![0]) == 1#1)) = false
  have e : (tbl m).atD 1 ![0] = used m := by
    exact (dif_pos (show ∀ a, (![0] : Fin 1 → ℕ) a + 1 ≤ S1.size a by decide)).trans (congrArg (tbl m 1) (eq_at0 _))
  rw [e, hU]; rfl

/-- What is written covers the output's block. -/
theorem cover0_A_4 (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) (y : S512x1024.Idx) :
    ∃ pc ∈ (kernelRun0_A c i arg3 harg3 arg4 harg4 arg5 harg5 arg6 harg6 arg7 harg7 x0 x1 x2 x3 xt0 xt1 hc).1, y ∈ pc.1.set :=
  View.cover_of_tiledL (kernelRun0_A c i arg3 harg3 arg4 harg4 arg5 harg5 arg6 harg6 arg7 harg7 x0 x1 x2 x3 xt0 xt1 hc).1 S512x1024.size (by sl_kernel_rfl) y

/-- What the run leaves in the output's buffer. -/
def out0_A_4 (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) : Vec F S512x1024 .bf16 :=
  VO0_4.read (Elt F) (VO0_4.writes (Elt F) VO0_4.junk (kernelRun0_A c i arg3 harg3 arg4 harg4 arg5 harg5 arg6 harg6 arg7 harg7 x0 x1 x2 x3 xt0 xt1 hc).1)

/-! ## What the outputs hold after each point -/

/-- What the output's buffer holds after point `t`. -/
def outsAt0 (hO : Ok m) (hU : AllUsed m) (c : Dev nD) (t : Fin (cfgM m hO).N) : Vec F S512x1024 .bf16 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (cond_at m hU _)

/-! ## The pipeline's proof data -/

/-- What every buffer holds, point after point. -/
def dats (hO : Ok m) (hU : AllUsed m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hU c t)
  Φ _ := iprop(Pipeline.ΦA spec0 c ∗ Pipeline.ΦT pre0 (tbl m) c)
  q _ := fullShare
  owed _ := 0

/-- The arrays are as the call finds them. -/
theorem A_eq (hO : Ok m) (hU : AllUsed m) (c : Dev nD) (w : Fin (cfgM m hO).W) : (dats m hO hU 0 c).A w = V m c (Pipeline.arrRef spec0 w) := by
  dsimp only [dats]

/-- What the body leaves, window by window. -/
theorem after0_0 (hO : Ok m) (hU : AllUsed m) (c : Dev nD) (t : Fin (cfgM m hO).N) : (dats m hO hU 0 c).after 0 t = iblk m hO c 0 t := by dsimp only [dats]; try rfl
theorem after0_1 (hO : Ok m) (hU : AllUsed m) (c : Dev nD) (t : Fin (cfgM m hO).N) : (dats m hO hU 0 c).after 1 t = iblk m hO c 1 t := by dsimp only [dats]; try rfl
theorem after0_2 (hO : Ok m) (hU : AllUsed m) (c : Dev nD) (t : Fin (cfgM m hO).N) : (dats m hO hU 0 c).after 2 t = iblk m hO c 2 t := by dsimp only [dats]; try rfl
theorem after0_3 (hO : Ok m) (hU : AllUsed m) (c : Dev nD) (t : Fin (cfgM m hO).N) : (dats m hO hU 0 c).after 3 t = iblk m hO c 3 t := by dsimp only [dats]; try rfl
theorem after0_4 (hO : Ok m) (hU : AllUsed m) (c : Dev nD) (t : Fin (cfgM m hO).N) : (dats m hO hU 0 c).after 4 t = (outsAt0 m hO hU c t) := by dsimp only [dats]; try rfl

/-- Each input's buffer holds its block at every point. -/
theorem before0_0 (hO : Ok m) (hU : AllUsed m) (c : Dev nD) (t : Fin (cfgM m hO).N) (d) : (dats m hO hU 0 c).before 0 t d = iblk m hO c 0 t :=
  before0_0_of m hO (dats m hO hU 0 c) (A_eq m hO hU c 0) (after0_0 m hO hU c) t d
theorem before0_1 (hO : Ok m) (hU : AllUsed m) (c : Dev nD) (t : Fin (cfgM m hO).N) (d) : (dats m hO hU 0 c).before 1 t d = iblk m hO c 1 t :=
  before0_1_of m hO (dats m hO hU 0 c) (A_eq m hO hU c 1) (after0_1 m hO hU c) t d
theorem before0_2 (hO : Ok m) (hU : AllUsed m) (c : Dev nD) (t : Fin (cfgM m hO).N) (d) : (dats m hO hU 0 c).before 2 t d = iblk m hO c 2 t :=
  before0_2_of m hO (dats m hO hU 0 c) (A_eq m hO hU c 2) (after0_2 m hO hU c) t d
theorem before0_3 (hO : Ok m) (hU : AllUsed m) (c : Dev nD) (t : Fin (cfgM m hO).N) (d) : (dats m hO hU 0 c).before 3 t d = iblk m hO c 3 t :=
  before0_3_of m hO (dats m hO hU 0 c) (A_eq m hO hU c 3) (after0_3 m hO hU c) t d

/-! ## The body obligation, at a generic point -/

/-- What the body is called with at point `t`, -/
def bodyPre (hO : Ok m) (hU : AllUsed m) (c : Dev nD) (t : Fin (cfgM m hO).N) : sProp 𝕄 :=
  iprop((dats m hO hU 0 c).Φ t.castSucc ∗ (dats m hO hU 0 c).owesAt () t.castSucc
    ∗ (∃ d, owns (c : Thread nD τ) (ms0_0 m hO t) fullShare ((dats m hO hU 0 c).before 0 t d))
    ∗ (∃ d, owns (c : Thread nD τ) (ms0_1 m hO t) fullShare ((dats m hO hU 0 c).before 1 t d))
    ∗ (∃ d, owns (c : Thread nD τ) (ms0_2 m hO t) fullShare ((dats m hO hU 0 c).before 2 t d))
    ∗ (∃ d, owns (c : Thread nD τ) (ms0_3 m hO t) fullShare ((dats m hO hU 0 c).before 3 t d))
    ∗ (∃ d, owns (c : Thread nD τ) (ms0_4 m hO t) fullShare ((dats m hO hU 0 c).before 4 t d)))

/-- and what it returns. -/
def bodyPost (hO : Ok m) (hU : AllUsed m) (c : Dev nD) (t : Fin (cfgM m hO).N) : sProp 𝕄 :=
  iprop((dats m hO hU 0 c).Φ t.succ ∗ (dats m hO hU 0 c).owesAt () t.succ
    ∗ owns (c : Thread nD τ) (ms0_0 m hO t) fullShare ((dats m hO hU 0 c).after 0 t)
    ∗ owns (c : Thread nD τ) (ms0_1 m hO t) fullShare ((dats m hO hU 0 c).after 1 t)
    ∗ owns (c : Thread nD τ) (ms0_2 m hO t) fullShare ((dats m hO hU 0 c).after 2 t)
    ∗ owns (c : Thread nD τ) (ms0_3 m hO t) fullShare ((dats m hO hU 0 c).after 3 t)
    ∗ owns (c : Thread nD τ) (ms0_4 m hO t) fullShare ((dats m hO hU 0 c).after 4 t))

/-- The body at any point. -/
theorem sound_body (hO : Ok m) (hU : AllUsed m) (c : Dev nD) (t : Fin (cfgM m hO).N) :
    bodyPre m hO hU c t ⊢ wp frame (wpE (defs₀ (F := F)) Variants.none c none) Set.univ (bodyAt0 (adm m hO) t) (fun _ => bodyPost m hO hU c t) := by
  unfold bodyPre bodyPost bodyAt0
  simp only [before0_0, before0_1, before0_2, before0_3]
  rw [show (dats m hO hU 0 c).Φ t.succ = (dats m hO hU 0 c).Φ t.castSucc from rfl,
    show (dats m hO hU 0 c).owesAt () t.succ = (dats m hO hU 0 c).owesAt () t.castSucc from rfl,
    after0_0, after0_1, after0_2, after0_3, after0_4]
  rw [show (dats m hO hU 0 c).Φ t.castSucc = iprop(Pipeline.ΦA spec0 c ∗ Pipeline.ΦT pre0 (tbl m) c) from rfl, PhiT0_eq]
  unfold outsAt0
  unfold out0_A_4
  iintro ⟨⟨HΦ, ⟨HT0, HT1⟩⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (tbl m 1) (cond_at m hU _)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, ⟨%e4, H4⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _)

/-- The body the pipeline calls at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body at every point, as the pipeline asks for it. -/
theorem body_obligation (hO : Ok m) (hU : AllUsed m) (c : Dev nD) : BodyObligation (dats (F := F) m hO hU 0 c) (defs₀ (F := F)) Variants.none () Set.univ := fun t => by
  rw [bigSep_W0, bigSep_W0, defs₀_row m hO]
  rewrite [idle_4 m hO hU t]
  exact triple_restated (sound_body m hO hU c t) rfl .rfl fun _ => .rfl

/-! ## The run and the frame -/

set_option backward.isDefEq.respectTransparency.types false in
/-- Every execution ends with the arrays the points' buffers make up, and every counter at zero. -/
theorem run_main_quiescent (hO : Ok m) (hU : AllUsed m) : θ_run defs (onTc (τ := τ) (main (F := F))) (s₀ m ρ) (fun r => (Pipeline.FramePost (Pipeline.pin pcfgs fun _ => adm m hO) (dats m hO hU) 0 (V m)) r ∧ r.2.sem = fun _ => 0) :=
  Pipeline.θ_run_frameP (Q' := _) pcfgs (fun _ => adm m hO) (dats m hO hU) (0 : Fin 1) launch0 defs₀ Variants.none m ρ main
    (hbody := fun c => (body_obligation m hO hU c).loose) (hshare := fun c => (dats m hO hU 0 c).share_full fun _ => rfl)
    (howed := fun _ _ => rfl) (V := V m) (hmain := hmain m Variants.none) (hA := A_eq m hO hU) (hpf := V_pre m)
    (hΦ := fun _ _ => rfl)

/-- The same without the counters. -/
theorem run_main (hO : Ok m) (hU : AllUsed m) : θ_run defs (onTc (τ := τ) (main (F := F))) (s₀ m ρ) (Pipeline.FramePost (Pipeline.pin pcfgs fun _ => adm m hO) (dats m hO hU) 0 (V m)) :=
  (θ_run defs _ _).mono (fun _ h => h.1) (run_main_quiescent m ρ hO hU)

/-- Every argument ends as it was. -/
theorem unchanged (hO : Ok m) (hU : AllUsed m) : θ_run defs (onTc (τ := τ) (main (F := F))) ⟨m, fun _ => 0, ρ⟩ (fun r => ∀ c : Dev nD,
      Kept m r.2.mem c) :=
  frame_of m ρ hO (dats m hO hU) (A_eq m hO hU) (run_main m ρ hO hU)

/-- Every execution ends with every argument as it was and every counter at zero. -/
theorem frame (hO : Ok m) (hU : AllUsed m) : θ_run defs (onTc (τ := τ) (main (F := F))) ⟨m, fun _ => 0, ρ⟩ (fun r => (∀ c : Dev nD,
      Kept m r.2.mem c)
      ∧ r.2.sem = fun _ => 0) :=
  θ_run_and (unchanged m ρ hO hU) ((θ_run defs _ _).mono (fun _ h => h.2) (run_main_quiescent m ρ hO hU))

end Cert.ExpertsIdeal.Hand

end
-- ==== Proof.ExpertsWords.lean ====
/- The index maps' arithmetic on 32-bit words: a tile in use is not capped. -/
module

public import Idealize.ShloMosaic.Lib.WordCmp

@[expose] public section

noncomputable section

namespace Cert.ExpertsWords

open Idealize.ShloMosaic

/-- The `n`th tile from tile `T` on. -/
theorem add_tile (T n : ℕ) : Scalar.addi (BitVec.ofNat 32 T) (BitVec.ofNat 32 n) = BitVec.ofNat 32 (T + n) := (BitVec.ofNat_add T n).symm

/-- A tile's number below the number of tiles in use is not capped by it. -/
theorem min_used (n : ℕ) (nu : BitVec 32) (hn : n < 168) (h : (n : ℤ) < nu.toInt) :
    Scalar.minsi (BitVec.ofNat 32 n) (Scalar.subi nu 1#32) = BitVec.ofNat 32 n := by
  have hp : nu.toNat < 2 ^ 31 := (WordCmp.toInt_nonneg_iff_lt_half nu).mp (by omega)
  have e : (BitVec.ofNat 32 n).toInt = n := WordCmp.toInt_ofNat_of_lt (by omega)
  have e0 : nu.toInt = nu.toNat := WordCmp.toInt_eq_toNat_of_lt_half hp
  have e1 : (nu - 1#32).toNat = nu.toNat - 1 := by rw [BitVec.toNat_sub]; simp only [BitVec.toNat_ofNat]; omega
  have e2 : (nu - 1#32).toInt = nu.toNat - 1 := by
    rw [WordCmp.toInt_eq_toNat_of_lt_half (by rw [e1]; omega), e1]; omega
  show (if (BitVec.ofNat 32 n).slt (nu - 1#32) then BitVec.ofNat 32 n else nu - 1#32) = _
  split
  · rfl
  · rename_i hc
    have hc' : ¬ (BitVec.ofNat 32 n).toInt < (nu - 1#32).toInt := fun hl => hc (by rw [BitVec.slt]; exact decide_eq_true hl)
    refine BitVec.eq_of_toNat_eq ?_
    rw [e1, BitVec.toNat_ofNat]; omega

/-- Nor is a tile's number raised to the call's first tile, or to zero. -/
theorem max_tile (T n : ℕ) (hn : n < 168) (h : T ≤ n) : Scalar.maxsi (BitVec.ofNat 32 n) (BitVec.ofNat 32 T) = BitVec.ofNat 32 n := by
  have e : (BitVec.ofNat 32 n).toInt = n := WordCmp.toInt_ofNat_of_lt (by omega)
  have e' : (BitVec.ofNat 32 T).toInt = T := WordCmp.toInt_ofNat_of_lt (by omega)
  show (if (BitVec.ofNat 32 T).slt (BitVec.ofNat 32 n) then BitVec.ofNat 32 n else BitVec.ofNat 32 T) = _
  split
  · rfl
  · rename_i hc
    have hc' : ¬ (BitVec.ofNat 32 T).toInt < (BitVec.ofNat 32 n).toInt := fun hl => hc (by rw [BitVec.slt]; exact decide_eq_true hl)
    exact congrArg (BitVec.ofNat 32) (by omega)

/-- A tile's number within its call. -/
theorem sub_tile (T n : ℕ) (hn : T + n < 168) : Scalar.subi (BitVec.ofNat 32 (T + n)) (BitVec.ofNat 32 T) = BitVec.ofNat 32 n := by
  show BitVec.ofNat 32 (T + n) - BitVec.ofNat 32 T = _
  rw [BitVec.ofNat_add, BitVec.add_comm, BitVec.add_sub_cancel]

/-- The output's block at the call's `n`th tile, -/
theorem out_tile (T n : ℕ) (nu : BitVec 32) (hn : T + n < 168) (h : ((T + n : ℕ) : ℤ) < nu.toInt) :
    (Scalar.maxsi (Scalar.minsi (Scalar.addi (BitVec.ofNat 32 T) (BitVec.ofNat 32 n)) (Scalar.subi nu 1#32)) (BitVec.ofNat 32 T)).toNat = T + n := by
  rw [add_tile, min_used _ _ hn h, max_tile _ _ hn (by omega), BitVec.toNat_ofNat]; omega

/-- and the rows' block. -/
theorem in_tile (T n : ℕ) (nu : BitVec 32) (hn : T + n < 168) (h : ((T + n : ℕ) : ℤ) < nu.toInt) :
    (Scalar.maxsi (Scalar.subi (Scalar.minsi (Scalar.addi (BitVec.ofNat 32 T) (BitVec.ofNat 32 n)) (Scalar.subi nu 1#32)) (BitVec.ofNat 32 T)) 0#32).toNat = n := by
  rw [add_tile, min_used _ _ hn h, sub_tile _ _ hn, max_tile 0 _ (by omega) (by omega), BitVec.toNat_ofNat]; omega

/-- The body's test at a tile in use. -/
theorem test_tile (T n : ℕ) (nu : BitVec 32) (hn : T + n < 168) (h : ((T + n : ℕ) : ℤ) < nu.toInt) :
    IntOp.cmpi .slt (Scalar.addi (BitVec.ofNat 32 T) (BitVec.ofNat 32 n)) nu = 1#1 := by
  rw [add_tile, WordCmp.cmpi_slt_eq, WordCmp.ofBool_decide_eq_one_iff, WordCmp.toInt_ofNat_of_lt (by omega)]; exact h

end Cert.ExpertsWords

end
-- ==== Proof.ExpertsTables.lean ====
/- The experts' call under its precondition: every block lies in its array, every tile is in use, and each window's block is the tile's own. -/
module

public import proofs.«01_k».proof.Proof.ExpertsBase
public import proofs.«01_k».proof.Proof.ExpertsWords
public import proofs.«01_k».proof.Proof.Gen.Pre_tiles_in_use
public import Idealize.ShloMosaic.Lib.ReduceAll
public import Idealize.ShloMosaic.Lib.Pointwise.Index

@[expose] public section

set_option maxRecDepth 16384

noncomputable section

namespace Cert.ExpertsIdeal.Tables

open Idealize.ShloMosaic Idealize.ShloMosaic.TcCoe Cert.ExpertsIdeal Cert.ExpertsIdeal.Gen Cert.ExpertsIdeal.Hand

/-- The tables as the precondition has them: every tile's expert is one of the 32, and the call's tiles are all in use. -/
structure InUse (te : S168.Idx → BitVec 32) (nu : S1.Idx → BitVec 32) : Prop where
  expert : ∀ k, (te k).toNat < 32
  count : (42 : ℤ) ≤ (nu at0).toInt

/-- The precondition says so. -/
theorem inUse_of {F : FTy → Type} [FloatOps F] {te : IVec S168 32} {nu : IVec S1 32} {xs : IVec S21504x512 32} {wg wu : FVec F S32x1024x512 .bf16}
    {wd : FVec F S32x512x1024 .bf16} (h : Cert.Pre_tiles_in_use.fn (F := F) te nu xs wg wu wd = fun _ => 1#1) : InUse te nu := by
  have h0 := congrFun h (fun a => a.elim0)
  haveI : Subsingleton Cert.Pre_tiles_in_use.S_.Idx := ⟨fun a b => funext fun k => k.elim0⟩
  refine ⟨fun k => ?_, ?_⟩
  · have h1 := Host.reduce_andi_all _ _ _ _ _ (IntOp.andi_eq_one.mp h0).1 k
    have h1' : IntOp.andi (IntOp.cmpi .sge (te k) 0#32) (IntOp.cmpi .slt (te k) (BitVec.ofNat 32 32)) = 1#1 := h1
    rw [WordCmp.andi_sge_zero_slt_ofNat (by decide)] at h1'
    exact (WordCmp.ofBool_decide_eq_one_iff _).mp h1'
  · have h2 := (IntOp.andi_eq_one.mp h0).2
    have h3 : (42 : ℤ) ≤ (nu _).toInt := (WordCmp.ofBool_decide_eq_one_iff _).mp h2
    exact (congrArg (fun i => (42 : ℤ) ≤ (nu i).toInt) (eq_at0 _)).mp h3

/-- A tile's word in the experts' table. -/
def atTile (n : ℕ) (hn : n < 168) : S168.Idx := ix1 ⟨n, hn⟩

/-- The call's tiles are tiles. -/
theorem far (i : grid0.Coords) : (i 0).val + 0 < 168 := by have h : (i 0).val < 42 := (i 0).isLt; omega

theorem far' (i : grid0.Coords) : 0 + (i 0).val < 168 := by have h : (i 0).val < 42 := (i 0).isLt; omega

theorem rows_map {F : FTy → Type} [FloatOps F] (pf : pre0.Contents (Elt F)) (i : grid0.Coords)
    (h : ((0 + (i 0).val : ℕ) : ℤ) < (pf.at 1 (Rect.unit (s := S1) ![0] S1.size inb_S1_S1_0) numel1_S1 : BitVec 32).toInt) :
    cc0_transform_0 inb_S1_S1_0 numel1_S1 pf i = ![(i 0).val, 0] := by
  have e := Cert.ExpertsWords.in_tile 0 _ _ (far' i) h
  funext a
  fin_cases a
  · exact e
  · rfl

theorem out_map {F : FTy → Type} [FloatOps F] (pf : pre0.Contents (Elt F)) (i : grid0.Coords)
    (h : ((0 + (i 0).val : ℕ) : ℤ) < (pf.at 1 (Rect.unit (s := S1) ![0] S1.size inb_S1_S1_0) numel1_S1 : BitVec 32).toInt) :
    cc0_transform_4 inb_S1_S1_0 numel1_S1 pf i = ![0 + (i 0).val, 0] := by
  have e := Cert.ExpertsWords.out_tile 0 _ _ (far' i) h
  funext a
  fin_cases a
  · exact e
  · rfl

theorem word_te {F : FTy → Type} [FloatOps F] (pf : pre0.Contents (Elt F)) (i : grid0.Coords) (h) :
    pf.at 0 (Rect.unit (s := S168) (k0_off1 i) S1.size h) numel1_S1 = (pf 0 : S168.Idx → BitVec 32) (atTile ((i 0).val + 0) (far i)) := by
  have e : (k0_off1 i) 0 = (i 0).val + 0 := congrFun (k0_off1_eq i) 0
  refine (congrArg (fun z : S1.Idx => (pf 0 : S168.Idx → BitVec 32) ((Rect.unit (s := S168) (k0_off1 i) S1.size h).emb z)) (eq_at0 _)).trans
    (congrArg (pf 0) (funext fun a => Fin.ext ?_))
  fin_cases a
  show (k0_off1 i) 0 + 1 * 0 = (i 0).val + 0
  omega

variable {F : FTy → Type} [FloatOps F] (m : (ℓ : Loc nD τ sig) → Buf (Elt F) ℓ)

/-- The launch's tables are as the precondition has them. -/
abbrev Good : Prop := InUse (tbl m 0) (tbl m 1)

theorem tbl_0 : tbl m 0 = m (((0 : Dev nD).tc : Thread nD τ).loc main_arg0) := V_main_arg0 m 0
theorem tbl_1 : tbl m 1 = m (((0 : Dev nD).tc : Thread nD τ).loc main_arg1) := V_main_arg1 m 0

theorem good_of (h : InUse (m (((0 : Dev nD).tc : Thread nD τ).loc main_arg0)) (m (((0 : Dev nD).tc : Thread nD τ).loc main_arg1))) : Good m :=
  Eq.mp (congrArg₂ InUse (tbl_0 m).symm (tbl_1 m).symm) h

variable (hG : Good m)

include hG in
theorem below (i : grid0.Coords) (w : BitVec 32) (hw : w = used m) : ((0 + (i 0).val : ℕ) : ℤ) < w.toInt := by
  have hi : (i 0).val < 42 := (i 0).isLt
  have h : (42 : ℤ) ≤ (used m).toInt := hG.count
  subst hw; omega

include hG in
/-- The rows' block is the tile's own, -/
theorem map_0 (i : grid0.Coords) : cc0_transform_0 inb_S1_S1_0 numel1_S1 (tbl m) i = ![(i 0).val, 0] :=
  rows_map _ i (below m hG i _ (congrArg (tbl m 1) (eq_at0 _)))

include hG in
/-- and so is the output's. -/
theorem map_4 (i : grid0.Coords) : cc0_transform_4 inb_S1_S1_0 numel1_S1 (tbl m) i = ![0 + (i 0).val, 0] :=
  out_map _ i (below m hG i _ (congrArg (tbl m 1) (eq_at0 _)))

/-- The tile's expert. -/
abbrev expert (i : grid0.Coords) : ℕ := ((tbl m 0 : S168.Idx → BitVec 32) (atTile ((i 0).val + 0) (far i))).toNat

theorem map_1 (i : grid0.Coords) : cc0_transform_1 k0_off1_inb numel1_S1 (tbl m) i = ![expert m i, 0, 0] := by
  have e := congrArg BitVec.toNat (word_te (tbl m) i (k0_off1_inb i))
  funext a
  fin_cases a
  · exact e
  · rfl
  · rfl
theorem map_2 (i : grid0.Coords) : cc0_transform_2 k0_off1_inb numel1_S1 (tbl m) i = ![expert m i, 0, 0] := by
  have e := congrArg BitVec.toNat (word_te (tbl m) i (k0_off1_inb i))
  funext a
  fin_cases a
  · exact e
  · rfl
  · rfl
theorem map_3 (i : grid0.Coords) : cc0_transform_3 k0_off1_inb numel1_S1 (tbl m) i = ![expert m i, 0, 0] := by
  have e := congrArg BitVec.toNat (word_te (tbl m) i (k0_off1_inb i))
  funext a
  fin_cases a
  · exact e
  · rfl
  · rfl

include hG in
/-- Every block lies in its array. -/
theorem ok : Ok m := by
  have hx : ∀ i, expert m i < 32 := fun i => hG.expert _
  have hi : ∀ i : grid0.Coords, (i 0).val < 42 := fun i => (i 0).isLt
  refine ⟨fun i => ⟨fun a => ?_, .inl rfl⟩,
    fun i => ⟨fun a => ?_, .inr (Affine.block_words_dvd (s := S32x1024x512) (p := EltTy.packing .bf16) (by decide) (by decide))⟩,
    fun i => ⟨fun a => ?_, .inr (Affine.block_words_dvd (s := S32x1024x512) (p := EltTy.packing .bf16) (by decide) (by decide))⟩,
    fun i => ⟨fun a => ?_, .inr (Affine.block_words_dvd (s := S32x512x1024) (p := EltTy.packing .bf16) (by decide) (by decide))⟩,
    fun i => ⟨fun a => ?_, .inr (Affine.block_words_dvd (s := S86016x1024) (p := EltTy.packing .bf16) (by decide) (by decide))⟩⟩
  · rw [map_0 m hG i]; have := hi i
    fin_cases a
    · show ((i 0).val + 1) * 512 ≤ 21504; omega
    · show (0 + 1) * 512 ≤ 512; omega
  · rw [map_1 m i]; have := hx i
    fin_cases a
    · show (expert m i + 1) * 1 ≤ 32; omega
    · show (0 + 1) * 1024 ≤ 1024; omega
    · show (0 + 1) * 512 ≤ 512; omega
  · rw [map_2 m i]; have := hx i
    fin_cases a
    · show (expert m i + 1) * 1 ≤ 32; omega
    · show (0 + 1) * 1024 ≤ 1024; omega
    · show (0 + 1) * 512 ≤ 512; omega
  · rw [map_3 m i]; have := hx i
    fin_cases a
    · show (expert m i + 1) * 1 ≤ 32; omega
    · show (0 + 1) * 512 ≤ 512; omega
    · show (0 + 1) * 1024 ≤ 1024; omega
  · rw [map_4 m hG i]; have := hi i
    fin_cases a
    · show (0 + (i 0).val + 1) * 512 ≤ 86016; omega
    · show (0 + 1) * 1024 ≤ 1024; omega

include hG in
/-- Every tile is in use. -/
theorem allUsed : AllUsed m := by
  intro i
  show IntOp.cmpi .ne (BitVec.setWidth 32 (IntOp.cmpi .slt (Scalar.addi 0#32 (BitVec.ofNat 32 (i 0).val)) (used m))) 0#32 = 1#1
  rw [Cert.ExpertsWords.test_tile 0 _ _ (far' i) (below m hG i _ rfl)]; decide

end Cert.ExpertsIdeal.Tables

end
-- ==== Proof.ExpertsMath.lean ====
/- One expert's feed-forward map on one row, in plain mathematics, and the rows that packed words hold. -/
module

public import Idealize.ShloMosaic.Lib.Pointwise

@[expose] public section

set_option maxRecDepth 16384

noncomputable section

namespace Cert.Ffn

open Idealize.ShloMosaic

/-- Packed rows, rows, the experts' first matrices and their last ones. -/
abbrev Words : Type := (⟨2, ![21504, 512]⟩ : Shape).Idx → BitVec 32
abbrev Rows : Type := (⟨2, ![21504, 1024]⟩ : Shape).Idx → EReal
abbrev Into : Type := (⟨3, ![32, 1024, 512]⟩ : Shape).Idx → EReal
abbrev Back : Type := (⟨3, ![32, 512, 1024]⟩ : Shape).Idx → EReal

/-- The number in a word's low half, and the one in its high half. -/
def low (w : BitVec 32) : EReal := Ideal.ofBits .f32 (IntOp.shli ArithUnit.vector w 16#32)
def high (w : BitVec 32) : EReal := Ideal.ofBits .f32 (IntOp.andi w 4294901760#32)

/-- A row's 1024 numbers: those in the low halves of its 512 words, then those in the high halves. -/
def unpack (P : Words) : Rows := fun i =>
  if h : (i 1).val < 512 then low (P (ix2 (i 0) ⟨(i 1).val, h⟩)) else high (P (ix2 (i 0) ⟨(i 1).val - 512, by have : (i 1).val < 1024 := (i 1).isLt; omega⟩))

theorem unpack_low (P : Words) (r : Fin 21504) (q : Fin 512) : unpack P (ix2 r ⟨q.val, by omega⟩) = low (P (ix2 r q)) := dif_pos q.isLt

theorem unpack_high (P : Words) (r : Fin 21504) (q : Fin 512) : unpack P (ix2 r ⟨512 + q.val, by omega⟩) = high (P (ix2 r q)) := by
  refine (dif_neg (by show ¬ 512 + q.val < 512; omega)).trans ?_
  exact congrArg (fun z => high (P (ix2 r z))) (Fin.ext (by show 512 + q.val - 512 = q.val; omega))

/-- A row through one of an expert's first matrices. -/
def into (X : Rows) (W : Into) (e : Fin 32) (r : Fin 21504) (h : Fin 512) : EReal :=
  ∑ q : Fin 1024, X (ix2 r q) * W (ix3 e q h)

/-- The same of an unpacked row, half by half. -/
theorem into_unpack (P : Words) (W : Into) (e : Fin 32) (r : Fin 21504) (h : Fin 512) :
    into (unpack P) W e r h = (∑ q : Fin 512, low (P (ix2 r q)) * W (ix3 e ⟨q.val, by omega⟩ h))
      + ∑ q : Fin 512, high (P (ix2 r q)) * W (ix3 e ⟨512 + q.val, by omega⟩ h) := by
  unfold into
  refine (Fin.sum_univ_add (a := 512) (b := 512) (fun q : Fin (512 + 512) => unpack P (ix2 r q) * W (ix3 e q h))).trans (congrArg₂ (· + ·) ?_ ?_)
  · exact Finset.sum_congr rfl fun q _ => congrArg (· * _) (unpack_low P r q)
  · exact Finset.sum_congr rfl fun q _ => congrArg (· * _) (unpack_high P r q)

/-- `z / (1 + exp (-z))`. -/
def silu (z : EReal) : EReal := z * Ideal.div 1 (1 + Ideal.exp (-z))

/-- The row through the expert: the gated hidden row, through its last matrix. -/
def ffn (X : Rows) (G U : Into) (D : Back) (e : Fin 32) (r : Fin 21504) (d : Fin 1024) : EReal :=
  ∑ h : Fin 512, (silu (into X G e r h) * into X U e r h) * D (ix3 e h d)

end Cert.Ffn

end
-- ==== Proof.ExpertsPayload.lean ====
/- What the experts' body computes of a tile's packed rows and its expert's matrices. -/
module

public import proofs.«01_k».proof.Proof.ExpertsMath
public import proofs.«01_k».proof.Proof.Gen.ExpertsIdeal.Skeleton

@[expose] public section

set_option maxRecDepth 16384

noncomputable section

namespace Cert.ExpertsIdeal.Payload

open Idealize.ShloMosaic Cert.ExpertsIdeal Cert.ExpertsIdeal.Gen Cert.Ffn

theorem pay_at (x : Vec Ideal S512x512 .i32) (wg wu : Vec Ideal S1x1024x512 .bf16) (wd : Vec Ideal S1x512x1024 .bf16)
    (P : Words) (G U : Into) (D : Back) (e : Fin 32) (n : Fin 42)
    (hx : ∀ (r : Fin 512) (q : Fin 512), x (ix2 r q) = P (ix2 ⟨n * 512 + r, by omega⟩ q))
    (hg : ∀ (q : Fin 1024) (h : Fin 512), wg (ix3 0 q h) = G (ix3 e q h))
    (hu : ∀ (q : Fin 1024) (h : Fin 512), wu (ix3 0 q h) = U (ix3 e q h))
    (hd : ∀ (h : Fin 512) (d : Fin 1024), wd (ix3 0 h d) = D (ix3 e h d)) (r : Fin 512) (d : Fin 1024) :
    k0_pay1 x wg wu wd (ix2 r d) = ffn (unpack P) G U D e ⟨n * 512 + r, by omega⟩ d := by
  unfold ffn
  simp only [into_unpack]
  pointwise [k0_pay1]
  simp only [hx, hg, hu, hd]
  rfl

end Cert.ExpertsIdeal.Payload

end
-- ==== Proof.ExpertsPoint.lean ====
/- What one tile of the experts' call writes: its rows, each through the tile's expert. -/
module

public import proofs.«01_k».proof.Proof.ExpertsFrame
public import proofs.«01_k».proof.Proof.ExpertsTables
public import proofs.«01_k».proof.Proof.ExpertsPayload
public import Idealize.ShloMosaic.Lib.Pipeline.ReadBack
public import Idealize.ShloMosaic.Lib.Pipeline.ValueKit

@[expose] public section

set_option maxRecDepth 16384

noncomputable section

namespace Cert.ExpertsIdeal.Point

open Idealize.ShloMosaic Idealize.ShloMosaic.TcCoe Cert.ExpertsIdeal Cert.ExpertsIdeal.Gen Cert.ExpertsIdeal.Hand Cert.ExpertsIdeal.Tables Cert.Ffn

variable (m : (ℓ : Loc nD τ sig) → Buf (Elt Ideal) ℓ) (hG : Good m) (hO : Ok m) (hU : AllUsed m) (c : Dev nD)

/-- The body's result depends on what it loads alone. -/
theorem pay_congr {x x' : (⟨S512x512, .i32⟩ : BufTy).Contents (Elt Ideal)} {g g' u u' : (⟨S1x1024x512, .bf16⟩ : BufTy).Contents (Elt Ideal)}
    {d d' : (⟨S1x512x1024, .bf16⟩ : BufTy).Contents (Elt Ideal)} (hx : x = x') (hg : g = g') (hu : u = u') (hd : d = d') :
    k0_pay1 x g u d = k0_pay1 x' g' u' d' := by rw [hx, hg, hu, hd]

/-- What the body leaves in the output's buffer, as a function of the blocks it loads. -/
theorem outs_eq (t : Fin (cfgM m hO).N) : outsAt0 m hO hU c t = k0_pay1 (iblk m hO c 0 t) (iblk m hO c 1 t) (iblk m hO c 2 t) (iblk m hO c 3 t) := by
  unfold outsAt0
  unfold out0_A_4
  frame_out
  exact pay_congr ((hs0_0 m hO t).read_unread _) ((hs0_1 m hO t).read_unread _) ((hs0_2 m hO t).read_unread _) ((hs0_3 m hO t).read_unread _)

/-- A tile's number. -/
theorem tile_lt (t : Fin (cfgM m hO).N) : (grid0.coords t 0).val < 42 := (grid0.coords t 0).isLt

/-- The tile's expert, as one of the 32. -/
abbrev ex (t : Fin (cfgM m hO).N) : Fin 32 := ⟨expert m (grid0.coords t), hG.expert _⟩

include hG in
/-- The rows the tile loads, -/
theorem rows_at (t : Fin (cfgM m hO).N) (r : Fin 512) (q : Fin 512) :
    iblk m hO c 0 t (ix2 r q) = (m ((c : Thread nD τ).loc main_arg2) : S21504x512.Idx → BitVec 32) (ix2 ⟨(grid0.coords t 0).val * 512 + r, by have := tile_lt m hO t; omega⟩ q) := by
  unfold iblk
  refine (congrArg (fun A : S21504x512.Idx → BitVec 32 => A ((((cfgM m hO).win 0).blk t).view.emb (ix2 r q))) (V_main_arg2 m c)).trans ?_
  refine congrArg (m ((c : Thread nD τ).loc main_arg2) : S21504x512.Idx → BitVec 32) (funext fun a => Fin.ext ?_)
  refine (Pipeline.Window.rect_emb_val ((cfgM m hO).win 0) t (ix2 r q) a).trans ?_
  have e : ((cfgM m hO).win 0).index t = ![(grid0.coords t 0).val, 0] := map_0 m hG _
  rw [e]
  fin_cases a
  · rfl
  · exact Nat.zero_add _

/-- and its expert's matrices. -/
theorem gates_at (t : Fin (cfgM m hO).N) (q : Fin 1024) (h : Fin 512) :
    iblk m hO c 1 t (ix3 0 q h) = (m ((c : Thread nD τ).loc main_arg3) : S32x1024x512.Idx → EReal) (ix3 (ex m hG hO t) q h) := by
  unfold iblk
  refine (congrArg (fun A : S32x1024x512.Idx → EReal => A ((((cfgM m hO).win 1).blk t).view.emb (ix3 0 q h))) (V_main_arg3 m c)).trans ?_
  refine congrArg (m ((c : Thread nD τ).loc main_arg3) : S32x1024x512.Idx → EReal) (funext fun a => Fin.ext ?_)
  refine (Pipeline.Window.rect_emb_val ((cfgM m hO).win 1) t (ix3 0 q h) a).trans ?_
  have e : ((cfgM m hO).win 1).index t = ![expert m (grid0.coords t), 0, 0] := map_1 m _
  rw [e]
  fin_cases a
  · exact Nat.mul_one _
  · exact Nat.zero_add _
  · exact Nat.zero_add _

theorem ups_at (t : Fin (cfgM m hO).N) (q : Fin 1024) (h : Fin 512) :
    iblk m hO c 2 t (ix3 0 q h) = (m ((c : Thread nD τ).loc main_arg4) : S32x1024x512.Idx → EReal) (ix3 (ex m hG hO t) q h) := by
  unfold iblk
  refine (congrArg (fun A : S32x1024x512.Idx → EReal => A ((((cfgM m hO).win 2).blk t).view.emb (ix3 0 q h))) (V_main_arg4 m c)).trans ?_
  refine congrArg (m ((c : Thread nD τ).loc main_arg4) : S32x1024x512.Idx → EReal) (funext fun a => Fin.ext ?_)
  refine (Pipeline.Window.rect_emb_val ((cfgM m hO).win 2) t (ix3 0 q h) a).trans ?_
  have e : ((cfgM m hO).win 2).index t = ![expert m (grid0.coords t), 0, 0] := map_2 m _
  rw [e]
  fin_cases a
  · exact Nat.mul_one _
  · exact Nat.zero_add _
  · exact Nat.zero_add _

theorem downs_at (t : Fin (cfgM m hO).N) (h : Fin 512) (d : Fin 1024) :
    iblk m hO c 3 t (ix3 0 h d) = (m ((c : Thread nD τ).loc main_arg5) : S32x512x1024.Idx → EReal) (ix3 (ex m hG hO t) h d) := by
  unfold iblk
  refine (congrArg (fun A : S32x512x1024.Idx → EReal => A ((((cfgM m hO).win 3).blk t).view.emb (ix3 0 h d))) (V_main_arg5 m c)).trans ?_
  refine congrArg (m ((c : Thread nD τ).loc main_arg5) : S32x512x1024.Idx → EReal) (funext fun a => Fin.ext ?_)
  refine (Pipeline.Window.rect_emb_val ((cfgM m hO).win 3) t (ix3 0 h d) a).trans ?_
  have e : ((cfgM m hO).win 3).index t = ![expert m (grid0.coords t), 0, 0] := map_3 m _
  rw [e]
  fin_cases a
  · exact Nat.mul_one _
  · exact Nat.zero_add _
  · exact Nat.zero_add _

/-- A row of the call's tiles through its own expert. -/
def own (r : Fin 21504) (d : Fin 1024) : EReal :=
  ffn (unpack (m ((c : Thread nD τ).loc main_arg2))) (m ((c : Thread nD τ).loc main_arg3)) (m ((c : Thread nD τ).loc main_arg4)) (m ((c : Thread nD τ).loc main_arg5))
    ⟨((tbl m 0 : S168.Idx → BitVec 32) (ix1 ⟨r.val / 512 + 0, by omega⟩)).toNat, hG.expert _⟩ r d

/-- What a tile writes: its rows through its expert. -/
theorem tile_at (t : Fin (cfgM m hO).N) (r : Fin 512) (d : Fin 1024) :
    outsAt0 m hO hU c t (ix2 r d) = own m hG c ⟨(grid0.coords t 0).val * 512 + r, by have := tile_lt m hO t; omega⟩ d := by
  rw [outs_eq]
  refine (Payload.pay_at _ _ _ _ (m ((c : Thread nD τ).loc main_arg2)) (m ((c : Thread nD τ).loc main_arg3)) (m ((c : Thread nD τ).loc main_arg4))
    (m ((c : Thread nD τ).loc main_arg5)) (ex m hG hO t) ⟨(grid0.coords t 0).val, tile_lt m hO t⟩ (rows_at m hG hO c t) (gates_at m hG hO c t)
    (ups_at m hG hO c t) (downs_at m hG hO c t) r d).trans ?_
  unfold own
  refine congrArg (fun e => ffn _ _ _ _ e _ d) (Fin.ext ?_)
  refine congrArg (fun i : S168.Idx => ((tbl m 0 : S168.Idx → BitVec 32) i).toNat) ?_
  refine congrArg (ix1 (n0 := 168)) (Fin.ext ?_)
  show (grid0.coords t 0).val + 0 = ((grid0.coords t 0).val * 512 + r.val) / 512 + 0
  omega

/-- The points in order. -/
theorem coords_val : ∀ t : Fin grid0.N, (grid0.coords t 0).val = t.val := by decide

include hG in
theorem index_4 (t : Fin (cfgM m hO).N) : ((cfgM m hO).win 4).index t = ![0 + t.val, 0] := by
  refine (map_4 m hG (grid0.coords t)).trans ?_
  rw [coords_val t]

include hG in
/-- Every tile is written back. -/
theorem flush_4 (t : Fin (cfgM m hO).N) : ((cfgM m hO).win 4).flush t = true := by
  unfold Pipeline.Window.flush
  rw [Bool.and_eq_true]
  refine ⟨rfl, ?_⟩
  rw [Bool.or_eq_true]
  by_cases h : t.val + 1 < (cfgM m hO).N
  · refine .inr (decide_eq_true ⟨h, fun e => ?_⟩)
    have e0 := (index_4 m hG hO ⟨t.val + 1, h⟩).symm.trans (e.trans (index_4 m hG hO t))
    have e1 := congrFun e0 0
    have e2 : 0 + (t.val + 1) = 0 + t.val := e1
    omega
  · refine .inl (decide_eq_true ?_)
    have := t.isLt
    show t.val + 1 = (cfgM m hO).N
    omega

/-- The rows that the call's tiles write. -/
def Mine (i : S86016x1024.Idx) : Prop := 0 ≤ (i 0).val ∧ (i 0).val < 21504

/-- The output's rows: those of the call's tiles through their own experts. -/
def rowsOut : S86016x1024.Idx → EReal := fun i =>
  if h : 0 ≤ (i 0).val ∧ (i 0).val < 21504 then own m hG c ⟨(i 0).val - 0, by omega⟩ (i 1) else 0

theorem rowsOut_of_mine (i : S86016x1024.Idx) (h : Mine i) : rowsOut m hG c i = own m hG c ⟨(i 0).val - 0, by have := h.1; have := h.2; omega⟩ (i 1) := dif_pos h

theorem last (t : Fin (cfgM m hO).N) : t.val < 42 := by have := tile_lt m hO t; rw [coords_val t] at this; exact this

include hG in
/-- A tile's place in the output. -/
theorem place (t : Fin (cfgM m hO).N) (r : Fin 512) (d : Fin 1024) :
    (((cfgM m hO).win 4).blk t).view.emb (ix2 r d) = (ix2 ⟨(0 + t.val) * 512 + r, by have := last m hO t; omega⟩ d : S86016x1024.Idx) := by
  refine funext fun a => Fin.ext ?_
  refine (Pipeline.Window.rect_emb_val ((cfgM m hO).win 4) t (ix2 r d) a).trans ?_
  rw [index_4 m hG hO t]
  fin_cases a
  · rfl
  · exact Nat.zero_add _

/-- Every element a tile writes back is that. -/
theorem flushed_at (t : Fin (cfgM m hO).N) (r : Fin 512) (d : Fin 1024) :
    outsAt0 m hO hU c t (ix2 r d) = rowsOut m hG c ((((cfgM m hO).win 4).blk t).view.emb (ix2 r d)) := by
  have ht := last m hO t
  rw [place m hG hO t r d, tile_at m hG hO hU c t r d]
  refine Eq.trans ?_ (rowsOut_of_mine m hG c _ ⟨?_, ?_⟩).symm
  · refine congrArg (fun i => own m hG c i d) (Fin.ext ?_)
    show (grid0.coords t 0).val * 512 + r.val = (0 + t.val) * 512 + r.val - 0
    rw [coords_val t]; omega
  · show 0 ≤ (0 + t.val) * 512 + r.val; omega
  · show (0 + t.val) * 512 + r.val < 21504; omega

theorem flushed_all (t : Fin (cfgM m hO).N) (y : S512x1024.Idx) :
    outsAt0 m hO hU c t y = rowsOut m hG c ((((cfgM m hO).win 4).blk t).view.emb y) := by
  have ey : y = ix2 (y 0) (y 1) := by funext a; fin_cases a <;> rfl
  exact (congrArg (outsAt0 m hO hU c t) ey).trans ((flushed_at m hG hO hU c t (y 0) (y 1)).trans
    (congrArg (fun z : S512x1024.Idx => rowsOut m hG c ((((cfgM m hO).win 4).blk t).view.emb z)) ey.symm))

theorem flushed_every (t : Fin (cfgM m hO).N) (y : (((cfgM m hO).win 4).xblock ((cfgM m hO).grid.coords t)).Idx) :
    outsAt0 m hO hU c t y = rowsOut m hG c ((((cfgM m hO).win 4).blk t).view.emb y) := flushed_all m hG hO hU c t y

/-- After the call the tiles' rows are the rows through their own experts. -/
theorem array_at (r : Fin 21504) (d : Fin 1024) :
    ((dats m hO hU 0 c).arrAt 4 (cfgM m hO).N : S86016x1024.Idx → EReal) (ix2 ⟨0 + r.val, by omega⟩ d) = rowsOut m hG c (ix2 ⟨0 + r.val, by omega⟩ d) := by
  have hN : r.val / 512 < (cfgM m hO).N := by show r.val / 512 < grid0.N; rw [N_0]; omega
  refine (dats m hO hU 0 c).arrAt_forall_of_flushed 4 (fun i v => v = rowsOut m hG c i)
    (fun t hf y => ?_) (cfgM m hO).N ⟨r.val / 512, hN⟩ (ix2 ⟨0 + r.val, by omega⟩ d) hN (flush_4 m hG hO _) ?_
  · blk_simp
    exact (congrFun (after0_4 m hO hU c t) y).trans (flushed_every m hG hO hU c t y)
  · have := place m hG hO ⟨r.val / 512, hN⟩ ⟨r.val % 512, by omega⟩ d
    have e : (ix2 ⟨0 + r.val, by omega⟩ d : S86016x1024.Idx) = (((cfgM m hO).win 4).blk ⟨r.val / 512, hN⟩).view.emb (ix2 ⟨r.val % 512, by omega⟩ d) := by
      rw [this]
      refine congrArg (fun z => ix2 z d) (Fin.ext ?_)
      show 0 + r.val = (0 + r.val / 512) * 512 + r.val % 512
      omega
    rw [e]
    exact View.emb_mem_set _ _

theorem array_mine (i : S86016x1024.Idx) (h : Mine i) : ((dats m hO hU 0 c).arrAt 4 (cfgM m hO).N : S86016x1024.Idx → EReal) i = rowsOut m hG c i := by
  have h1 := h.1
  have h2 := h.2
  have e : i = ix2 ⟨0 + ((i 0).val - 0), by omega⟩ (i 1) := by
    funext a
    fin_cases a
    · exact Fin.ext (show (i 0).val = 0 + ((i 0).val - 0) by omega)
    · rfl
  have key := array_at m hG hO hU c ⟨(i 0).val - 0, by omega⟩ (i 1)
  exact (congrArg ((dats m hO hU 0 c).arrAt 4 (cfgM m hO).N : S86016x1024.Idx → EReal) e).trans (key.trans (congrArg (rowsOut m hG c) e.symm))

end Cert.ExpertsIdeal.Point

end
-- ==== Proof.ExpertsRun.lean ====
/- The experts' call: its run. -/
module

public import proofs.«01_k».proof.Proof.ExpertsPoint
public import proofs.«01_k».proof.Proof.Gen.On_written

@[expose] public section

set_option maxRecDepth 16384

noncomputable section

namespace Cert.ExpertsIdeal.Final

open Idealize.ShloMosaic Idealize.ShloMosaic.TcCoe Idealize.SL.Sem Cert.ExpertsIdeal Cert.ExpertsIdeal.Gen Cert.ExpertsIdeal.Hand
  Cert.ExpertsIdeal.Tables Cert.ExpertsIdeal.Point Cert.Ffn

/-- The places the claim reads are the rows below 21504. -/
theorem mine {te : IVec S168 32} {nu : IVec S1 32} {x : IVec S21504x512 32} {g u : FVec Ideal S32x1024x512 .bf16}
    {d : FVec Ideal S32x512x1024 .bf16} (i : S86016x1024.Idx) (h : Cert.On_written.fn (F := Ideal) te nu x g u d i = 1#1) : Mine i := by
  have e : IntOp.cmpi .slt (BitVec.ofNat 32 (i 0).val) 21504#32 = 1#1 := h
  have hi : (i 0).val < 86016 := (i 0).isLt
  rw [IntOp.cmpi_slt] at e
  rw [WordCmp.toInt_ofNat_of_lt (by omega)] at e
  have : ((21504#32).toInt : ℤ) = 21504 := by decide
  exact ⟨Nat.zero_le _, by omega⟩

variable (m : (ℓ : Loc nD τ sig) → Buf (Elt Ideal) ℓ) (ρ : Dev nD → PrngReg)

/-- Every execution ends with the tiles' rows through their own experts, and every argument as it was. -/
theorem run (hG : Good m) : θ_run (defs (F := Ideal)) (onTc (τ := τ) (main (F := Ideal))) ⟨m, fun _ => 0, ρ⟩ (fun r => ∀ c : Dev nD,
      (∀ i, Mine i → (r.2.mem ((c.tc : Thread nD τ).loc main_v0) : S86016x1024.Idx → EReal) i = rowsOut m hG c i) ∧ Kept m r.2.mem c) := by
  have hO := ok m hG
  have hU := allUsed m hG
  refine (θ_run defs _ _).mono (fun r h c => ⟨fun i hi => ?_, h.2 c⟩) (θ_run_and (run_main m ρ hO hU) (unchanged m ρ hO hU))
  have e := (h.1 c).1 4
  exact (congrFun e _).trans (array_mine m hG hO hU c i hi)

end Cert.ExpertsIdeal.Final

end
-- ==== Proof.ExpertsRefState.lean ====
/- What the plain experts' loop leaves: every row through its own expert. -/
module

public import proofs.«01_k».proof.Proof.ExpertsMath
public import proofs.«01_k».proof.Proof.Gen.ExpertsReferenceIdeal.Step
public import Idealize.ShloMosaic.Lib.WordCmp

@[expose] public section

set_option maxRecDepth 16384

noncomputable section

namespace Cert.ExpertsRef

open Idealize.ShloMosaic Cert.ExpertsReferenceIdeal Cert.ExpertsReferenceIdeal.Gen Cert.ExpertsReferenceIdeal.Step Cert.Ffn

variable (te : (⟨S168, .i32⟩ : BufTy).Contents (Elt Ideal)) (P : (⟨S21504x512, .i32⟩ : BufTy).Contents (Elt Ideal))
  (G U : (⟨S32x1024x512, .bf16⟩ : BufTy).Contents (Elt Ideal)) (D : (⟨S32x512x1024, .bf16⟩ : BufTy).Contents (Elt Ideal))

theorem slice_0 (j : ℕ) (hj : j < 32) (s : State Ideal) (r : Fin 21504) : b2 j s (ix1 r) = s.main_v16_0 (ix2 ⟨j, hj⟩ r) := by
  have e : ((BitVec.ofNat 32 j).toInt : ℤ) = j := WordCmp.toInt_ofNat_of_lt (by omega)
  pointwise [b2, b1, b0]
  refine congrArg _ ?_
  simp only [ix2_inj, Fin.ext_iff]
  refine ⟨Host.clampedStart_of_le _ _ _ j e (show j + 1 ≤ 32 by omega), ?_⟩
  all_goals rw [Host.clampedStart_of_le _ _ _ 0 rfl (by decide), Nat.zero_add]

theorem slice_1 (j : ℕ) (hj : j < 32) (s : State Ideal) (q : Fin 1024) (h : Fin 512) : b6 j s (ix2 q h) = s.main_v16_1 (ix3 ⟨j, hj⟩ q h) := by
  have e : ((BitVec.ofNat 32 j).toInt : ℤ) = j := WordCmp.toInt_ofNat_of_lt (by omega)
  pointwise [b6, b5, b4, b3]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

theorem slice_2 (j : ℕ) (hj : j < 32) (s : State Ideal) (q : Fin 1024) (h : Fin 512) : b10 j s (ix2 q h) = s.main_v16_2 (ix3 ⟨j, hj⟩ q h) := by
  have e : ((BitVec.ofNat 32 j).toInt : ℤ) = j := WordCmp.toInt_ofNat_of_lt (by omega)
  pointwise [b10, b9, b8, b7]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

theorem slice_3 (j : ℕ) (hj : j < 32) (s : State Ideal) (h : Fin 512) (d : Fin 1024) : b14 j s (ix2 h d) = s.main_v16_3 (ix3 ⟨j, hj⟩ h d) := by
  have e : ((BitVec.ofNat 32 j).toInt : ℤ) = j := WordCmp.toInt_ofNat_of_lt (by omega)
  pointwise [b14, b13, b12, b11]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

/-- One trip adds the row through expert `j`, times its weight there. -/
theorem step_at (j : ℕ) (hj : j < 32) (s : State Ideal) (r : Fin 21504) (d : Fin 1024) :
    b31 j s (ix2 r d) = s.main_v16_6 (ix2 r d)
      + s.main_v16_0 (ix2 ⟨j, hj⟩ r) * ffn s.main_v16_4 s.main_v16_1 s.main_v16_2 s.main_v16_3 ⟨j, hj⟩ r d := by
  pointwise [b31, b30, b29, b28, b27, b26, b25, b24, b23, b22, b21, b20, b19, b18, b17, b16, b15]
  simp only [slice_0 j hj, slice_1 j hj, slice_2 j hj, slice_3 j hj]
  rfl

/-- The rows' weights: one at the row's own expert, zero elsewhere. -/
theorem gate_at (e : Fin 32) (r : Fin 21504) : A_main_v12 te P G U D (ix2 e r) = if te (ix1 ⟨r.val / 512 + 0, by omega⟩) = BitVec.ofNat 32 e then 1 else 0 := by
  pointwise [A_main_v12, A_main_v3, A_main_call0_v4, A_main_call0_v2, A_main_call0_v0, A_main_v2, A_main_v1, A_main_v0, K_main_call0_v3, K_main_call0_v1]
  show (((IntOp.cmpi .eq (te (ix1 ⟨r.val / 512, _⟩)) (BitVec.ofNat 32 e)).toNat : ℝ) : EReal) = _
  rw [WordCmp.cmpi_eq_eq]
  split
  · rename_i h; rw [decide_eq_true h]; simp
  · rename_i h; rw [decide_eq_false h]; simp

/-- The rows, unpacked. -/
theorem rows_eq : A_main_v10 te P G U D = unpack P := by
  funext i
  have e : i = ix2 (i 0) (i 1) := by funext a; fin_cases a <;> rfl
  rw [e]
  pointwise [A_main_v10, A_main_v9, A_main_v8, A_main_v6, A_main_v5, K_main_v4, K_main_c, K_main_c_0, K_main_v7]
  rfl

theorem start_at (r : Fin 21504) (d : Fin 1024) : K_main_v11 (F := Ideal) (ix2 r d) = 0 := by
  pointwise [K_main_v11, K_main_cst]

variable (it : ℕ → State Ideal) (h0 : it 0 = init te P G U D) (hs : ∀ n, it (n + 1) = step n (it n))
include h0 hs

/-- No trip changes the weights, the matrices or the rows. -/
theorem held (j : ℕ) : (it j).main_v16_0 = A_main_v12 te P G U D ∧ (it j).main_v16_1 = A_main_v13 te P G U D ∧ (it j).main_v16_2 = A_main_v14 te P G U D
    ∧ (it j).main_v16_3 = A_main_v15 te P G U D ∧ (it j).main_v16_4 = A_main_v10 te P G U D := by
  induction j with
  | zero => rw [h0]; exact ⟨rfl, rfl, rfl, rfl, rfl⟩
  | succ j ih => rw [hs]; exact ih

/-- After `n` experts a row whose own expert is among them holds the row through it, and every other row zero. -/
theorem state_at (n : ℕ) (hn : n ≤ 32) (r : Fin 21504) (d : Fin 1024) (e : Fin 32) (he : te (ix1 ⟨r.val / 512 + 0, by omega⟩) = BitVec.ofNat 32 e) :
    (it n).main_v16_6 (ix2 r d) = if e.val < n then ffn (unpack P) G U D e r d else 0 := by
  induction n with
  | zero => rw [h0, if_neg (Nat.not_lt_zero _)]; exact start_at r d
  | succ n ih =>
    obtain ⟨a0, a1, a2, a3, a4⟩ := held te P G U D it h0 hs n
    rw [hs, step_main_v16_6, step_at n (by omega), ih (by omega) he, a0, a1, a2, a3, a4, gate_at, rows_eq, he]
    have hw : (BitVec.ofNat 32 e.val = BitVec.ofNat 32 n) ↔ e.val = n := WordCmp.ofNat_eq_ofNat_iff (by omega) (by omega)
    show _ + (if BitVec.ofNat 32 e.val = BitVec.ofNat 32 n then 1 else 0) * ffn (unpack P) G U D ⟨n, _⟩ r d = _
    by_cases h : e.val = n
    · subst h
      rw [if_pos rfl, if_neg (lt_irrefl _), if_pos (Nat.lt_succ_self _), one_mul, zero_add]
    · rw [if_neg (fun hh => h (hw.mp hh)), zero_mul, add_zero]
      by_cases h2 : e.val < n
      · rw [if_pos h2, if_pos (by omega)]
      · rw [if_neg h2, if_neg (by omega)]

/-- So each of the result's rows that the tiles make is the row through its own expert. -/
theorem result_at (r : Fin 21504) (d : Fin 1024) (e : Fin 32) (he : te (ix1 ⟨r.val / 512 + 0, by omega⟩) = BitVec.ofNat 32 e) :
    R_main_v18 (it 32) (ix2 ⟨0 + r.val, by omega⟩ d) = ffn (unpack P) G U D e r d := by
  rw [← if_pos (c := e.val < 32) (t := ffn (unpack P) G U D e r d) (e := 0) e.isLt, ← state_at te P G U D it h0 hs 32 le_rfl r d e he]
  pointwise [R_main_v18]

end Cert.ExpertsRef

end
-- ==== Proof.ExpertsRefRun.lean ====
/- The plain experts' run: the tiles' rows are the rows through their own experts, and its arguments are unchanged. -/
module

public import proofs.«01_k».proof.Proof.ExpertsRefState
public import proofs.«01_k».proof.Proof.Gen.ExpertsReferenceIdeal.StepRun
public import Idealize.ShloMosaic.Lib.Quiescent

@[expose] public section

set_option maxRecDepth 16384

noncomputable section

namespace Cert.ExpertsRef

open Idealize.ShloMosaic Idealize.ShloMosaic.TcCoe Idealize.SL.Sem Cert.ExpertsReferenceIdeal Cert.ExpertsReferenceIdeal.Gen
  Cert.ExpertsReferenceIdeal.Step Cert.ExpertsReferenceIdeal.StepRun Cert.Ffn

variable (m : (ℓ : Loc nD τ sig) → Buf (Elt Ideal) ℓ) (ρ : Dev nD → PrngReg)

/-- The loop's states, expert after expert. -/
def states (c : Dev nD) : ℕ → State Ideal
  | 0 => initState m c
  | n + 1 => step n (states c n)

/-- The result every run leaves. -/
def result (c : Dev nD) : S86016x1024.Idx → EReal := R_main_v18 (states m c 32)

/-- The rows that the call's tiles make. -/
theorem result_row (c : Dev nD) (r : Fin 21504) (d : Fin 1024) (e : Fin 32)
    (he : (m ((c.tc : Thread nD τ).loc main_arg0) : S168.Idx → BitVec 32) (ix1 ⟨r.val / 512 + 0, by omega⟩) = BitVec.ofNat 32 e) :
    result m c (ix2 ⟨0 + r.val, by omega⟩ d) = ffn (unpack (m ((c.tc : Thread nD τ).loc main_arg2))) (m ((c.tc : Thread nD τ).loc main_arg3))
      (m ((c.tc : Thread nD τ).loc main_arg4)) (m ((c.tc : Thread nD τ).loc main_arg5)) e r d :=
  result_at _ _ _ _ _ (states m c) rfl (fun _ => rfl) r d e he

/-- The arguments on device `c` are in the memory `m'` as they are in `m`. -/
abbrev Kept (m m' : (ℓ : Loc nD τ sig) → Buf (Elt Ideal) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)

/-- Every execution ends with that result and every argument as it was. -/
theorem run : θ_run (defs (F := Ideal)) (onTc (τ := τ) (main (F := Ideal))) ⟨m, fun _ => 0, ρ⟩ (fun r => ∀ c : Dev nD,
      r.2.mem ((c.tc : Thread nD τ).loc main_v18) = result m c ∧ Kept m r.2.mem c) :=
  run_iter m ρ (states m) (fun _ => rfl) (fun _ _ => rfl)

/-- The same with every counter at zero: the program has none. -/
theorem frame : θ_run (defs (F := Ideal)) (onTc (τ := τ) (main (F := Ideal))) ⟨m, fun _ => 0, ρ⟩ (fun r => (∀ c : Dev nD, Kept m r.2.mem c)
      ∧ r.2.sem = fun _ => 0) :=
  (θ_run defs _ _).mono (fun r h => ⟨fun c => (h c).2, sem_eq_zero_of_no_sems (by decide) r.2⟩) (run m ρ)

end Cert.ExpertsRef

end
-- ==== Proof.ExpertsClaim.lean ====
/- The experts' call and the plain experts leave the same rows. -/
module

public import proofs.«01_k».proof.Defs
public import proofs.«01_k».proof.Proof.ExpertsRun
public import proofs.«01_k».proof.Proof.ExpertsRefRun
public import proofs.«01_k».proof.Proof.Gen.Experts

@[expose] public section

set_option maxRecDepth 16384

noncomputable section

namespace Cert.ExpertsProof

open Idealize.ShloMosaic Idealize.ShloMosaic.TcCoe Idealize.SL.Sem Cert.ExpertsIdeal.Tables Cert.ExpertsIdeal.Point

variable (m : (ℓ : Loc Cert.ExpertsIdeal.nD Cert.ExpertsIdeal.τ Cert.ExpertsIdeal.sig) → Buf (Elt Ideal) ℓ)

/-- The precondition, read off the tables. -/
theorem good (h : Cert.Pre_ExpertsIdeal m) : Good m := good_of m (inUse_of (h 0))

/-- A row's expert, as its word in the table. -/
theorem word (hG : Good m) (r : Fin 21504) (c : Dev Cert.ExpertsIdeal.nD) :
    (m ((c.tc : Thread Cert.ExpertsIdeal.nD Cert.ExpertsIdeal.τ).loc Cert.ExpertsIdeal.main_arg0) : (⟨1, ![168]⟩ : Shape).Idx → BitVec 32) (ix1 ⟨r.val / 512 + 0, by omega⟩)
      = BitVec.ofNat 32 ((Cert.ExpertsIdeal.Hand.tbl m 0 : (⟨1, ![168]⟩ : Shape).Idx → BitVec 32) (ix1 ⟨r.val / 512 + 0, by omega⟩)).toNat := by
  obtain rfl : c = 0 := Subsingleton.elim _ _
  exact (congrFun (tbl_0 m) _).symm.trans (BitVec.eq_of_toNat_eq (by rw [BitVec.toNat_ofNat]; exact (Nat.mod_eq_of_lt (BitVec.isLt _)).symm))

variable (m' : (ℓ : Loc Cert.ExpertsReferenceIdeal.nD Cert.ExpertsReferenceIdeal.τ Cert.ExpertsReferenceIdeal.sig) → Buf (Elt Ideal) ℓ) (c : Dev Cert.ExpertsIdeal.nD)

/-- From equal arguments the plain experts' rows are the call's. -/
theorem same (hG : Good m)
    (h0 : m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0))
    (h2 : m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2))
    (h3 : m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3))
    (h4 : m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4))
    (h5 : m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5))
    (i : (⟨2, ![86016, 1024]⟩ : Shape).Idx) (hl : Mine i) : Cert.ExpertsRef.result m' c i = rowsOut m hG c i := by
  have l1 := hl.1
  have l2 := hl.2
  have hi : i = ix2 ⟨0 + ((i 0).val - 0), by omega⟩ (i 1) := by
    funext a
    fin_cases a
    · exact Fin.ext (show (i 0).val = 0 + ((i 0).val - 0) by omega)
    · rfl
  have key := Cert.ExpertsRef.result_row m' c ⟨(i 0).val - 0, by omega⟩ (i 1) ⟨_, hG.expert _⟩ ((congrFun h0 _).trans (word m hG ⟨(i 0).val - 0, by omega⟩ c))
  rw [h2, h3, h4, h5] at key
  exact (congrArg (Cert.ExpertsRef.result m' c) hi).trans (key.trans (rowsOut_of_mine m hG c i hl).symm)

/-- From equal arguments with every tile in use, both programs leave the same rows below 21504. -/
theorem algebraic : Cert.algebraic_ExpertsIdeal_ExpertsReferenceIdeal_on_written := by
  intro m g m' g' hP h
  have hG := good m hP
  refine ⟨fun c => rowsOut m hG c, ?_, ?_⟩
  · exact (θ_run Cert.ExpertsIdeal.defs _ _).mono (fun r e c => ⟨fun i hi => (e c).1 i (Cert.ExpertsIdeal.Final.mine i hi), (e c).2⟩)
      (Cert.ExpertsIdeal.Final.run m g hG)
  · refine (θ_run Cert.ExpertsReferenceIdeal.defs _ _).mono (fun r e c => ⟨fun i hi => ?_, (e c).2⟩) (Cert.ExpertsRef.run m' g')
    obtain ⟨h0, h1, h2, h3, h4, h5⟩ := h c
    exact (congrFun (e c).1 i).trans (same m m' c hG h0 h2 h3 h4 h5 i (Cert.ExpertsIdeal.Final.mine i hi))

/-- The call runs to the end with its arguments unchanged. -/
theorem frame : Cert.quiescent_ExpertsIdeal := fun m g h => Cert.ExpertsIdeal.Hand.frame m g (ok m (good m h)) (allUsed m (good m h))

/-- The plain experts do. -/
theorem frame_ref : Cert.quiescent_ExpertsReferenceIdeal := fun m g _ => Cert.ExpertsRef.frame m g

/-! ## The same program read at the bits -/

set_option maxRecDepth 65536

theorem defs0_eq : Cert.Experts.defs₀ (F := Bits) = Cert.ExpertsIdeal.defs₀ (F := Bits) := by
  unfold Cert.Experts.defs₀ Cert.ExpertsIdeal.defs₀
  refine congrArg Defs.onTc (funext fun l => funext fun x => ?_)
  match l, x with
  | 0, (t, s) => rfl

theorem defs_eq : Cert.Experts.defs (F := Bits) = Cert.ExpertsIdeal.defs (F := Bits) := by
  unfold Cert.Experts.defs Cert.ExpertsIdeal.defs
  exact congrArg (Pipeline.defs _) defs0_eq

theorem main_eq : Cert.Experts.main (F := Bits) = Cert.ExpertsIdeal.main (F := Bits) := rfl

/-- The call read at the bits runs to the end with its arguments unchanged too: it is the same text. -/
theorem frame_bits : Cert.quiescent_Experts := fun m g h => by
  have hG : Cert.ExpertsIdeal.Tables.Good (F := Bits) m := Cert.ExpertsIdeal.Tables.good_of m (Cert.ExpertsIdeal.Tables.inUse_of (h 0))
  rw [defs_eq, main_eq]
  exact Cert.ExpertsIdeal.Hand.frame (F := Bits) m g (ok m hG) (allUsed m hG)

end Cert.ExpertsProof

end
-- ==== Proof.Experts1Base.lean ====
/- The experts' call: its tables, its windows' blocks, and what a run of it leaves of its arguments. -/
module

public import proofs.«01_k».proof.Proof.Gen.Experts1Ideal.Launch
public import proofs.«01_k».proof.Proof.Gen.Experts1Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Experts1Ideal.Hand

open Cert.Experts1Ideal Cert.Experts1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arguments on device `c` are in the memory `m'` as they are in `m`. -/
abbrev Kept {F : FTy → Type} (m m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

variable (m : (ℓ : Loc nD τ sig) → Buf (Elt F) ℓ) (ρ : Dev nD → PrngReg)

/-! ## @main up to the region -/

/-- The host's one operation before the region allocates nothing. -/
theorem hostOps0_fresh : (hostOps0 : List (HloOp τ sig (Elt F))).Forall fun op => op.fresh = ∅ := by
  simp only [List.Forall]; repeat' constructor

/-- Core `c`'s TensorCore buffers when the region is entered: as launched, with the earlier calls' output copied into the buffer this one writes. -/
abbrev V (c : Dev nD) (b : Ref sig .tc) : Buf (Elt F) ((c : Thread nD τ).loc b) := StableHlo.after hostOps0 (fun b => m (c, b)) b

set_option maxHeartbeats 800000 in
/-- The copy and the call are the whole of the program. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The copy writes the output's buffer alone. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))
theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)
theorem V_main_arg2 (c : Dev nD) : V m c main_arg2 = m ((c : Thread nD τ).loc main_arg2) := V_of_ne m c main_arg2 (by decide)
theorem V_main_arg3 (c : Dev nD) : V m c main_arg3 = m ((c : Thread nD τ).loc main_arg3) := V_of_ne m c main_arg3 (by decide)
theorem V_main_arg4 (c : Dev nD) : V m c main_arg4 = m ((c : Thread nD τ).loc main_arg4) := V_of_ne m c main_arg4 (by decide)
theorem V_main_arg5 (c : Dev nD) : V m c main_arg5 = m ((c : Thread nD τ).loc main_arg5) := V_of_ne m c main_arg5 (by decide)
theorem V_main_arg6 (c : Dev nD) : V m c main_arg6 = m ((c : Thread nD τ).loc main_arg6) := V_of_ne m c main_arg6 (by decide)
/-- That buffer holds what the earlier calls wrote. -/
theorem V_main_v0 (c : Dev nD) : (V m c main_v0 : S86016x1024.Idx → F .bf16) = (m ((c : Thread nD τ).loc main_arg6) : S86016x1024.Idx → F .bf16) := by
  unfold V hostOps0
  rw [StableHlo.after_cons, StableHlo.after_nil]
  exact StableHlo.unary_result ..

/-! ## The prefetched tables, read off the launch memory -/

/-- The tables' contents when the call is entered. -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The experts' table and the number of tiles in use keep every window's block inside its array. -/
abbrev Ok : Prop := ok0 (F := F) (tbl m)
/-- The call at those tables. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S168 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c`, and half of it held at `f`: the body only reads it. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the body is handed, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, if the body leaves it in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, if the body leaves it in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, if the body leaves it in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, if the body leaves it in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run of the pipeline leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      Kept m r.2.mem c) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).2 main_arg6 (by decide : main_arg6 ∈ Pipeline.restRefs sig spec0)).trans (V_main_arg6 m c)⟩) h

/-- One staging buffer of the output, through which its contents are stated. -/
abbrev VO0_4 : View sig .tc .vmem S512x1024 .bf16 := (Memref.whole cc0_stg4_0 : Memref sig .tc .vmem S512x1024 .bf16).view
/-- Each window's staging buffer at point `t`. -/
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gemm (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg6) (Memref.isWhole_whole _) (spec0_4.stage ((cfg0 a).slots t 4)) (hstage0_4 (((cfg0 a).slots t 4).cast nbuf0_4))

/-- The one index of a table of one word. -/
def at0 : S1.Idx := fun a => ⟨0, by revert a; decide⟩

theorem eq_at0 (i : S1.Idx) : i = at0 := by
  funext a
  fin_cases a
  exact Subsingleton.elim (α := Fin 1) _ _

/-- The number of tiles in use, as the second table holds it. -/
abbrev used : BitVec 32 := (tbl m 1 : S1.Idx → BitVec 32) at0

/-- Every one of the call's tiles is in use: the body does not skip any. -/
def AllUsed : Prop := ∀ i : grid0.Coords, k0_cond1 i (used m) = 1#1

theorem word_eq (T : S1.Idx → BitVec 32) : View.readAt (Elt F) (tbM0_1).view (Rect.unit (s := S1) ![0] S1.size inb_S1_S1_0).toLoadRect T (Shape.Idx.first (numel1_S1.symm ▸ Nat.one_pos))
    = T at0 := by
  exact congrArg T (eq_at0 _)

end Cert.Experts1Ideal.Hand

end
-- ==== Proof.Experts1Body.lean ====
/- The experts' body run on one tile in use. -/
module

public import proofs.«01_k».proof.Proof.Experts1Base

@[expose] public section

set_option maxRecDepth 16384

noncomputable section

namespace Cert.Experts1Ideal.Hand

open Cert.Experts1Ideal Cert.Experts1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On a tile in use the body runs to its end, with what it wrote into the output's buffer. -/
noncomputable def kernelRun0_A (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_gemm i tbM0_0 htbM0_0 tbM0_1 htbM0_1 arg3 harg3 arg4 harg4 arg5 harg5 arg6 harg6 (Memref.whole main_arg6) (Memref.isWhole_whole _) arg7 harg7) K } := by
  refine ⟨?_, fun E K => ?run⟩
  case run =>
    simp only [cc0_moe_gemm_eq_skeleton]; unfold cc0_moe_gemm_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec! (disch := first | (guard_target = k0_cond1 _ _ = _; exact hc))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Experts1Ideal.Hand

end
-- ==== Proof.Experts1Frame.lean ====
/- The experts' call at every tile: what it leaves, and that it leaves its arguments alone. -/
module

public import proofs.«01_k».proof.Proof.Experts1Body
public import Idealize.ShloMosaic.Lib.Claim

@[expose] public section

set_option maxRecDepth 16384

noncomputable section

namespace Cert.Experts1Ideal.Hand

open Cert.Experts1Ideal Cert.Experts1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test at any of the call's tiles. -/
theorem cond_at (hU : AllUsed m) (i : grid0.Coords) : k0_cond1 i (View.readAt (Elt F) (tbM0_1).view (Rect.unit (s := S1) ![0] S1.size inb_S1_S1_0).toLoadRect (tbl m 1) (Shape.Idx.first (numel1_S1.symm ▸ Nat.one_pos))) = 1#1 := by
  exact (congrArg (k0_cond1 i) (word_eq (F := F) (tbl m 1))).trans (hU i)

/-- So the output's buffer is written at every tile. -/
theorem idle_4 (hO : Ok m) (hU : AllUsed m) (t : Fin (cfgM m hO).N) : (cfgM m hO).idle (4 : Fin 5) ((cfgM m hO).grid.coords t) = false := by
  show (!(k0_cond1 ((cfgM m hO).grid.coords t) ((tbl m).atD 1 ![0]) == 1#1)) = false
  have e : (tbl m).atD 1 ![0] = used m := by
    exact (dif_pos (show ∀ a, (![0] : Fin 1 → ℕ) a + 1 ≤ S1.size a by decide)).trans (congrArg (tbl m 1) (eq_at0 _))
  rw [e, hU]; rfl

/-- What is written covers the output's block. -/
theorem cover0_A_4 (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) (y : S512x1024.Idx) :
    ∃ pc ∈ (kernelRun0_A c i arg3 harg3 arg4 harg4 arg5 harg5 arg6 harg6 arg7 harg7 x0 x1 x2 x3 xt0 xt1 hc).1, y ∈ pc.1.set :=
  View.cover_of_tiledL (kernelRun0_A c i arg3 harg3 arg4 harg4 arg5 harg5 arg6 harg6 arg7 harg7 x0 x1 x2 x3 xt0 xt1 hc).1 S512x1024.size (by sl_kernel_rfl) y

/-- What the run leaves in the output's buffer. -/
def out0_A_4 (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) : Vec F S512x1024 .bf16 :=
  VO0_4.read (Elt F) (VO0_4.writes (Elt F) VO0_4.junk (kernelRun0_A c i arg3 harg3 arg4 harg4 arg5 harg5 arg6 harg6 arg7 harg7 x0 x1 x2 x3 xt0 xt1 hc).1)

/-! ## What the outputs hold after each point -/

/-- What the output's buffer holds after point `t`. -/
def outsAt0 (hO : Ok m) (hU : AllUsed m) (c : Dev nD) (t : Fin (cfgM m hO).N) : Vec F S512x1024 .bf16 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (cond_at m hU _)

/-! ## The pipeline's proof data -/

/-- What every buffer holds, point after point. -/
def dats (hO : Ok m) (hU : AllUsed m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hU c t)
  Φ _ := iprop(Pipeline.ΦA spec0 c ∗ Pipeline.ΦT pre0 (tbl m) c)
  q _ := fullShare
  owed _ := 0

/-- The arrays are as the call finds them. -/
theorem A_eq (hO : Ok m) (hU : AllUsed m) (c : Dev nD) (w : Fin (cfgM m hO).W) : (dats m hO hU 0 c).A w = V m c (Pipeline.arrRef spec0 w) := by
  dsimp only [dats]

/-- What the body leaves, window by window. -/
theorem after0_0 (hO : Ok m) (hU : AllUsed m) (c : Dev nD) (t : Fin (cfgM m hO).N) : (dats m hO hU 0 c).after 0 t = iblk m hO c 0 t := by dsimp only [dats]; try rfl
theorem after0_1 (hO : Ok m) (hU : AllUsed m) (c : Dev nD) (t : Fin (cfgM m hO).N) : (dats m hO hU 0 c).after 1 t = iblk m hO c 1 t := by dsimp only [dats]; try rfl
theorem after0_2 (hO : Ok m) (hU : AllUsed m) (c : Dev nD) (t : Fin (cfgM m hO).N) : (dats m hO hU 0 c).after 2 t = iblk m hO c 2 t := by dsimp only [dats]; try rfl
theorem after0_3 (hO : Ok m) (hU : AllUsed m) (c : Dev nD) (t : Fin (cfgM m hO).N) : (dats m hO hU 0 c).after 3 t = iblk m hO c 3 t := by dsimp only [dats]; try rfl
theorem after0_4 (hO : Ok m) (hU : AllUsed m) (c : Dev nD) (t : Fin (cfgM m hO).N) : (dats m hO hU 0 c).after 4 t = (outsAt0 m hO hU c t) := by dsimp only [dats]; try rfl

/-- Each input's buffer holds its block at every point. -/
theorem before0_0 (hO : Ok m) (hU : AllUsed m) (c : Dev nD) (t : Fin (cfgM m hO).N) (d) : (dats m hO hU 0 c).before 0 t d = iblk m hO c 0 t :=
  before0_0_of m hO (dats m hO hU 0 c) (A_eq m hO hU c 0) (after0_0 m hO hU c) t d
theorem before0_1 (hO : Ok m) (hU : AllUsed m) (c : Dev nD) (t : Fin (cfgM m hO).N) (d) : (dats m hO hU 0 c).before 1 t d = iblk m hO c 1 t :=
  before0_1_of m hO (dats m hO hU 0 c) (A_eq m hO hU c 1) (after0_1 m hO hU c) t d
theorem before0_2 (hO : Ok m) (hU : AllUsed m) (c : Dev nD) (t : Fin (cfgM m hO).N) (d) : (dats m hO hU 0 c).before 2 t d = iblk m hO c 2 t :=
  before0_2_of m hO (dats m hO hU 0 c) (A_eq m hO hU c 2) (after0_2 m hO hU c) t d
theorem before0_3 (hO : Ok m) (hU : AllUsed m) (c : Dev nD) (t : Fin (cfgM m hO).N) (d) : (dats m hO hU 0 c).before 3 t d = iblk m hO c 3 t :=
  before0_3_of m hO (dats m hO hU 0 c) (A_eq m hO hU c 3) (after0_3 m hO hU c) t d

/-! ## The body obligation, at a generic point -/

/-- What the body is called with at point `t`, -/
def bodyPre (hO : Ok m) (hU : AllUsed m) (c : Dev nD) (t : Fin (cfgM m hO).N) : sProp 𝕄 :=
  iprop((dats m hO hU 0 c).Φ t.castSucc ∗ (dats m hO hU 0 c).owesAt () t.castSucc
    ∗ (∃ d, owns (c : Thread nD τ) (ms0_0 m hO t) fullShare ((dats m hO hU 0 c).before 0 t d))
    ∗ (∃ d, owns (c : Thread nD τ) (ms0_1 m hO t) fullShare ((dats m hO hU 0 c).before 1 t d))
    ∗ (∃ d, owns (c : Thread nD τ) (ms0_2 m hO t) fullShare ((dats m hO hU 0 c).before 2 t d))
    ∗ (∃ d, owns (c : Thread nD τ) (ms0_3 m hO t) fullShare ((dats m hO hU 0 c).before 3 t d))
    ∗ (∃ d, owns (c : Thread nD τ) (ms0_4 m hO t) fullShare ((dats m hO hU 0 c).before 4 t d)))

/-- and what it returns. -/
def bodyPost (hO : Ok m) (hU : AllUsed m) (c : Dev nD) (t : Fin (cfgM m hO).N) : sProp 𝕄 :=
  iprop((dats m hO hU 0 c).Φ t.succ ∗ (dats m hO hU 0 c).owesAt () t.succ
    ∗ owns (c : Thread nD τ) (ms0_0 m hO t) fullShare ((dats m hO hU 0 c).after 0 t)
    ∗ owns (c : Thread nD τ) (ms0_1 m hO t) fullShare ((dats m hO hU 0 c).after 1 t)
    ∗ owns (c : Thread nD τ) (ms0_2 m hO t) fullShare ((dats m hO hU 0 c).after 2 t)
    ∗ owns (c : Thread nD τ) (ms0_3 m hO t) fullShare ((dats m hO hU 0 c).after 3 t)
    ∗ owns (c : Thread nD τ) (ms0_4 m hO t) fullShare ((dats m hO hU 0 c).after 4 t))

/-- The body at any point. -/
theorem sound_body (hO : Ok m) (hU : AllUsed m) (c : Dev nD) (t : Fin (cfgM m hO).N) :
    bodyPre m hO hU c t ⊢ wp frame (wpE (defs₀ (F := F)) Variants.none c none) Set.univ (bodyAt0 (adm m hO) t) (fun _ => bodyPost m hO hU c t) := by
  unfold bodyPre bodyPost bodyAt0
  simp only [before0_0, before0_1, before0_2, before0_3]
  rw [show (dats m hO hU 0 c).Φ t.succ = (dats m hO hU 0 c).Φ t.castSucc from rfl,
    show (dats m hO hU 0 c).owesAt () t.succ = (dats m hO hU 0 c).owesAt () t.castSucc from rfl,
    after0_0, after0_1, after0_2, after0_3, after0_4]
  rw [show (dats m hO hU 0 c).Φ t.castSucc = iprop(Pipeline.ΦA spec0 c ∗ Pipeline.ΦT pre0 (tbl m) c) from rfl, PhiT0_eq]
  unfold outsAt0
  unfold out0_A_4
  iintro ⟨⟨HΦ, ⟨HT0, HT1⟩⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (tbl m 1) (cond_at m hU _)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, ⟨%e4, H4⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _)

/-- The body the pipeline calls at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body at every point, as the pipeline asks for it. -/
theorem body_obligation (hO : Ok m) (hU : AllUsed m) (c : Dev nD) : BodyObligation (dats (F := F) m hO hU 0 c) (defs₀ (F := F)) Variants.none () Set.univ := fun t => by
  rw [bigSep_W0, bigSep_W0, defs₀_row m hO]
  rewrite [idle_4 m hO hU t]
  exact triple_restated (sound_body m hO hU c t) rfl .rfl fun _ => .rfl

/-! ## The run and the frame -/

set_option backward.isDefEq.respectTransparency.types false in
/-- Every execution ends with the arrays the points' buffers make up, and every counter at zero. -/
theorem run_main_quiescent (hO : Ok m) (hU : AllUsed m) : θ_run defs (onTc (τ := τ) (main (F := F))) (s₀ m ρ) (fun r => (Pipeline.FramePost (Pipeline.pin pcfgs fun _ => adm m hO) (dats m hO hU) 0 (V m)) r ∧ r.2.sem = fun _ => 0) :=
  Pipeline.θ_run_frameP (Q' := _) pcfgs (fun _ => adm m hO) (dats m hO hU) (0 : Fin 1) launch0 defs₀ Variants.none m ρ main
    (hbody := fun c => (body_obligation m hO hU c).loose) (hshare := fun c => (dats m hO hU 0 c).share_full fun _ => rfl)
    (howed := fun _ _ => rfl) (V := V m) (hmain := hmain m Variants.none) (hA := A_eq m hO hU) (hpf := V_pre m)
    (hΦ := fun _ _ => rfl)

/-- The same without the counters. -/
theorem run_main (hO : Ok m) (hU : AllUsed m) : θ_run defs (onTc (τ := τ) (main (F := F))) (s₀ m ρ) (Pipeline.FramePost (Pipeline.pin pcfgs fun _ => adm m hO) (dats m hO hU) 0 (V m)) :=
  (θ_run defs _ _).mono (fun _ h => h.1) (run_main_quiescent m ρ hO hU)

/-- Every argument ends as it was. -/
theorem unchanged (hO : Ok m) (hU : AllUsed m) : θ_run defs (onTc (τ := τ) (main (F := F))) ⟨m, fun _ => 0, ρ⟩ (fun r => ∀ c : Dev nD,
      Kept m r.2.mem c) :=
  frame_of m ρ hO (dats m hO hU) (A_eq m hO hU) (run_main m ρ hO hU)

/-- Every execution ends with every argument as it was and every counter at zero. -/
theorem frame (hO : Ok m) (hU : AllUsed m) : θ_run defs (onTc (τ := τ) (main (F := F))) ⟨m, fun _ => 0, ρ⟩ (fun r => (∀ c : Dev nD,
      Kept m r.2.mem c)
      ∧ r.2.sem = fun _ => 0) :=
  θ_run_and (unchanged m ρ hO hU) ((θ_run defs _ _).mono (fun _ h => h.2) (run_main_quiescent m ρ hO hU))

end Cert.Experts1Ideal.Hand

end
-- ==== Proof.Experts1Tables.lean ====
/- The experts' call under its precondition: every block lies in its array, every tile is in use, and each window's block is the tile's own. -/
module

public import proofs.«01_k».proof.Proof.Experts1Base
public import proofs.«01_k».proof.Proof.ExpertsWords
public import proofs.«01_k».proof.Proof.Gen.Pre_tiles_in_use_1
public import Idealize.ShloMosaic.Lib.ReduceAll
public import Idealize.ShloMosaic.Lib.Pointwise.Index

@[expose] public section

set_option maxRecDepth 16384

noncomputable section

namespace Cert.Experts1Ideal.Tables

open Idealize.ShloMosaic Idealize.ShloMosaic.TcCoe Cert.Experts1Ideal Cert.Experts1Ideal.Gen Cert.Experts1Ideal.Hand

/-- The tables as the precondition has them: every tile's expert is one of the 32, and the call's tiles are all in use. -/
structure InUse (te : S168.Idx → BitVec 32) (nu : S1.Idx → BitVec 32) : Prop where
  expert : ∀ k, (te k).toNat < 32
  count : (84 : ℤ) ≤ (nu at0).toInt

/-- The precondition says so. -/
theorem inUse_of {F : FTy → Type} [FloatOps F] {te : IVec S168 32} {nu : IVec S1 32} {xs : IVec S21504x512 32} {wg wu : FVec F S32x1024x512 .bf16}
    {wd : FVec F S32x512x1024 .bf16} {ys : FVec F S86016x1024 .bf16} (h : Cert.Pre_tiles_in_use_1.fn (F := F) te nu xs wg wu wd ys = fun _ => 1#1) : InUse te nu := by
  have h0 := congrFun h (fun a => a.elim0)
  haveI : Subsingleton Cert.Pre_tiles_in_use_1.S_.Idx := ⟨fun a b => funext fun k => k.elim0⟩
  refine ⟨fun k => ?_, ?_⟩
  · have h1 := Host.reduce_andi_all _ _ _ _ _ (IntOp.andi_eq_one.mp h0).1 k
    have h1' : IntOp.andi (IntOp.cmpi .sge (te k) 0#32) (IntOp.cmpi .slt (te k) (BitVec.ofNat 32 32)) = 1#1 := h1
    rw [WordCmp.andi_sge_zero_slt_ofNat (by decide)] at h1'
    exact (WordCmp.ofBool_decide_eq_one_iff _).mp h1'
  · have h2 := (IntOp.andi_eq_one.mp h0).2
    have h3 : (84 : ℤ) ≤ (nu _).toInt := (WordCmp.ofBool_decide_eq_one_iff _).mp h2
    exact (congrArg (fun i => (84 : ℤ) ≤ (nu i).toInt) (eq_at0 _)).mp h3

/-- A tile's word in the experts' table. -/
def atTile (n : ℕ) (hn : n < 168) : S168.Idx := ix1 ⟨n, hn⟩

/-- The call's tiles are tiles. -/
theorem far (i : grid0.Coords) : (i 0).val + 42 < 168 := by have h : (i 0).val < 42 := (i 0).isLt; omega

theorem far' (i : grid0.Coords) : 42 + (i 0).val < 168 := by have h : (i 0).val < 42 := (i 0).isLt; omega

theorem rows_map {F : FTy → Type} [FloatOps F] (pf : pre0.Contents (Elt F)) (i : grid0.Coords)
    (h : ((42 + (i 0).val : ℕ) : ℤ) < (pf.at 1 (Rect.unit (s := S1) ![0] S1.size inb_S1_S1_0) numel1_S1 : BitVec 32).toInt) :
    cc0_transform_0 inb_S1_S1_0 numel1_S1 pf i = ![(i 0).val, 0] := by
  have e := Cert.ExpertsWords.in_tile 42 _ _ (far' i) h
  funext a
  fin_cases a
  · exact e
  · rfl

theorem out_map {F : FTy → Type} [FloatOps F] (pf : pre0.Contents (Elt F)) (i : grid0.Coords)
    (h : ((42 + (i 0).val : ℕ) : ℤ) < (pf.at 1 (Rect.unit (s := S1) ![0] S1.size inb_S1_S1_0) numel1_S1 : BitVec 32).toInt) :
    cc0_transform_5 inb_S1_S1_0 numel1_S1 pf i = ![42 + (i 0).val, 0] := by
  have e := Cert.ExpertsWords.out_tile 42 _ _ (far' i) h
  funext a
  fin_cases a
  · exact e
  · rfl

theorem word_te {F : FTy → Type} [FloatOps F] (pf : pre0.Contents (Elt F)) (i : grid0.Coords) (h) :
    pf.at 0 (Rect.unit (s := S168) (k0_off1 i) S1.size h) numel1_S1 = (pf 0 : S168.Idx → BitVec 32) (atTile ((i 0).val + 42) (far i)) := by
  have e : (k0_off1 i) 0 = (i 0).val + 42 := congrFun (k0_off1_eq i) 0
  refine (congrArg (fun z : S1.Idx => (pf 0 : S168.Idx → BitVec 32) ((Rect.unit (s := S168) (k0_off1 i) S1.size h).emb z)) (eq_at0 _)).trans
    (congrArg (pf 0) (funext fun a => Fin.ext ?_))
  fin_cases a
  show (k0_off1 i) 0 + 1 * 0 = (i 0).val + 42
  omega

variable {F : FTy → Type} [FloatOps F] (m : (ℓ : Loc nD τ sig) → Buf (Elt F) ℓ)

/-- The launch's tables are as the precondition has them. -/
abbrev Good : Prop := InUse (tbl m 0) (tbl m 1)

theorem tbl_0 : tbl m 0 = m (((0 : Dev nD).tc : Thread nD τ).loc main_arg0) := V_main_arg0 m 0
theorem tbl_1 : tbl m 1 = m (((0 : Dev nD).tc : Thread nD τ).loc main_arg1) := V_main_arg1 m 0

theorem good_of (h : InUse (m (((0 : Dev nD).tc : Thread nD τ).loc main_arg0)) (m (((0 : Dev nD).tc : Thread nD τ).loc main_arg1))) : Good m :=
  Eq.mp (congrArg₂ InUse (tbl_0 m).symm (tbl_1 m).symm) h

variable (hG : Good m)

include hG in
theorem below (i : grid0.Coords) (w : BitVec 32) (hw : w = used m) : ((42 + (i 0).val : ℕ) : ℤ) < w.toInt := by
  have hi : (i 0).val < 42 := (i 0).isLt
  have h : (84 : ℤ) ≤ (used m).toInt := hG.count
  subst hw; omega

include hG in
/-- The rows' block is the tile's own, -/
theorem map_0 (i : grid0.Coords) : cc0_transform_0 inb_S1_S1_0 numel1_S1 (tbl m) i = ![(i 0).val, 0] :=
  rows_map _ i (below m hG i _ (congrArg (tbl m 1) (eq_at0 _)))

include hG in
/-- and so is the output's. -/
theorem map_4 (i : grid0.Coords) : cc0_transform_5 inb_S1_S1_0 numel1_S1 (tbl m) i = ![42 + (i 0).val, 0] :=
  out_map _ i (below m hG i _ (congrArg (tbl m 1) (eq_at0 _)))

/-- The tile's expert. -/
abbrev expert (i : grid0.Coords) : ℕ := ((tbl m 0 : S168.Idx → BitVec 32) (atTile ((i 0).val + 42) (far i))).toNat

theorem map_1 (i : grid0.Coords) : cc0_transform_1 k0_off1_inb numel1_S1 (tbl m) i = ![expert m i, 0, 0] := by
  have e := congrArg BitVec.toNat (word_te (tbl m) i (k0_off1_inb i))
  funext a
  fin_cases a
  · exact e
  · rfl
  · rfl
theorem map_2 (i : grid0.Coords) : cc0_transform_2 k0_off1_inb numel1_S1 (tbl m) i = ![expert m i, 0, 0] := by
  have e := congrArg BitVec.toNat (word_te (tbl m) i (k0_off1_inb i))
  funext a
  fin_cases a
  · exact e
  · rfl
  · rfl
theorem map_3 (i : grid0.Coords) : cc0_transform_3 k0_off1_inb numel1_S1 (tbl m) i = ![expert m i, 0, 0] := by
  have e := congrArg BitVec.toNat (word_te (tbl m) i (k0_off1_inb i))
  funext a
  fin_cases a
  · exact e
  · rfl
  · rfl

include hG in
/-- Every block lies in its array. -/
theorem ok : Ok m := by
  have hx : ∀ i, expert m i < 32 := fun i => hG.expert _
  have hi : ∀ i : grid0.Coords, (i 0).val < 42 := fun i => (i 0).isLt
  refine ⟨fun i => ⟨fun a => ?_, .inl rfl⟩,
    fun i => ⟨fun a => ?_, .inr (Affine.block_words_dvd (s := S32x1024x512) (p := EltTy.packing .bf16) (by decide) (by decide))⟩,
    fun i => ⟨fun a => ?_, .inr (Affine.block_words_dvd (s := S32x1024x512) (p := EltTy.packing .bf16) (by decide) (by decide))⟩,
    fun i => ⟨fun a => ?_, .inr (Affine.block_words_dvd (s := S32x512x1024) (p := EltTy.packing .bf16) (by decide) (by decide))⟩,
    fun i => ⟨fun a => ?_, .inr (Affine.block_words_dvd (s := S86016x1024) (p := EltTy.packing .bf16) (by decide) (by decide))⟩⟩
  · rw [map_0 m hG i]; have := hi i
    fin_cases a
    · show ((i 0).val + 1) * 512 ≤ 21504; omega
    · show (0 + 1) * 512 ≤ 512; omega
  · rw [map_1 m i]; have := hx i
    fin_cases a
    · show (expert m i + 1) * 1 ≤ 32; omega
    · show (0 + 1) * 1024 ≤ 1024; omega
    · show (0 + 1) * 512 ≤ 512; omega
  · rw [map_2 m i]; have := hx i
    fin_cases a
    · show (expert m i + 1) * 1 ≤ 32; omega
    · show (0 + 1) * 1024 ≤ 1024; omega
    · show (0 + 1) * 512 ≤ 512; omega
  · rw [map_3 m i]; have := hx i
    fin_cases a
    · show (expert m i + 1) * 1 ≤ 32; omega
    · show (0 + 1) * 512 ≤ 512; omega
    · show (0 + 1) * 1024 ≤ 1024; omega
  · rw [map_4 m hG i]; have := hi i
    fin_cases a
    · show (42 + (i 0).val + 1) * 512 ≤ 86016; omega
    · show (0 + 1) * 1024 ≤ 1024; omega

include hG in
/-- Every tile is in use. -/
theorem allUsed : AllUsed m := by
  intro i
  show IntOp.cmpi .ne (BitVec.setWidth 32 (IntOp.cmpi .slt (Scalar.addi 42#32 (BitVec.ofNat 32 (i 0).val)) (used m))) 0#32 = 1#1
  rw [Cert.ExpertsWords.test_tile 42 _ _ (far' i) (below m hG i _ rfl)]; decide

end Cert.Experts1Ideal.Tables

end
-- ==== Proof.Experts1Payload.lean ====
/- What the experts' body computes of a tile's packed rows and its expert's matrices. -/
module

public import proofs.«01_k».proof.Proof.ExpertsMath
public import proofs.«01_k».proof.Proof.Gen.Experts1Ideal.Skeleton

@[expose] public section

set_option maxRecDepth 16384

noncomputable section

namespace Cert.Experts1Ideal.Payload

open Idealize.ShloMosaic Cert.Experts1Ideal Cert.Experts1Ideal.Gen Cert.Ffn

theorem pay_at (x : Vec Ideal S512x512 .i32) (wg wu : Vec Ideal S1x1024x512 .bf16) (wd : Vec Ideal S1x512x1024 .bf16)
    (P : Words) (G U : Into) (D : Back) (e : Fin 32) (n : Fin 42)
    (hx : ∀ (r : Fin 512) (q : Fin 512), x (ix2 r q) = P (ix2 ⟨n * 512 + r, by omega⟩ q))
    (hg : ∀ (q : Fin 1024) (h : Fin 512), wg (ix3 0 q h) = G (ix3 e q h))
    (hu : ∀ (q : Fin 1024) (h : Fin 512), wu (ix3 0 q h) = U (ix3 e q h))
    (hd : ∀ (h : Fin 512) (d : Fin 1024), wd (ix3 0 h d) = D (ix3 e h d)) (r : Fin 512) (d : Fin 1024) :
    k0_pay1 x wg wu wd (ix2 r d) = ffn (unpack P) G U D e ⟨n * 512 + r, by omega⟩ d := by
  unfold ffn
  simp only [into_unpack]
  pointwise [k0_pay1]
  simp only [hx, hg, hu, hd]
  rfl

end Cert.Experts1Ideal.Payload

end
-- ==== Proof.Experts1Point.lean ====
/- What one tile of the experts' call writes: its rows, each through the tile's expert. -/
module

public import proofs.«01_k».proof.Proof.Experts1Frame
public import proofs.«01_k».proof.Proof.Experts1Tables
public import proofs.«01_k».proof.Proof.Experts1Payload
public import Idealize.ShloMosaic.Lib.Pipeline.ReadBack
public import Idealize.ShloMosaic.Lib.Pipeline.ValueKit

@[expose] public section

set_option maxRecDepth 16384

noncomputable section

namespace Cert.Experts1Ideal.Point

open Idealize.ShloMosaic Idealize.ShloMosaic.TcCoe Cert.Experts1Ideal Cert.Experts1Ideal.Gen Cert.Experts1Ideal.Hand Cert.Experts1Ideal.Tables Cert.Ffn

variable (m : (ℓ : Loc nD τ sig) → Buf (Elt Ideal) ℓ) (hG : Good m) (hO : Ok m) (hU : AllUsed m) (c : Dev nD)

/-- The body's result depends on what it loads alone. -/
theorem pay_congr {x x' : (⟨S512x512, .i32⟩ : BufTy).Contents (Elt Ideal)} {g g' u u' : (⟨S1x1024x512, .bf16⟩ : BufTy).Contents (Elt Ideal)}
    {d d' : (⟨S1x512x1024, .bf16⟩ : BufTy).Contents (Elt Ideal)} (hx : x = x') (hg : g = g') (hu : u = u') (hd : d = d') :
    k0_pay1 x g u d = k0_pay1 x' g' u' d' := by rw [hx, hg, hu, hd]

/-- What the body leaves in the output's buffer, as a function of the blocks it loads. -/
theorem outs_eq (t : Fin (cfgM m hO).N) : outsAt0 m hO hU c t = k0_pay1 (iblk m hO c 0 t) (iblk m hO c 1 t) (iblk m hO c 2 t) (iblk m hO c 3 t) := by
  unfold outsAt0
  unfold out0_A_4
  frame_out
  exact pay_congr ((hs0_0 m hO t).read_unread _) ((hs0_1 m hO t).read_unread _) ((hs0_2 m hO t).read_unread _) ((hs0_3 m hO t).read_unread _)

/-- A tile's number. -/
theorem tile_lt (t : Fin (cfgM m hO).N) : (grid0.coords t 0).val < 42 := (grid0.coords t 0).isLt

/-- The tile's expert, as one of the 32. -/
abbrev ex (t : Fin (cfgM m hO).N) : Fin 32 := ⟨expert m (grid0.coords t), hG.expert _⟩

include hG in
/-- The rows the tile loads, -/
theorem rows_at (t : Fin (cfgM m hO).N) (r : Fin 512) (q : Fin 512) :
    iblk m hO c 0 t (ix2 r q) = (m ((c : Thread nD τ).loc main_arg2) : S21504x512.Idx → BitVec 32) (ix2 ⟨(grid0.coords t 0).val * 512 + r, by have := tile_lt m hO t; omega⟩ q) := by
  unfold iblk
  refine (congrArg (fun A : S21504x512.Idx → BitVec 32 => A ((((cfgM m hO).win 0).blk t).view.emb (ix2 r q))) (V_main_arg2 m c)).trans ?_
  refine congrArg (m ((c : Thread nD τ).loc main_arg2) : S21504x512.Idx → BitVec 32) (funext fun a => Fin.ext ?_)
  refine (Pipeline.Window.rect_emb_val ((cfgM m hO).win 0) t (ix2 r q) a).trans ?_
  have e : ((cfgM m hO).win 0).index t = ![(grid0.coords t 0).val, 0] := map_0 m hG _
  rw [e]
  fin_cases a
  · rfl
  · exact Nat.zero_add _

/-- and its expert's matrices. -/
theorem gates_at (t : Fin (cfgM m hO).N) (q : Fin 1024) (h : Fin 512) :
    iblk m hO c 1 t (ix3 0 q h) = (m ((c : Thread nD τ).loc main_arg3) : S32x1024x512.Idx → EReal) (ix3 (ex m hG hO t) q h) := by
  unfold iblk
  refine (congrArg (fun A : S32x1024x512.Idx → EReal => A ((((cfgM m hO).win 1).blk t).view.emb (ix3 0 q h))) (V_main_arg3 m c)).trans ?_
  refine congrArg (m ((c : Thread nD τ).loc main_arg3) : S32x1024x512.Idx → EReal) (funext fun a => Fin.ext ?_)
  refine (Pipeline.Window.rect_emb_val ((cfgM m hO).win 1) t (ix3 0 q h) a).trans ?_
  have e : ((cfgM m hO).win 1).index t = ![expert m (grid0.coords t), 0, 0] := map_1 m _
  rw [e]
  fin_cases a
  · exact Nat.mul_one _
  · exact Nat.zero_add _
  · exact Nat.zero_add _

theorem ups_at (t : Fin (cfgM m hO).N) (q : Fin 1024) (h : Fin 512) :
    iblk m hO c 2 t (ix3 0 q h) = (m ((c : Thread nD τ).loc main_arg4) : S32x1024x512.Idx → EReal) (ix3 (ex m hG hO t) q h) := by
  unfold iblk
  refine (congrArg (fun A : S32x1024x512.Idx → EReal => A ((((cfgM m hO).win 2).blk t).view.emb (ix3 0 q h))) (V_main_arg4 m c)).trans ?_
  refine congrArg (m ((c : Thread nD τ).loc main_arg4) : S32x1024x512.Idx → EReal) (funext fun a => Fin.ext ?_)
  refine (Pipeline.Window.rect_emb_val ((cfgM m hO).win 2) t (ix3 0 q h) a).trans ?_
  have e : ((cfgM m hO).win 2).index t = ![expert m (grid0.coords t), 0, 0] := map_2 m _
  rw [e]
  fin_cases a
  · exact Nat.mul_one _
  · exact Nat.zero_add _
  · exact Nat.zero_add _

theorem downs_at (t : Fin (cfgM m hO).N) (h : Fin 512) (d : Fin 1024) :
    iblk m hO c 3 t (ix3 0 h d) = (m ((c : Thread nD τ).loc main_arg5) : S32x512x1024.Idx → EReal) (ix3 (ex m hG hO t) h d) := by
  unfold iblk
  refine (congrArg (fun A : S32x512x1024.Idx → EReal => A ((((cfgM m hO).win 3).blk t).view.emb (ix3 0 h d))) (V_main_arg5 m c)).trans ?_
  refine congrArg (m ((c : Thread nD τ).loc main_arg5) : S32x512x1024.Idx → EReal) (funext fun a => Fin.ext ?_)
  refine (Pipeline.Window.rect_emb_val ((cfgM m hO).win 3) t (ix3 0 h d) a).trans ?_
  have e : ((cfgM m hO).win 3).index t = ![expert m (grid0.coords t), 0, 0] := map_3 m _
  rw [e]
  fin_cases a
  · exact Nat.mul_one _
  · exact Nat.zero_add _
  · exact Nat.zero_add _

/-- A row of the call's tiles through its own expert. -/
def own (r : Fin 21504) (d : Fin 1024) : EReal :=
  ffn (unpack (m ((c : Thread nD τ).loc main_arg2))) (m ((c : Thread nD τ).loc main_arg3)) (m ((c : Thread nD τ).loc main_arg4)) (m ((c : Thread nD τ).loc main_arg5))
    ⟨((tbl m 0 : S168.Idx → BitVec 32) (ix1 ⟨r.val / 512 + 42, by omega⟩)).toNat, hG.expert _⟩ r d

/-- What a tile writes: its rows through its expert. -/
theorem tile_at (t : Fin (cfgM m hO).N) (r : Fin 512) (d : Fin 1024) :
    outsAt0 m hO hU c t (ix2 r d) = own m hG c ⟨(grid0.coords t 0).val * 512 + r, by have := tile_lt m hO t; omega⟩ d := by
  rw [outs_eq]
  refine (Payload.pay_at _ _ _ _ (m ((c : Thread nD τ).loc main_arg2)) (m ((c : Thread nD τ).loc main_arg3)) (m ((c : Thread nD τ).loc main_arg4))
    (m ((c : Thread nD τ).loc main_arg5)) (ex m hG hO t) ⟨(grid0.coords t 0).val, tile_lt m hO t⟩ (rows_at m hG hO c t) (gates_at m hG hO c t)
    (ups_at m hG hO c t) (downs_at m hG hO c t) r d).trans ?_
  unfold own
  refine congrArg (fun e => ffn _ _ _ _ e _ d) (Fin.ext ?_)
  refine congrArg (fun i : S168.Idx => ((tbl m 0 : S168.Idx → BitVec 32) i).toNat) ?_
  refine congrArg (ix1 (n0 := 168)) (Fin.ext ?_)
  show (grid0.coords t 0).val + 42 = ((grid0.coords t 0).val * 512 + r.val) / 512 + 42
  omega

/-- The points in order. -/
theorem coords_val : ∀ t : Fin grid0.N, (grid0.coords t 0).val = t.val := by decide

include hG in
theorem index_4 (t : Fin (cfgM m hO).N) : ((cfgM m hO).win 4).index t = ![42 + t.val, 0] := by
  refine (map_4 m hG (grid0.coords t)).trans ?_
  rw [coords_val t]

include hG in
/-- Every tile is written back. -/
theorem flush_4 (t : Fin (cfgM m hO).N) : ((cfgM m hO).win 4).flush t = true := by
  unfold Pipeline.Window.flush
  rw [Bool.and_eq_true]
  refine ⟨rfl, ?_⟩
  rw [Bool.or_eq_true]
  by_cases h : t.val + 1 < (cfgM m hO).N
  · refine .inr (decide_eq_true ⟨h, fun e => ?_⟩)
    have e0 := (index_4 m hG hO ⟨t.val + 1, h⟩).symm.trans (e.trans (index_4 m hG hO t))
    have e1 := congrFun e0 0
    have e2 : 42 + (t.val + 1) = 42 + t.val := e1
    omega
  · refine .inl (decide_eq_true ?_)
    have := t.isLt
    show t.val + 1 = (cfgM m hO).N
    omega

/-- The rows that the call's tiles write. -/
def Mine (i : S86016x1024.Idx) : Prop := 21504 ≤ (i 0).val ∧ (i 0).val < 43008

/-- The output's rows: those of the call's tiles through their own experts, and every other row as it was. -/
def rowsOut : S86016x1024.Idx → EReal := fun i =>
  if h : 21504 ≤ (i 0).val ∧ (i 0).val < 43008 then own m hG c ⟨(i 0).val - 21504, by omega⟩ (i 1) else (m ((c : Thread nD τ).loc main_arg6) : S86016x1024.Idx → EReal) i

theorem rowsOut_of_mine (i : S86016x1024.Idx) (h : Mine i) : rowsOut m hG c i = own m hG c ⟨(i 0).val - 21504, by have := h.1; have := h.2; omega⟩ (i 1) := dif_pos h

theorem rowsOut_of_not (i : S86016x1024.Idx) (h : ¬ Mine i) : rowsOut m hG c i = (m ((c : Thread nD τ).loc main_arg6) : S86016x1024.Idx → EReal) i := dif_neg h

theorem last (t : Fin (cfgM m hO).N) : t.val < 42 := by have := tile_lt m hO t; rw [coords_val t] at this; exact this

include hG in
/-- A tile's place in the output. -/
theorem place (t : Fin (cfgM m hO).N) (r : Fin 512) (d : Fin 1024) :
    (((cfgM m hO).win 4).blk t).view.emb (ix2 r d) = (ix2 ⟨(42 + t.val) * 512 + r, by have := last m hO t; omega⟩ d : S86016x1024.Idx) := by
  refine funext fun a => Fin.ext ?_
  refine (Pipeline.Window.rect_emb_val ((cfgM m hO).win 4) t (ix2 r d) a).trans ?_
  rw [index_4 m hG hO t]
  fin_cases a
  · rfl
  · exact Nat.zero_add _

/-- Every element a tile writes back is that. -/
theorem flushed_at (t : Fin (cfgM m hO).N) (r : Fin 512) (d : Fin 1024) :
    outsAt0 m hO hU c t (ix2 r d) = rowsOut m hG c ((((cfgM m hO).win 4).blk t).view.emb (ix2 r d)) := by
  have ht := last m hO t
  rw [place m hG hO t r d, tile_at m hG hO hU c t r d]
  refine Eq.trans ?_ (rowsOut_of_mine m hG c _ ⟨?_, ?_⟩).symm
  · refine congrArg (fun i => own m hG c i d) (Fin.ext ?_)
    show (grid0.coords t 0).val * 512 + r.val = (42 + t.val) * 512 + r.val - 21504
    rw [coords_val t]; omega
  · show 21504 ≤ (42 + t.val) * 512 + r.val; omega
  · show (42 + t.val) * 512 + r.val < 43008; omega

theorem flushed_all (t : Fin (cfgM m hO).N) (y : S512x1024.Idx) :
    outsAt0 m hO hU c t y = rowsOut m hG c ((((cfgM m hO).win 4).blk t).view.emb y) := by
  have ey : y = ix2 (y 0) (y 1) := by funext a; fin_cases a <;> rfl
  exact (congrArg (outsAt0 m hO hU c t) ey).trans ((flushed_at m hG hO hU c t (y 0) (y 1)).trans
    (congrArg (fun z : S512x1024.Idx => rowsOut m hG c ((((cfgM m hO).win 4).blk t).view.emb z)) ey.symm))

theorem flushed_every (t : Fin (cfgM m hO).N) (y : (((cfgM m hO).win 4).xblock ((cfgM m hO).grid.coords t)).Idx) :
    outsAt0 m hO hU c t y = rowsOut m hG c ((((cfgM m hO).win 4).blk t).view.emb y) := flushed_all m hG hO hU c t y

/-- After the call the tiles' rows are the rows through their own experts. -/
theorem array_at (r : Fin 21504) (d : Fin 1024) :
    ((dats m hO hU 0 c).arrAt 4 (cfgM m hO).N : S86016x1024.Idx → EReal) (ix2 ⟨21504 + r.val, by omega⟩ d) = rowsOut m hG c (ix2 ⟨21504 + r.val, by omega⟩ d) := by
  have hN : r.val / 512 < (cfgM m hO).N := by show r.val / 512 < grid0.N; rw [N_0]; omega
  refine (dats m hO hU 0 c).arrAt_forall_of_flushed 4 (fun i v => v = rowsOut m hG c i)
    (fun t hf y => ?_) (cfgM m hO).N ⟨r.val / 512, hN⟩ (ix2 ⟨21504 + r.val, by omega⟩ d) hN (flush_4 m hG hO _) ?_
  · blk_simp
    exact (congrFun (after0_4 m hO hU c t) y).trans (flushed_every m hG hO hU c t y)
  · have := place m hG hO ⟨r.val / 512, hN⟩ ⟨r.val % 512, by omega⟩ d
    have e : (ix2 ⟨21504 + r.val, by omega⟩ d : S86016x1024.Idx) = (((cfgM m hO).win 4).blk ⟨r.val / 512, hN⟩).view.emb (ix2 ⟨r.val % 512, by omega⟩ d) := by
      rw [this]
      refine congrArg (fun z => ix2 z d) (Fin.ext ?_)
      show 21504 + r.val = (42 + r.val / 512) * 512 + r.val % 512
      omega
    rw [e]
    exact View.emb_mem_set _ _

theorem array_mine (i : S86016x1024.Idx) (h : Mine i) : ((dats m hO hU 0 c).arrAt 4 (cfgM m hO).N : S86016x1024.Idx → EReal) i = rowsOut m hG c i := by
  have h1 := h.1
  have h2 := h.2
  have e : i = ix2 ⟨21504 + ((i 0).val - 21504), by omega⟩ (i 1) := by
    funext a
    fin_cases a
    · exact Fin.ext (show (i 0).val = 21504 + ((i 0).val - 21504) by omega)
    · rfl
  have key := array_at m hG hO hU c ⟨(i 0).val - 21504, by omega⟩ (i 1)
  exact (congrArg ((dats m hO hU 0 c).arrAt 4 (cfgM m hO).N : S86016x1024.Idx → EReal) e).trans (key.trans (congrArg (rowsOut m hG c) e.symm))

include hG in
theorem block_at (t : Fin (cfgM m hO).N) (r : Fin 512) (d : Fin 1024) : Mine ((((cfgM m hO).win 4).blk t).view.emb (ix2 r d)) := by
  have ht := last m hO t
  rw [place m hG hO t r d]
  refine ⟨?_, ?_⟩
  · show 21504 ≤ (42 + t.val) * 512 + r.val; omega
  · show (42 + t.val) * 512 + r.val < 43008; omega

include hG in
/-- A tile's block holds the call's rows alone. -/
theorem block_mine (t : Fin (cfgM m hO).N) (y : S512x1024.Idx) : Mine ((((cfgM m hO).win 4).blk t).view.emb y) := by
  have ey : y = ix2 (y 0) (y 1) := by funext a; fin_cases a <;> rfl
  exact (congrArg (fun z : S512x1024.Idx => Mine ((((cfgM m hO).win 4).blk t).view.emb z)) ey).mpr (block_at m hG hO t (y 0) (y 1))

/-- Every other row is as the earlier calls left it. -/
theorem array_rest (i : S86016x1024.Idx) (h : ¬ Mine i) : ((dats m hO hU 0 c).arrAt 4 (cfgM m hO).N : S86016x1024.Idx → EReal) i = rowsOut m hG c i := by
  refine Eq.trans ?_ (rowsOut_of_not m hG c i h).symm
  refine ((dats m hO hU 0 c).arrAt_apply_of_forall_not_mem 4 _ i fun t _ _ hi => ?_).trans ?_
  · obtain ⟨y, -, hy⟩ := Finset.mem_map.mp hi
    exact h ((congrArg Mine hy).mp (block_mine m hG hO t y))
  · exact congrFun ((A_eq m hO hU c 4).trans (V_main_v0 m c)) i

/-- So the output is that, whole. -/
theorem array_all : ((dats m hO hU 0 c).arrAt 4 (cfgM m hO).N : S86016x1024.Idx → EReal) = rowsOut m hG c := by
  funext i
  by_cases h : Mine i
  · exact array_mine m hG hO hU c i h
  · exact array_rest m hG hO hU c i h

end Cert.Experts1Ideal.Point

end
-- ==== Proof.Experts1Run.lean ====
/- The experts' call: its run. -/
module

public import proofs.«01_k».proof.Proof.Experts1Point

@[expose] public section

set_option maxRecDepth 16384

noncomputable section

namespace Cert.Experts1Ideal.Final

open Idealize.ShloMosaic Idealize.ShloMosaic.TcCoe Idealize.SL.Sem Cert.Experts1Ideal Cert.Experts1Ideal.Gen Cert.Experts1Ideal.Hand
  Cert.Experts1Ideal.Tables Cert.Experts1Ideal.Point Cert.Ffn

variable (m : (ℓ : Loc nD τ sig) → Buf (Elt Ideal) ℓ) (ρ : Dev nD → PrngReg)

/-- Every execution ends with the tiles' rows through their own experts, and every other row as it was, and every argument as it was. -/
theorem run (hG : Good m) : θ_run (defs (F := Ideal)) (onTc (τ := τ) (main (F := Ideal))) ⟨m, fun _ => 0, ρ⟩ (fun r => ∀ c : Dev nD,
      (r.2.mem ((c.tc : Thread nD τ).loc main_v0) : S86016x1024.Idx → EReal) = rowsOut m hG c ∧ Kept m r.2.mem c) := by
  have hO := ok m hG
  have hU := allUsed m hG
  refine (θ_run defs _ _).mono (fun r h c => ⟨?_, h.2 c⟩) (θ_run_and (run_main m ρ hO hU) (unchanged m ρ hO hU))
  have e := (h.1 c).1 4
  exact e.trans (array_all m hG hO hU c)

end Cert.Experts1Ideal.Final

end
-- ==== Proof.Experts1RefState.lean ====
/- What the plain experts' loop leaves: every row through its own expert. -/
module

public import proofs.«01_k».proof.Proof.ExpertsMath
public import proofs.«01_k».proof.Proof.Gen.ExpertsReference1Ideal.Step
public import Idealize.ShloMosaic.Lib.WordCmp

@[expose] public section

set_option maxRecDepth 16384

noncomputable section

namespace Cert.ExpertsRef1

open Idealize.ShloMosaic Cert.ExpertsReference1Ideal Cert.ExpertsReference1Ideal.Gen Cert.ExpertsReference1Ideal.Step Cert.Ffn

variable (te : (⟨S168, .i32⟩ : BufTy).Contents (Elt Ideal)) (P : (⟨S21504x512, .i32⟩ : BufTy).Contents (Elt Ideal))
  (G U : (⟨S32x1024x512, .bf16⟩ : BufTy).Contents (Elt Ideal)) (D : (⟨S32x512x1024, .bf16⟩ : BufTy).Contents (Elt Ideal))

theorem slice_0 (j : ℕ) (hj : j < 32) (s : State Ideal) (r : Fin 21504) : b2 j s (ix1 r) = s.main_v16_0 (ix2 ⟨j, hj⟩ r) := by
  have e : ((BitVec.ofNat 32 j).toInt : ℤ) = j := WordCmp.toInt_ofNat_of_lt (by omega)
  pointwise [b2, b1, b0]
  refine congrArg _ ?_
  simp only [ix2_inj, Fin.ext_iff]
  refine ⟨Host.clampedStart_of_le _ _ _ j e (show j + 1 ≤ 32 by omega), ?_⟩
  all_goals rw [Host.clampedStart_of_le _ _ _ 0 rfl (by decide), Nat.zero_add]

theorem slice_1 (j : ℕ) (hj : j < 32) (s : State Ideal) (q : Fin 1024) (h : Fin 512) : b6 j s (ix2 q h) = s.main_v16_1 (ix3 ⟨j, hj⟩ q h) := by
  have e : ((BitVec.ofNat 32 j).toInt : ℤ) = j := WordCmp.toInt_ofNat_of_lt (by omega)
  pointwise [b6, b5, b4, b3]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

theorem slice_2 (j : ℕ) (hj : j < 32) (s : State Ideal) (q : Fin 1024) (h : Fin 512) : b10 j s (ix2 q h) = s.main_v16_2 (ix3 ⟨j, hj⟩ q h) := by
  have e : ((BitVec.ofNat 32 j).toInt : ℤ) = j := WordCmp.toInt_ofNat_of_lt (by omega)
  pointwise [b10, b9, b8, b7]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

theorem slice_3 (j : ℕ) (hj : j < 32) (s : State Ideal) (h : Fin 512) (d : Fin 1024) : b14 j s (ix2 h d) = s.main_v16_3 (ix3 ⟨j, hj⟩ h d) := by
  have e : ((BitVec.ofNat 32 j).toInt : ℤ) = j := WordCmp.toInt_ofNat_of_lt (by omega)
  pointwise [b14, b13, b12, b11]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

/-- One trip adds the row through expert `j`, times its weight there. -/
theorem step_at (j : ℕ) (hj : j < 32) (s : State Ideal) (r : Fin 21504) (d : Fin 1024) :
    b31 j s (ix2 r d) = s.main_v16_6 (ix2 r d)
      + s.main_v16_0 (ix2 ⟨j, hj⟩ r) * ffn s.main_v16_4 s.main_v16_1 s.main_v16_2 s.main_v16_3 ⟨j, hj⟩ r d := by
  pointwise [b31, b30, b29, b28, b27, b26, b25, b24, b23, b22, b21, b20, b19, b18, b17, b16, b15]
  simp only [slice_0 j hj, slice_1 j hj, slice_2 j hj, slice_3 j hj]
  rfl

/-- The rows' weights: one at the row's own expert, zero elsewhere. -/
theorem gate_at (e : Fin 32) (r : Fin 21504) : A_main_v12 te P G U D (ix2 e r) = if te (ix1 ⟨r.val / 512 + 42, by omega⟩) = BitVec.ofNat 32 e then 1 else 0 := by
  pointwise [A_main_v12, A_main_v3, A_main_call0_v4, A_main_call0_v2, A_main_call0_v0, A_main_v2, A_main_v1, A_main_v0, K_main_call0_v3, K_main_call0_v1]
  rw [show (⟨42 + r.val / 512, by omega⟩ : Fin 168) = ⟨r.val / 512 + 42, by omega⟩ from Fin.ext (Nat.add_comm _ _)]
  show (((IntOp.cmpi .eq (te (ix1 ⟨r.val / 512 + 42, _⟩)) (BitVec.ofNat 32 e)).toNat : ℝ) : EReal) = _
  rw [WordCmp.cmpi_eq_eq]
  split
  · rename_i h; rw [decide_eq_true h]; simp
  · rename_i h; rw [decide_eq_false h]; simp

/-- The rows, unpacked. -/
theorem rows_eq : A_main_v10 te P G U D = unpack P := by
  funext i
  have e : i = ix2 (i 0) (i 1) := by funext a; fin_cases a <;> rfl
  rw [e]
  pointwise [A_main_v10, A_main_v9, A_main_v8, A_main_v6, A_main_v5, K_main_v4, K_main_c, K_main_c_0, K_main_v7]
  rfl

theorem start_at (r : Fin 21504) (d : Fin 1024) : K_main_v11 (F := Ideal) (ix2 r d) = 0 := by
  pointwise [K_main_v11, K_main_cst]

variable (it : ℕ → State Ideal) (h0 : it 0 = init te P G U D) (hs : ∀ n, it (n + 1) = step n (it n))
include h0 hs

/-- No trip changes the weights, the matrices or the rows. -/
theorem held (j : ℕ) : (it j).main_v16_0 = A_main_v12 te P G U D ∧ (it j).main_v16_1 = A_main_v13 te P G U D ∧ (it j).main_v16_2 = A_main_v14 te P G U D
    ∧ (it j).main_v16_3 = A_main_v15 te P G U D ∧ (it j).main_v16_4 = A_main_v10 te P G U D := by
  induction j with
  | zero => rw [h0]; exact ⟨rfl, rfl, rfl, rfl, rfl⟩
  | succ j ih => rw [hs]; exact ih

/-- After `n` experts a row whose own expert is among them holds the row through it, and every other row zero. -/
theorem state_at (n : ℕ) (hn : n ≤ 32) (r : Fin 21504) (d : Fin 1024) (e : Fin 32) (he : te (ix1 ⟨r.val / 512 + 42, by omega⟩) = BitVec.ofNat 32 e) :
    (it n).main_v16_6 (ix2 r d) = if e.val < n then ffn (unpack P) G U D e r d else 0 := by
  induction n with
  | zero => rw [h0, if_neg (Nat.not_lt_zero _)]; exact start_at r d
  | succ n ih =>
    obtain ⟨a0, a1, a2, a3, a4⟩ := held te P G U D it h0 hs n
    rw [hs, step_main_v16_6, step_at n (by omega), ih (by omega) he, a0, a1, a2, a3, a4, gate_at, rows_eq, he]
    have hw : (BitVec.ofNat 32 e.val = BitVec.ofNat 32 n) ↔ e.val = n := WordCmp.ofNat_eq_ofNat_iff (by omega) (by omega)
    show _ + (if BitVec.ofNat 32 e.val = BitVec.ofNat 32 n then 1 else 0) * ffn (unpack P) G U D ⟨n, _⟩ r d = _
    by_cases h : e.val = n
    · subst h
      rw [if_pos rfl, if_neg (lt_irrefl _), if_pos (Nat.lt_succ_self _), one_mul, zero_add]
    · rw [if_neg (fun hh => h (hw.mp hh)), zero_mul, add_zero]
      by_cases h2 : e.val < n
      · rw [if_pos h2, if_pos (by omega)]
      · rw [if_neg h2, if_neg (by omega)]

/-- So each of the result's rows that the tiles make is the row through its own expert. -/
theorem result_at (ys : (⟨S86016x1024, .bf16⟩ : BufTy).Contents (Elt Ideal)) (r : Fin 21504) (d : Fin 1024) (e : Fin 32) (he : te (ix1 ⟨r.val / 512 + 42, by omega⟩) = BitVec.ofNat 32 e) :
    R_main_v20 (it 32) ys (ix2 ⟨21504 + r.val, by omega⟩ d) = ffn (unpack P) G U D e r d := by
  rw [← if_pos (c := e.val < 32) (t := ffn (unpack P) G U D e r d) (e := 0) e.isLt, ← state_at te P G U D it h0 hs 32 le_rfl r d e he]
  pointwise [R_main_v20]

omit h0 hs in
/-- Every other row is the given one. -/
theorem rest_at (ys : (⟨S86016x1024, .bf16⟩ : BufTy).Contents (Elt Ideal)) (s : State Ideal) (r : Fin 86016) (d : Fin 1024) (h : ¬ (21504 ≤ r.val ∧ r.val < 43008)) :
    R_main_v20 s ys (ix2 r d) = ys (ix2 r d) := by
  pointwise [R_main_v20]
  by_cases h1 : r.val < 21504
  · rw [dif_pos h1]
  · rw [dif_neg h1, dif_neg (by omega)]
    exact congrArg (fun z => ys (ix2 z d)) (Fin.ext (by show 43008 + (r.val - 21504 - 21504) = r.val; omega))

end Cert.ExpertsRef1

end
-- ==== Proof.Experts1RefRun.lean ====
/- The plain experts' run: the tiles' rows are the rows through their own experts, and its arguments are unchanged. -/
module

public import proofs.«01_k».proof.Proof.Experts1RefState
public import proofs.«01_k».proof.Proof.Gen.ExpertsReference1Ideal.StepRun
public import Idealize.ShloMosaic.Lib.Quiescent

@[expose] public section

set_option maxRecDepth 16384

noncomputable section

namespace Cert.ExpertsRef1

open Idealize.ShloMosaic Idealize.ShloMosaic.TcCoe Idealize.SL.Sem Cert.ExpertsReference1Ideal Cert.ExpertsReference1Ideal.Gen
  Cert.ExpertsReference1Ideal.Step Cert.ExpertsReference1Ideal.StepRun Cert.Ffn

variable (m : (ℓ : Loc nD τ sig) → Buf (Elt Ideal) ℓ) (ρ : Dev nD → PrngReg)

/-- The loop's states, expert after expert. -/
def states (c : Dev nD) : ℕ → State Ideal
  | 0 => initState m c
  | n + 1 => step n (states c n)

/-- The result every run leaves. -/
def result (c : Dev nD) : S86016x1024.Idx → EReal := R_main_v20 (states m c 32) (m ((c.tc : Thread nD τ).loc main_arg6))

/-- The rows that the call's tiles make. -/
theorem result_row (c : Dev nD) (r : Fin 21504) (d : Fin 1024) (e : Fin 32)
    (he : (m ((c.tc : Thread nD τ).loc main_arg0) : S168.Idx → BitVec 32) (ix1 ⟨r.val / 512 + 42, by omega⟩) = BitVec.ofNat 32 e) :
    result m c (ix2 ⟨21504 + r.val, by omega⟩ d) = ffn (unpack (m ((c.tc : Thread nD τ).loc main_arg2))) (m ((c.tc : Thread nD τ).loc main_arg3))
      (m ((c.tc : Thread nD τ).loc main_arg4)) (m ((c.tc : Thread nD τ).loc main_arg5)) e r d :=
  result_at _ _ _ _ _ (states m c) rfl (fun _ => rfl) _ r d e he

/-- The others. -/
theorem result_rest (c : Dev nD) (r : Fin 86016) (d : Fin 1024) (h : ¬ (21504 ≤ r.val ∧ r.val < 43008)) :
    result m c (ix2 r d) = (m ((c.tc : Thread nD τ).loc main_arg6) : S86016x1024.Idx → EReal) (ix2 r d) :=
  rest_at _ _ r d h

/-- The arguments on device `c` are in the memory `m'` as they are in `m`. -/
abbrev Kept (m m' : (ℓ : Loc nD τ sig) → Buf (Elt Ideal) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

/-- Every execution ends with that result and every argument as it was. -/
theorem run : θ_run (defs (F := Ideal)) (onTc (τ := τ) (main (F := Ideal))) ⟨m, fun _ => 0, ρ⟩ (fun r => ∀ c : Dev nD,
      r.2.mem ((c.tc : Thread nD τ).loc main_v20) = result m c ∧ Kept m r.2.mem c) :=
  run_iter m ρ (states m) (fun _ => rfl) (fun _ _ => rfl)

/-- The same with every counter at zero: the program has none. -/
theorem frame : θ_run (defs (F := Ideal)) (onTc (τ := τ) (main (F := Ideal))) ⟨m, fun _ => 0, ρ⟩ (fun r => (∀ c : Dev nD, Kept m r.2.mem c)
      ∧ r.2.sem = fun _ => 0) :=
  (θ_run defs _ _).mono (fun r h => ⟨fun c => (h c).2, sem_eq_zero_of_no_sems (by decide) r.2⟩) (run m ρ)

end Cert.ExpertsRef1

end
-- ==== Proof.Experts1Claim.lean ====
/- The experts' call and the plain experts leave the same rows. -/
module

public import proofs.«01_k».proof.Defs
public import proofs.«01_k».proof.Proof.Experts1Run
public import proofs.«01_k».proof.Proof.Experts1RefRun
public import proofs.«01_k».proof.Proof.Gen.Experts1

@[expose] public section

set_option maxRecDepth 16384

noncomputable section

namespace Cert.Experts1Proof

open Idealize.ShloMosaic Idealize.ShloMosaic.TcCoe Idealize.SL.Sem Cert.Experts1Ideal.Tables Cert.Experts1Ideal.Point

variable (m : (ℓ : Loc Cert.Experts1Ideal.nD Cert.Experts1Ideal.τ Cert.Experts1Ideal.sig) → Buf (Elt Ideal) ℓ)

/-- The precondition, read off the tables. -/
theorem good (h : Cert.Pre_Experts1Ideal m) : Good m := good_of m (inUse_of (h 0))

/-- A row's expert, as its word in the table. -/
theorem word (hG : Good m) (r : Fin 21504) (c : Dev Cert.Experts1Ideal.nD) :
    (m ((c.tc : Thread Cert.Experts1Ideal.nD Cert.Experts1Ideal.τ).loc Cert.Experts1Ideal.main_arg0) : (⟨1, ![168]⟩ : Shape).Idx → BitVec 32) (ix1 ⟨r.val / 512 + 42, by omega⟩)
      = BitVec.ofNat 32 ((Cert.Experts1Ideal.Hand.tbl m 0 : (⟨1, ![168]⟩ : Shape).Idx → BitVec 32) (ix1 ⟨r.val / 512 + 42, by omega⟩)).toNat := by
  obtain rfl : c = 0 := Subsingleton.elim _ _
  exact (congrFun (tbl_0 m) _).symm.trans (BitVec.eq_of_toNat_eq (by rw [BitVec.toNat_ofNat]; exact (Nat.mod_eq_of_lt (BitVec.isLt _)).symm))

variable (m' : (ℓ : Loc Cert.ExpertsReference1Ideal.nD Cert.ExpertsReference1Ideal.τ Cert.ExpertsReference1Ideal.sig) → Buf (Elt Ideal) ℓ) (c : Dev Cert.Experts1Ideal.nD)

/-- From equal arguments the plain experts' rows are the call's. -/
theorem same (hG : Good m)
    (h0 : m' ((c.tc : Thread Cert.ExpertsReference1Ideal.nD Cert.ExpertsReference1Ideal.τ).loc Cert.ExpertsReference1Ideal.main_arg0) = m ((c.tc : Thread Cert.Experts1Ideal.nD Cert.Experts1Ideal.τ).loc Cert.Experts1Ideal.main_arg0))
    (h2 : m' ((c.tc : Thread Cert.ExpertsReference1Ideal.nD Cert.ExpertsReference1Ideal.τ).loc Cert.ExpertsReference1Ideal.main_arg2) = m ((c.tc : Thread Cert.Experts1Ideal.nD Cert.Experts1Ideal.τ).loc Cert.Experts1Ideal.main_arg2))
    (h3 : m' ((c.tc : Thread Cert.ExpertsReference1Ideal.nD Cert.ExpertsReference1Ideal.τ).loc Cert.ExpertsReference1Ideal.main_arg3) = m ((c.tc : Thread Cert.Experts1Ideal.nD Cert.Experts1Ideal.τ).loc Cert.Experts1Ideal.main_arg3))
    (h4 : m' ((c.tc : Thread Cert.ExpertsReference1Ideal.nD Cert.ExpertsReference1Ideal.τ).loc Cert.ExpertsReference1Ideal.main_arg4) = m ((c.tc : Thread Cert.Experts1Ideal.nD Cert.Experts1Ideal.τ).loc Cert.Experts1Ideal.main_arg4))
    (h5 : m' ((c.tc : Thread Cert.ExpertsReference1Ideal.nD Cert.ExpertsReference1Ideal.τ).loc Cert.ExpertsReference1Ideal.main_arg5) = m ((c.tc : Thread Cert.Experts1Ideal.nD Cert.Experts1Ideal.τ).loc Cert.Experts1Ideal.main_arg5))
    (i : (⟨2, ![86016, 1024]⟩ : Shape).Idx) (hl : Mine i) : Cert.ExpertsRef1.result m' c i = rowsOut m hG c i := by
  have l1 := hl.1
  have l2 := hl.2
  have hi : i = ix2 ⟨21504 + ((i 0).val - 21504), by omega⟩ (i 1) := by
    funext a
    fin_cases a
    · exact Fin.ext (show (i 0).val = 21504 + ((i 0).val - 21504) by omega)
    · rfl
  have key := Cert.ExpertsRef1.result_row m' c ⟨(i 0).val - 21504, by omega⟩ (i 1) ⟨_, hG.expert _⟩ ((congrFun h0 _).trans (word m hG ⟨(i 0).val - 21504, by omega⟩ c))
  rw [h2, h3, h4, h5] at key
  exact (congrArg (Cert.ExpertsRef1.result m' c) hi).trans (key.trans (rowsOut_of_mine m hG c i hl).symm)

/-- From equal arguments with every one of the call's tiles in use, both programs leave the same output. -/
theorem algebraic : Cert.algebraic_Experts1Ideal_ExpertsReference1Ideal := by
  intro m g m' g' hP h
  have hG := good m hP
  refine ⟨fun c => rowsOut m hG c, Cert.Experts1Ideal.Final.run m g hG, ?_⟩
  refine (θ_run Cert.ExpertsReference1Ideal.defs _ _).mono (fun r e c => ⟨?_, (e c).2⟩) (Cert.ExpertsRef1.run m' g')
  obtain ⟨h0, h1, h2, h3, h4, h5, h6⟩ := h c
  refine (e c).1.trans (funext fun i => ?_)
  by_cases hl : Mine i
  · exact same m m' c hG h0 h2 h3 h4 h5 i hl
  · have hi : i = ix2 (i 0) (i 1) := by funext a; fin_cases a <;> rfl
    refine (congrArg (Cert.ExpertsRef1.result m' c) hi).trans ((Cert.ExpertsRef1.result_rest m' c (i 0) (i 1) hl).trans ?_)
    rw [h6]
    exact (congrArg (m ((c.tc : Thread Cert.Experts1Ideal.nD Cert.Experts1Ideal.τ).loc Cert.Experts1Ideal.main_arg6)) hi.symm).trans (rowsOut_of_not m hG c i hl).symm

/-- The call runs to the end with its arguments unchanged. -/
theorem frame : Cert.quiescent_Experts1Ideal := fun m g h => Cert.Experts1Ideal.Hand.frame m g (ok m (good m h)) (allUsed m (good m h))

/-- The plain experts do. -/
theorem frame_ref : Cert.quiescent_ExpertsReference1Ideal := fun m g _ => Cert.ExpertsRef1.frame m g

/-! ## The same program read at the bits -/

set_option maxRecDepth 65536

theorem defs0_eq : Cert.Experts1.defs₀ (F := Bits) = Cert.Experts1Ideal.defs₀ (F := Bits) := by
  unfold Cert.Experts1.defs₀ Cert.Experts1Ideal.defs₀
  refine congrArg Defs.onTc (funext fun l => funext fun x => ?_)
  match l, x with
  | 0, (t, s) => rfl

theorem defs_eq : Cert.Experts1.defs (F := Bits) = Cert.Experts1Ideal.defs (F := Bits) := by
  unfold Cert.Experts1.defs Cert.Experts1Ideal.defs
  exact congrArg (Pipeline.defs _) defs0_eq

theorem main_eq : Cert.Experts1.main (F := Bits) = Cert.Experts1Ideal.main (F := Bits) := rfl

/-- The call read at the bits runs to the end with its arguments unchanged too: it is the same text. -/
theorem frame_bits : Cert.quiescent_Experts1 := fun m g h => by
  have hG : Cert.Experts1Ideal.Tables.Good (F := Bits) m := Cert.Experts1Ideal.Tables.good_of m (Cert.Experts1Ideal.Tables.inUse_of (h 0))
  rw [defs_eq, main_eq]
  exact Cert.Experts1Ideal.Hand.frame (F := Bits) m g (ok m hG) (allUsed m hG)

end Cert.Experts1Proof

end
-- ==== Proof.Experts2Base.lean ====
/- The experts' call: its tables, its windows' blocks, and what a run of it leaves of its arguments. -/
module

public import proofs.«01_k».proof.Proof.Gen.Experts2Ideal.Launch
public import proofs.«01_k».proof.Proof.Gen.Experts2Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Experts2Ideal.Hand

open Cert.Experts2Ideal Cert.Experts2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arguments on device `c` are in the memory `m'` as they are in `m`. -/
abbrev Kept {F : FTy → Type} (m m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

variable (m : (ℓ : Loc nD τ sig) → Buf (Elt F) ℓ) (ρ : Dev nD → PrngReg)

/-! ## @main up to the region -/

/-- The host's one operation before the region allocates nothing. -/
theorem hostOps0_fresh : (hostOps0 : List (HloOp τ sig (Elt F))).Forall fun op => op.fresh = ∅ := by
  simp only [List.Forall]; repeat' constructor

/-- Core `c`'s TensorCore buffers when the region is entered: as launched, with the earlier calls' output copied into the buffer this one writes. -/
abbrev V (c : Dev nD) (b : Ref sig .tc) : Buf (Elt F) ((c : Thread nD τ).loc b) := StableHlo.after hostOps0 (fun b => m (c, b)) b

set_option maxHeartbeats 800000 in
/-- The copy and the call are the whole of the program. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The copy writes the output's buffer alone. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))
theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)
theorem V_main_arg2 (c : Dev nD) : V m c main_arg2 = m ((c : Thread nD τ).loc main_arg2) := V_of_ne m c main_arg2 (by decide)
theorem V_main_arg3 (c : Dev nD) : V m c main_arg3 = m ((c : Thread nD τ).loc main_arg3) := V_of_ne m c main_arg3 (by decide)
theorem V_main_arg4 (c : Dev nD) : V m c main_arg4 = m ((c : Thread nD τ).loc main_arg4) := V_of_ne m c main_arg4 (by decide)
theorem V_main_arg5 (c : Dev nD) : V m c main_arg5 = m ((c : Thread nD τ).loc main_arg5) := V_of_ne m c main_arg5 (by decide)
theorem V_main_arg6 (c : Dev nD) : V m c main_arg6 = m ((c : Thread nD τ).loc main_arg6) := V_of_ne m c main_arg6 (by decide)
/-- That buffer holds what the earlier calls wrote. -/
theorem V_main_v0 (c : Dev nD) : (V m c main_v0 : S86016x1024.Idx → F .bf16) = (m ((c : Thread nD τ).loc main_arg6) : S86016x1024.Idx → F .bf16) := by
  unfold V hostOps0
  rw [StableHlo.after_cons, StableHlo.after_nil]
  exact StableHlo.unary_result ..

/-! ## The prefetched tables, read off the launch memory -/

/-- The tables' contents when the call is entered. -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The experts' table and the number of tiles in use keep every window's block inside its array. -/
abbrev Ok : Prop := ok0 (F := F) (tbl m)
/-- The call at those tables. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S168 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c`, and half of it held at `f`: the body only reads it. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the body is handed, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, if the body leaves it in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, if the body leaves it in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, if the body leaves it in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, if the body leaves it in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run of the pipeline leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      Kept m r.2.mem c) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).2 main_arg6 (by decide : main_arg6 ∈ Pipeline.restRefs sig spec0)).trans (V_main_arg6 m c)⟩) h

/-- One staging buffer of the output, through which its contents are stated. -/
abbrev VO0_4 : View sig .tc .vmem S512x1024 .bf16 := (Memref.whole cc0_stg4_0 : Memref sig .tc .vmem S512x1024 .bf16).view
/-- Each window's staging buffer at point `t`. -/
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gemm (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg6) (Memref.isWhole_whole _) (spec0_4.stage ((cfg0 a).slots t 4)) (hstage0_4 (((cfg0 a).slots t 4).cast nbuf0_4))

/-- The one index of a table of one word. -/
def at0 : S1.Idx := fun a => ⟨0, by revert a; decide⟩

theorem eq_at0 (i : S1.Idx) : i = at0 := by
  funext a
  fin_cases a
  exact Subsingleton.elim (α := Fin 1) _ _

/-- The number of tiles in use, as the second table holds it. -/
abbrev used : BitVec 32 := (tbl m 1 : S1.Idx → BitVec 32) at0

/-- Every one of the call's tiles is in use: the body does not skip any. -/
def AllUsed : Prop := ∀ i : grid0.Coords, k0_cond1 i (used m) = 1#1

theorem word_eq (T : S1.Idx → BitVec 32) : View.readAt (Elt F) (tbM0_1).view (Rect.unit (s := S1) ![0] S1.size inb_S1_S1_0).toLoadRect T (Shape.Idx.first (numel1_S1.symm ▸ Nat.one_pos))
    = T at0 := by
  exact congrArg T (eq_at0 _)

end Cert.Experts2Ideal.Hand

end
-- ==== Proof.Experts2Body.lean ====
/- The experts' body run on one tile in use. -/
module

public import proofs.«01_k».proof.Proof.Experts2Base

@[expose] public section

set_option maxRecDepth 16384

noncomputable section

namespace Cert.Experts2Ideal.Hand

open Cert.Experts2Ideal Cert.Experts2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On a tile in use the body runs to its end, with what it wrote into the output's buffer. -/
noncomputable def kernelRun0_A (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_gemm i tbM0_0 htbM0_0 tbM0_1 htbM0_1 arg3 harg3 arg4 harg4 arg5 harg5 arg6 harg6 (Memref.whole main_arg6) (Memref.isWhole_whole _) arg7 harg7) K } := by
  refine ⟨?_, fun E K => ?run⟩
  case run =>
    simp only [cc0_moe_gemm_eq_skeleton]; unfold cc0_moe_gemm_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec! (disch := first | (guard_target = k0_cond1 _ _ = _; exact hc))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Experts2Ideal.Hand

end
-- ==== Proof.Experts2Frame.lean ====
/- The experts' call at every tile: what it leaves, and that it leaves its arguments alone. -/
module

public import proofs.«01_k».proof.Proof.Experts2Body
public import Idealize.ShloMosaic.Lib.Claim

@[expose] public section

set_option maxRecDepth 16384

noncomputable section

namespace Cert.Experts2Ideal.Hand

open Cert.Experts2Ideal Cert.Experts2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test at any of the call's tiles. -/
theorem cond_at (hU : AllUsed m) (i : grid0.Coords) : k0_cond1 i (View.readAt (Elt F) (tbM0_1).view (Rect.unit (s := S1) ![0] S1.size inb_S1_S1_0).toLoadRect (tbl m 1) (Shape.Idx.first (numel1_S1.symm ▸ Nat.one_pos))) = 1#1 := by
  exact (congrArg (k0_cond1 i) (word_eq (F := F) (tbl m 1))).trans (hU i)

/-- So the output's buffer is written at every tile. -/
theorem idle_4 (hO : Ok m) (hU : AllUsed m) (t : Fin (cfgM m hO).N) : (cfgM m hO).idle (4 : Fin 5) ((cfgM m hO).grid.coords t) = false := by
  show (!(k0_cond1 ((cfgM m hO).grid.coords t) ((tbl m).atD 1 ![0]) == 1#1)) = false
  have e : (tbl m).atD 1 ![0] = used m := by
    exact (dif_pos (show ∀ a, (![0] : Fin 1 → ℕ) a + 1 ≤ S1.size a by decide)).trans (congrArg (tbl m 1) (eq_at0 _))
  rw [e, hU]; rfl

/-- What is written covers the output's block. -/
theorem cover0_A_4 (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) (y : S512x1024.Idx) :
    ∃ pc ∈ (kernelRun0_A c i arg3 harg3 arg4 harg4 arg5 harg5 arg6 harg6 arg7 harg7 x0 x1 x2 x3 xt0 xt1 hc).1, y ∈ pc.1.set :=
  View.cover_of_tiledL (kernelRun0_A c i arg3 harg3 arg4 harg4 arg5 harg5 arg6 harg6 arg7 harg7 x0 x1 x2 x3 xt0 xt1 hc).1 S512x1024.size (by sl_kernel_rfl) y

/-- What the run leaves in the output's buffer. -/
def out0_A_4 (c : Dev nD) (i : grid0.Coords) (arg3 : Memref sig .tc .vmem S512x512 .i32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16) (xt0 : TbBuf0 (F := F) c tbM0_0) (xt1 : TbBuf0 (F := F) c tbM0_1)
    (hc : k0_cond1 i (View.readAt (Elt F) (tbM0_1).view (Rect.unit (s := S1) ![0] S1.size inb_S1_S1_0).toLoadRect xt1 (Shape.Idx.first (numel1_S1.symm ▸ Nat.one_pos))) = 1#1) : Vec F S512x1024 .bf16 :=
  VO0_4.read (Elt F) (VO0_4.writes (Elt F) VO0_4.junk (kernelRun0_A c i arg3 harg3 arg4 harg4 arg5 harg5 arg6 harg6 arg7 harg7 x0 x1 x2 x3 xt0 xt1 hc).1)

/-! ## What the outputs hold after each point -/

/-- What the output's buffer holds after point `t`. -/
def outsAt0 (hO : Ok m) (hU : AllUsed m) (c : Dev nD) (t : Fin (cfgM m hO).N) : Vec F S512x1024 .bf16 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (cond_at m hU _)

/-! ## The pipeline's proof data -/

/-- What every buffer holds, point after point. -/
def dats (hO : Ok m) (hU : AllUsed m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hU c t)
  Φ _ := iprop(Pipeline.ΦA spec0 c ∗ Pipeline.ΦT pre0 (tbl m) c)
  q _ := fullShare
  owed _ := 0

/-- The arrays are as the call finds them. -/
theorem A_eq (hO : Ok m) (hU : AllUsed m) (c : Dev nD) (w : Fin (cfgM m hO).W) : (dats m hO hU 0 c).A w = V m c (Pipeline.arrRef spec0 w) := by
  dsimp only [dats]

/-- What the body leaves, window by window. -/
theorem after0_0 (hO : Ok m) (hU : AllUsed m) (c : Dev nD) (t : Fin (cfgM m hO).N) : (dats m hO hU 0 c).after 0 t = iblk m hO c 0 t := by dsimp only [dats]; try rfl
theorem after0_1 (hO : Ok m) (hU : AllUsed m) (c : Dev nD) (t : Fin (cfgM m hO).N) : (dats m hO hU 0 c).after 1 t = iblk m hO c 1 t := by dsimp only [dats]; try rfl
theorem after0_2 (hO : Ok m) (hU : AllUsed m) (c : Dev nD) (t : Fin (cfgM m hO).N) : (dats m hO hU 0 c).after 2 t = iblk m hO c 2 t := by dsimp only [dats]; try rfl
theorem after0_3 (hO : Ok m) (hU : AllUsed m) (c : Dev nD) (t : Fin (cfgM m hO).N) : (dats m hO hU 0 c).after 3 t = iblk m hO c 3 t := by dsimp only [dats]; try rfl
theorem after0_4 (hO : Ok m) (hU : AllUsed m) (c : Dev nD) (t : Fin (cfgM m hO).N) : (dats m hO hU 0 c).after 4 t = (outsAt0 m hO hU c t) := by dsimp only [dats]; try rfl

/-- Each input's buffer holds its block at every point. -/
theorem before0_0 (hO : Ok m) (hU : AllUsed m) (c : Dev nD) (t : Fin (cfgM m hO).N) (d) : (dats m hO hU 0 c).before 0 t d = iblk m hO c 0 t :=
  before0_0_of m hO (dats m hO hU 0 c) (A_eq m hO hU c 0) (after0_0 m hO hU c) t d
theorem before0_1 (hO : Ok m) (hU : AllUsed m) (c : Dev nD) (t : Fin (cfgM m hO).N) (d) : (dats m hO hU 0 c).before 1 t d = iblk m hO c 1 t :=
  before0_1_of m hO (dats m hO hU 0 c) (A_eq m hO hU c 1) (after0_1 m hO hU c) t d
theorem before0_2 (hO : Ok m) (hU : AllUsed m) (c : Dev nD) (t : Fin (cfgM m hO).N) (d) : (dats m hO hU 0 c).before 2 t d = iblk m hO c 2 t :=
  before0_2_of m hO (dats m hO hU 0 c) (A_eq m hO hU c 2) (after0_2 m hO hU c) t d
theorem before0_3 (hO : Ok m) (hU : AllUsed m) (c : Dev nD) (t : Fin (cfgM m hO).N) (d) : (dats m hO hU 0 c).before 3 t d = iblk m hO c 3 t :=
  before0_3_of m hO (dats m hO hU 0 c) (A_eq m hO hU c 3) (after0_3 m hO hU c) t d

/-! ## The body obligation, at a generic point -/

/-- What the body is called with at point `t`, -/
def bodyPre (hO : Ok m) (hU : AllUsed m) (c : Dev nD) (t : Fin (cfgM m hO).N) : sProp 𝕄 :=
  iprop((dats m hO hU 0 c).Φ t.castSucc ∗ (dats m hO hU 0 c).owesAt () t.castSucc
    ∗ (∃ d, owns (c : Thread nD τ) (ms0_0 m hO t) fullShare ((dats m hO hU 0 c).before 0 t d))
    ∗ (∃ d, owns (c : Thread nD τ) (ms0_1 m hO t) fullShare ((dats m hO hU 0 c).before 1 t d))
    ∗ (∃ d, owns (c : Thread nD τ) (ms0_2 m hO t) fullShare ((dats m hO hU 0 c).before 2 t d))
    ∗ (∃ d, owns (c : Thread nD τ) (ms0_3 m hO t) fullShare ((dats m hO hU 0 c).before 3 t d))
    ∗ (∃ d, owns (c : Thread nD τ) (ms0_4 m hO t) fullShare ((dats m hO hU 0 c).before 4 t d)))

/-- and what it returns. -/
def bodyPost (hO : Ok m) (hU : AllUsed m) (c : Dev nD) (t : Fin (cfgM m hO).N) : sProp 𝕄 :=
  iprop((dats m hO hU 0 c).Φ t.succ ∗ (dats m hO hU 0 c).owesAt () t.succ
    ∗ owns (c : Thread nD τ) (ms0_0 m hO t) fullShare ((dats m hO hU 0 c).after 0 t)
    ∗ owns (c : Thread nD τ) (ms0_1 m hO t) fullShare ((dats m hO hU 0 c).after 1 t)
    ∗ owns (c : Thread nD τ) (ms0_2 m hO t) fullShare ((dats m hO hU 0 c).after 2 t)
    ∗ owns (c : Thread nD τ) (ms0_3 m hO t) fullShare ((dats m hO hU 0 c).after 3 t)
    ∗ owns (c : Thread nD τ) (ms0_4 m hO t) fullShare ((dats m hO hU 0 c).after 4 t))

/-- The body at any point. -/
theorem sound_body (hO : Ok m) (hU : AllUsed m) (c : Dev nD) (t : Fin (cfgM m hO).N) :
    bodyPre m hO hU c t ⊢ wp frame (wpE (defs₀ (F := F)) Variants.none c none) Set.univ (bodyAt0 (adm m hO) t) (fun _ => bodyPost m hO hU c t) := by
  unfold bodyPre bodyPost bodyAt0
  simp only [before0_0, before0_1, before0_2, before0_3]
  rw [show (dats m hO hU 0 c).Φ t.succ = (dats m hO hU 0 c).Φ t.castSucc from rfl,
    show (dats m hO hU 0 c).owesAt () t.succ = (dats m hO hU 0 c).owesAt () t.castSucc from rfl,
    after0_0, after0_1, after0_2, after0_3, after0_4]
  rw [show (dats m hO hU 0 c).Φ t.castSucc = iprop(Pipeline.ΦA spec0 c ∗ Pipeline.ΦT pre0 (tbl m) c) from rfl, PhiT0_eq]
  unfold outsAt0
  unfold out0_A_4
  iintro ⟨⟨HΦ, ⟨HT0, HT1⟩⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (tbl m 1) (cond_at m hU _)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, ⟨%e4, H4⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _)

/-- The body the pipeline calls at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body at every point, as the pipeline asks for it. -/
theorem body_obligation (hO : Ok m) (hU : AllUsed m) (c : Dev nD) : BodyObligation (dats (F := F) m hO hU 0 c) (defs₀ (F := F)) Variants.none () Set.univ := fun t => by
  rw [bigSep_W0, bigSep_W0, defs₀_row m hO]
  rewrite [idle_4 m hO hU t]
  exact triple_restated (sound_body m hO hU c t) rfl .rfl fun _ => .rfl

/-! ## The run and the frame -/

set_option backward.isDefEq.respectTransparency.types false in
/-- Every execution ends with the arrays the points' buffers make up, and every counter at zero. -/
theorem run_main_quiescent (hO : Ok m) (hU : AllUsed m) : θ_run defs (onTc (τ := τ) (main (F := F))) (s₀ m ρ) (fun r => (Pipeline.FramePost (Pipeline.pin pcfgs fun _ => adm m hO) (dats m hO hU) 0 (V m)) r ∧ r.2.sem = fun _ => 0) :=
  Pipeline.θ_run_frameP (Q' := _) pcfgs (fun _ => adm m hO) (dats m hO hU) (0 : Fin 1) launch0 defs₀ Variants.none m ρ main
    (hbody := fun c => (body_obligation m hO hU c).loose) (hshare := fun c => (dats m hO hU 0 c).share_full fun _ => rfl)
    (howed := fun _ _ => rfl) (V := V m) (hmain := hmain m Variants.none) (hA := A_eq m hO hU) (hpf := V_pre m)
    (hΦ := fun _ _ => rfl)

/-- The same without the counters. -/
theorem run_main (hO : Ok m) (hU : AllUsed m) : θ_run defs (onTc (τ := τ) (main (F := F))) (s₀ m ρ) (Pipeline.FramePost (Pipeline.pin pcfgs fun _ => adm m hO) (dats m hO hU) 0 (V m)) :=
  (θ_run defs _ _).mono (fun _ h => h.1) (run_main_quiescent m ρ hO hU)

/-- Every argument ends as it was. -/
theorem unchanged (hO : Ok m) (hU : AllUsed m) : θ_run defs (onTc (τ := τ) (main (F := F))) ⟨m, fun _ => 0, ρ⟩ (fun r => ∀ c : Dev nD,
      Kept m r.2.mem c) :=
  frame_of m ρ hO (dats m hO hU) (A_eq m hO hU) (run_main m ρ hO hU)

/-- Every execution ends with every argument as it was and every counter at zero. -/
theorem frame (hO : Ok m) (hU : AllUsed m) : θ_run defs (onTc (τ := τ) (main (F := F))) ⟨m, fun _ => 0, ρ⟩ (fun r => (∀ c : Dev nD,
      Kept m r.2.mem c)
      ∧ r.2.sem = fun _ => 0) :=
  θ_run_and (unchanged m ρ hO hU) ((θ_run defs _ _).mono (fun _ h => h.2) (run_main_quiescent m ρ hO hU))

end Cert.Experts2Ideal.Hand

end
-- ==== Proof.Experts2Tables.lean ====
/- The experts' call under its precondition: every block lies in its array, every tile is in use, and each window's block is the tile's own. -/
module

public import proofs.«01_k».proof.Proof.Experts2Base
public import proofs.«01_k».proof.Proof.ExpertsWords
public import proofs.«01_k».proof.Proof.Gen.Pre_tiles_in_use_2
public import Idealize.ShloMosaic.Lib.ReduceAll
public import Idealize.ShloMosaic.Lib.Pointwise.Index

@[expose] public section

set_option maxRecDepth 16384

noncomputable section

namespace Cert.Experts2Ideal.Tables

open Idealize.ShloMosaic Idealize.ShloMosaic.TcCoe Cert.Experts2Ideal Cert.Experts2Ideal.Gen Cert.Experts2Ideal.Hand

/-- The tables as the precondition has them: every tile's expert is one of the 32, and the call's tiles are all in use. -/
structure InUse (te : S168.Idx → BitVec 32) (nu : S1.Idx → BitVec 32) : Prop where
  expert : ∀ k, (te k).toNat < 32
  count : (126 : ℤ) ≤ (nu at0).toInt

/-- The precondition says so. -/
theorem inUse_of {F : FTy → Type} [FloatOps F] {te : IVec S168 32} {nu : IVec S1 32} {xs : IVec S21504x512 32} {wg wu : FVec F S32x1024x512 .bf16}
    {wd : FVec F S32x512x1024 .bf16} {ys : FVec F S86016x1024 .bf16} (h : Cert.Pre_tiles_in_use_2.fn (F := F) te nu xs wg wu wd ys = fun _ => 1#1) : InUse te nu := by
  have h0 := congrFun h (fun a => a.elim0)
  haveI : Subsingleton Cert.Pre_tiles_in_use_2.S_.Idx := ⟨fun a b => funext fun k => k.elim0⟩
  refine ⟨fun k => ?_, ?_⟩
  · have h1 := Host.reduce_andi_all _ _ _ _ _ (IntOp.andi_eq_one.mp h0).1 k
    have h1' : IntOp.andi (IntOp.cmpi .sge (te k) 0#32) (IntOp.cmpi .slt (te k) (BitVec.ofNat 32 32)) = 1#1 := h1
    rw [WordCmp.andi_sge_zero_slt_ofNat (by decide)] at h1'
    exact (WordCmp.ofBool_decide_eq_one_iff _).mp h1'
  · have h2 := (IntOp.andi_eq_one.mp h0).2
    have h3 : (126 : ℤ) ≤ (nu _).toInt := (WordCmp.ofBool_decide_eq_one_iff _).mp h2
    exact (congrArg (fun i => (126 : ℤ) ≤ (nu i).toInt) (eq_at0 _)).mp h3

/-- A tile's word in the experts' table. -/
def atTile (n : ℕ) (hn : n < 168) : S168.Idx := ix1 ⟨n, hn⟩

/-- The call's tiles are tiles. -/
theorem far (i : grid0.Coords) : (i 0).val + 84 < 168 := by have h : (i 0).val < 42 := (i 0).isLt; omega

theorem far' (i : grid0.Coords) : 84 + (i 0).val < 168 := by have h : (i 0).val < 42 := (i 0).isLt; omega

theorem rows_map {F : FTy → Type} [FloatOps F] (pf : pre0.Contents (Elt F)) (i : grid0.Coords)
    (h : ((84 + (i 0).val : ℕ) : ℤ) < (pf.at 1 (Rect.unit (s := S1) ![0] S1.size inb_S1_S1_0) numel1_S1 : BitVec 32).toInt) :
    cc0_transform_0 inb_S1_S1_0 numel1_S1 pf i = ![(i 0).val, 0] := by
  have e := Cert.ExpertsWords.in_tile 84 _ _ (far' i) h
  funext a
  fin_cases a
  · exact e
  · rfl

theorem out_map {F : FTy → Type} [FloatOps F] (pf : pre0.Contents (Elt F)) (i : grid0.Coords)
    (h : ((84 + (i 0).val : ℕ) : ℤ) < (pf.at 1 (Rect.unit (s := S1) ![0] S1.size inb_S1_S1_0) numel1_S1 : BitVec 32).toInt) :
    cc0_transform_5 inb_S1_S1_0 numel1_S1 pf i = ![84 + (i 0).val, 0] := by
  have e := Cert.ExpertsWords.out_tile 84 _ _ (far' i) h
  funext a
  fin_cases a
  · exact e
  · rfl

theorem word_te {F : FTy → Type} [FloatOps F] (pf : pre0.Contents (Elt F)) (i : grid0.Coords) (h) :
    pf.at 0 (Rect.unit (s := S168) (k0_off1 i) S1.size h) numel1_S1 = (pf 0 : S168.Idx → BitVec 32) (atTile ((i 0).val + 84) (far i)) := by
  have e : (k0_off1 i) 0 = (i 0).val + 84 := congrFun (k0_off1_eq i) 0
  refine (congrArg (fun z : S1.Idx => (pf 0 : S168.Idx → BitVec 32) ((Rect.unit (s := S168) (k0_off1 i) S1.size h).emb z)) (eq_at0 _)).trans
    (congrArg (pf 0) (funext fun a => Fin.ext ?_))
  fin_cases a
  show (k0_off1 i) 0 + 1 * 0 = (i 0).val + 84
  omega

variable {F : FTy → Type} [FloatOps F] (m : (ℓ : Loc nD τ sig) → Buf (Elt F) ℓ)

/-- The launch's tables are as the precondition has them. -/
abbrev Good : Prop := InUse (tbl m 0) (tbl m 1)

theorem tbl_0 : tbl m 0 = m (((0 : Dev nD).tc : Thread nD τ).loc main_arg0) := V_main_arg0 m 0
theorem tbl_1 : tbl m 1 = m (((0 : Dev nD).tc : Thread nD τ).loc main_arg1) := V_main_arg1 m 0

theorem good_of (h : InUse (m (((0 : Dev nD).tc : Thread nD τ).loc main_arg0)) (m (((0 : Dev nD).tc : Thread nD τ).loc main_arg1))) : Good m :=
  Eq.mp (congrArg₂ InUse (tbl_0 m).symm (tbl_1 m).symm) h

variable (hG : Good m)

include hG in
theorem below (i : grid0.Coords) (w : BitVec 32) (hw : w = used m) : ((84 + (i 0).val : ℕ) : ℤ) < w.toInt := by
  have hi : (i 0).val < 42 := (i 0).isLt
  have h : (126 : ℤ) ≤ (used m).toInt := hG.count
  subst hw; omega

include hG in
/-- The rows' block is the tile's own, -/
theorem map_0 (i : grid0.Coords) : cc0_transform_0 inb_S1_S1_0 numel1_S1 (tbl m) i = ![(i 0).val, 0] :=
  rows_map _ i (below m hG i _ (congrArg (tbl m 1) (eq_at0 _)))

include hG in
/-- and so is the output's. -/
theorem map_4 (i : grid0.Coords) : cc0_transform_5 inb_S1_S1_0 numel1_S1 (tbl m) i = ![84 + (i 0).val, 0] :=
  out_map _ i (below m hG i _ (congrArg (tbl m 1) (eq_at0 _)))

/-- The tile's expert. -/
abbrev expert (i : grid0.Coords) : ℕ := ((tbl m 0 : S168.Idx → BitVec 32) (atTile ((i 0).val + 84) (far i))).toNat

theorem map_1 (i : grid0.Coords) : cc0_transform_1 k0_off1_inb numel1_S1 (tbl m) i = ![expert m i, 0, 0] := by
  have e := congrArg BitVec.toNat (word_te (tbl m) i (k0_off1_inb i))
  funext a
  fin_cases a
  · exact e
  · rfl
  · rfl
theorem map_2 (i : grid0.Coords) : cc0_transform_2 k0_off1_inb numel1_S1 (tbl m) i = ![expert m i, 0, 0] := by
  have e := congrArg BitVec.toNat (word_te (tbl m) i (k0_off1_inb i))
  funext a
  fin_cases a
  · exact e
  · rfl
  · rfl
theorem map_3 (i : grid0.Coords) : cc0_transform_3 k0_off1_inb numel1_S1 (tbl m) i = ![expert m i, 0, 0] := by
  have e := congrArg BitVec.toNat (word_te (tbl m) i (k0_off1_inb i))
  funext a
  fin_cases a
  · exact e
  · rfl
  · rfl

include hG in
/-- Every block lies in its array. -/
theorem ok : Ok m := by
  have hx : ∀ i, expert m i < 32 := fun i => hG.expert _
  have hi : ∀ i : grid0.Coords, (i 0).val < 42 := fun i => (i 0).isLt
  refine ⟨fun i => ⟨fun a => ?_, .inl rfl⟩,
    fun i => ⟨fun a => ?_, .inr (Affine.block_words_dvd (s := S32x1024x512) (p := EltTy.packing .bf16) (by decide) (by decide))⟩,
    fun i => ⟨fun a => ?_, .inr (Affine.block_words_dvd (s := S32x1024x512) (p := EltTy.packing .bf16) (by decide) (by decide))⟩,
    fun i => ⟨fun a => ?_, .inr (Affine.block_words_dvd (s := S32x512x1024) (p := EltTy.packing .bf16) (by decide) (by decide))⟩,
    fun i => ⟨fun a => ?_, .inr (Affine.block_words_dvd (s := S86016x1024) (p := EltTy.packing .bf16) (by decide) (by decide))⟩⟩
  · rw [map_0 m hG i]; have := hi i
    fin_cases a
    · show ((i 0).val + 1) * 512 ≤ 21504; omega
    · show (0 + 1) * 512 ≤ 512; omega
  · rw [map_1 m i]; have := hx i
    fin_cases a
    · show (expert m i + 1) * 1 ≤ 32; omega
    · show (0 + 1) * 1024 ≤ 1024; omega
    · show (0 + 1) * 512 ≤ 512; omega
  · rw [map_2 m i]; have := hx i
    fin_cases a
    · show (expert m i + 1) * 1 ≤ 32; omega
    · show (0 + 1) * 1024 ≤ 1024; omega
    · show (0 + 1) * 512 ≤ 512; omega
  · rw [map_3 m i]; have := hx i
    fin_cases a
    · show (expert m i + 1) * 1 ≤ 32; omega
    · show (0 + 1) * 512 ≤ 512; omega
    · show (0 + 1) * 1024 ≤ 1024; omega
  · rw [map_4 m hG i]; have := hi i
    fin_cases a
    · show (84 + (i 0).val + 1) * 512 ≤ 86016; omega
    · show (0 + 1) * 1024 ≤ 1024; omega

include hG in
/-- Every tile is in use. -/
theorem allUsed : AllUsed m := by
  intro i
  show IntOp.cmpi .ne (BitVec.setWidth 32 (IntOp.cmpi .slt (Scalar.addi 84#32 (BitVec.ofNat 32 (i 0).val)) (used m))) 0#32 = 1#1
  rw [Cert.ExpertsWords.test_tile 84 _ _ (far' i) (below m hG i _ rfl)]; decide

end Cert.Experts2Ideal.Tables

end
-- ==== Proof.Experts2Payload.lean ====
/- What the experts' body computes of a tile's packed rows and its expert's matrices. -/
module

public import proofs.«01_k».proof.Proof.ExpertsMath
public import proofs.«01_k».proof.Proof.Gen.Experts2Ideal.Skeleton

@[expose] public section

set_option maxRecDepth 16384

noncomputable section

namespace Cert.Experts2Ideal.Payload

open Idealize.ShloMosaic Cert.Experts2Ideal Cert.Experts2Ideal.Gen Cert.Ffn

theorem pay_at (x : Vec Ideal S512x512 .i32) (wg wu : Vec Ideal S1x1024x512 .bf16) (wd : Vec Ideal S1x512x1024 .bf16)
    (P : Words) (G U : Into) (D : Back) (e : Fin 32) (n : Fin 42)
    (hx : ∀ (r : Fin 512) (q : Fin 512), x (ix2 r q) = P (ix2 ⟨n * 512 + r, by omega⟩ q))
    (hg : ∀ (q : Fin 1024) (h : Fin 512), wg (ix3 0 q h) = G (ix3 e q h))
    (hu : ∀ (q : Fin 1024) (h : Fin 512), wu (ix3 0 q h) = U (ix3 e q h))
    (hd : ∀ (h : Fin 512) (d : Fin 1024), wd (ix3 0 h d) = D (ix3 e h d)) (r : Fin 512) (d : Fin 1024) :
    k0_pay1 x wg wu wd (ix2 r d) = ffn (unpack P) G U D e ⟨n * 512 + r, by omega⟩ d := by
  unfold ffn
  simp only [into_unpack]
  pointwise [k0_pay1]
  simp only [hx, hg, hu, hd]
  rfl

end Cert.Experts2Ideal.Payload

end
-- ==== Proof.Experts2Point.lean ====
/- What one tile of the experts' call writes: its rows, each through the tile's expert. -/
module

public import proofs.«01_k».proof.Proof.Experts2Frame
public import proofs.«01_k».proof.Proof.Experts2Tables
public import proofs.«01_k».proof.Proof.Experts2Payload
public import Idealize.ShloMosaic.Lib.Pipeline.ReadBack
public import Idealize.ShloMosaic.Lib.Pipeline.ValueKit

@[expose] public section

set_option maxRecDepth 16384

noncomputable section

namespace Cert.Experts2Ideal.Point

open Idealize.ShloMosaic Idealize.ShloMosaic.TcCoe Cert.Experts2Ideal Cert.Experts2Ideal.Gen Cert.Experts2Ideal.Hand Cert.Experts2Ideal.Tables Cert.Ffn

variable (m : (ℓ : Loc nD τ sig) → Buf (Elt Ideal) ℓ) (hG : Good m) (hO : Ok m) (hU : AllUsed m) (c : Dev nD)

/-- The body's result depends on what it loads alone. -/
theorem pay_congr {x x' : (⟨S512x512, .i32⟩ : BufTy).Contents (Elt Ideal)} {g g' u u' : (⟨S1x1024x512, .bf16⟩ : BufTy).Contents (Elt Ideal)}
    {d d' : (⟨S1x512x1024, .bf16⟩ : BufTy).Contents (Elt Ideal)} (hx : x = x') (hg : g = g') (hu : u = u') (hd : d = d') :
    k0_pay1 x g u d = k0_pay1 x' g' u' d' := by rw [hx, hg, hu, hd]

/-- What the body leaves in the output's buffer, as a function of the blocks it loads. -/
theorem outs_eq (t : Fin (cfgM m hO).N) : outsAt0 m hO hU c t = k0_pay1 (iblk m hO c 0 t) (iblk m hO c 1 t) (iblk m hO c 2 t) (iblk m hO c 3 t) := by
  unfold outsAt0
  unfold out0_A_4
  frame_out
  exact pay_congr ((hs0_0 m hO t).read_unread _) ((hs0_1 m hO t).read_unread _) ((hs0_2 m hO t).read_unread _) ((hs0_3 m hO t).read_unread _)

/-- A tile's number. -/
theorem tile_lt (t : Fin (cfgM m hO).N) : (grid0.coords t 0).val < 42 := (grid0.coords t 0).isLt

/-- The tile's expert, as one of the 32. -/
abbrev ex (t : Fin (cfgM m hO).N) : Fin 32 := ⟨expert m (grid0.coords t), hG.expert _⟩

include hG in
/-- The rows the tile loads, -/
theorem rows_at (t : Fin (cfgM m hO).N) (r : Fin 512) (q : Fin 512) :
    iblk m hO c 0 t (ix2 r q) = (m ((c : Thread nD τ).loc main_arg2) : S21504x512.Idx → BitVec 32) (ix2 ⟨(grid0.coords t 0).val * 512 + r, by have := tile_lt m hO t; omega⟩ q) := by
  unfold iblk
  refine (congrArg (fun A : S21504x512.Idx → BitVec 32 => A ((((cfgM m hO).win 0).blk t).view.emb (ix2 r q))) (V_main_arg2 m c)).trans ?_
  refine congrArg (m ((c : Thread nD τ).loc main_arg2) : S21504x512.Idx → BitVec 32) (funext fun a => Fin.ext ?_)
  refine (Pipeline.Window.rect_emb_val ((cfgM m hO).win 0) t (ix2 r q) a).trans ?_
  have e : ((cfgM m hO).win 0).index t = ![(grid0.coords t 0).val, 0] := map_0 m hG _
  rw [e]
  fin_cases a
  · rfl
  · exact Nat.zero_add _

/-- and its expert's matrices. -/
theorem gates_at (t : Fin (cfgM m hO).N) (q : Fin 1024) (h : Fin 512) :
    iblk m hO c 1 t (ix3 0 q h) = (m ((c : Thread nD τ).loc main_arg3) : S32x1024x512.Idx → EReal) (ix3 (ex m hG hO t) q h) := by
  unfold iblk
  refine (congrArg (fun A : S32x1024x512.Idx → EReal => A ((((cfgM m hO).win 1).blk t).view.emb (ix3 0 q h))) (V_main_arg3 m c)).trans ?_
  refine congrArg (m ((c : Thread nD τ).loc main_arg3) : S32x1024x512.Idx → EReal) (funext fun a => Fin.ext ?_)
  refine (Pipeline.Window.rect_emb_val ((cfgM m hO).win 1) t (ix3 0 q h) a).trans ?_
  have e : ((cfgM m hO).win 1).index t = ![expert m (grid0.coords t), 0, 0] := map_1 m _
  rw [e]
  fin_cases a
  · exact Nat.mul_one _
  · exact Nat.zero_add _
  · exact Nat.zero_add _

theorem ups_at (t : Fin (cfgM m hO).N) (q : Fin 1024) (h : Fin 512) :
    iblk m hO c 2 t (ix3 0 q h) = (m ((c : Thread nD τ).loc main_arg4) : S32x1024x512.Idx → EReal) (ix3 (ex m hG hO t) q h) := by
  unfold iblk
  refine (congrArg (fun A : S32x1024x512.Idx → EReal => A ((((cfgM m hO).win 2).blk t).view.emb (ix3 0 q h))) (V_main_arg4 m c)).trans ?_
  refine congrArg (m ((c : Thread nD τ).loc main_arg4) : S32x1024x512.Idx → EReal) (funext fun a => Fin.ext ?_)
  refine (Pipeline.Window.rect_emb_val ((cfgM m hO).win 2) t (ix3 0 q h) a).trans ?_
  have e : ((cfgM m hO).win 2).index t = ![expert m (grid0.coords t), 0, 0] := map_2 m _
  rw [e]
  fin_cases a
  · exact Nat.mul_one _
  · exact Nat.zero_add _
  · exact Nat.zero_add _

theorem downs_at (t : Fin (cfgM m hO).N) (h : Fin 512) (d : Fin 1024) :
    iblk m hO c 3 t (ix3 0 h d) = (m ((c : Thread nD τ).loc main_arg5) : S32x512x1024.Idx → EReal) (ix3 (ex m hG hO t) h d) := by
  unfold iblk
  refine (congrArg (fun A : S32x512x1024.Idx → EReal => A ((((cfgM m hO).win 3).blk t).view.emb (ix3 0 h d))) (V_main_arg5 m c)).trans ?_
  refine congrArg (m ((c : Thread nD τ).loc main_arg5) : S32x512x1024.Idx → EReal) (funext fun a => Fin.ext ?_)
  refine (Pipeline.Window.rect_emb_val ((cfgM m hO).win 3) t (ix3 0 h d) a).trans ?_
  have e : ((cfgM m hO).win 3).index t = ![expert m (grid0.coords t), 0, 0] := map_3 m _
  rw [e]
  fin_cases a
  · exact Nat.mul_one _
  · exact Nat.zero_add _
  · exact Nat.zero_add _

/-- A row of the call's tiles through its own expert. -/
def own (r : Fin 21504) (d : Fin 1024) : EReal :=
  ffn (unpack (m ((c : Thread nD τ).loc main_arg2))) (m ((c : Thread nD τ).loc main_arg3)) (m ((c : Thread nD τ).loc main_arg4)) (m ((c : Thread nD τ).loc main_arg5))
    ⟨((tbl m 0 : S168.Idx → BitVec 32) (ix1 ⟨r.val / 512 + 84, by omega⟩)).toNat, hG.expert _⟩ r d

/-- What a tile writes: its rows through its expert. -/
theorem tile_at (t : Fin (cfgM m hO).N) (r : Fin 512) (d : Fin 1024) :
    outsAt0 m hO hU c t (ix2 r d) = own m hG c ⟨(grid0.coords t 0).val * 512 + r, by have := tile_lt m hO t; omega⟩ d := by
  rw [outs_eq]
  refine (Payload.pay_at _ _ _ _ (m ((c : Thread nD τ).loc main_arg2)) (m ((c : Thread nD τ).loc main_arg3)) (m ((c : Thread nD τ).loc main_arg4))
    (m ((c : Thread nD τ).loc main_arg5)) (ex m hG hO t) ⟨(grid0.coords t 0).val, tile_lt m hO t⟩ (rows_at m hG hO c t) (gates_at m hG hO c t)
    (ups_at m hG hO c t) (downs_at m hG hO c t) r d).trans ?_
  unfold own
  refine congrArg (fun e => ffn _ _ _ _ e _ d) (Fin.ext ?_)
  refine congrArg (fun i : S168.Idx => ((tbl m 0 : S168.Idx → BitVec 32) i).toNat) ?_
  refine congrArg (ix1 (n0 := 168)) (Fin.ext ?_)
  show (grid0.coords t 0).val + 84 = ((grid0.coords t 0).val * 512 + r.val) / 512 + 84
  omega

/-- The points in order. -/
theorem coords_val : ∀ t : Fin grid0.N, (grid0.coords t 0).val = t.val := by decide

include hG in
theorem index_4 (t : Fin (cfgM m hO).N) : ((cfgM m hO).win 4).index t = ![84 + t.val, 0] := by
  refine (map_4 m hG (grid0.coords t)).trans ?_
  rw [coords_val t]

include hG in
/-- Every tile is written back. -/
theorem flush_4 (t : Fin (cfgM m hO).N) : ((cfgM m hO).win 4).flush t = true := by
  unfold Pipeline.Window.flush
  rw [Bool.and_eq_true]
  refine ⟨rfl, ?_⟩
  rw [Bool.or_eq_true]
  by_cases h : t.val + 1 < (cfgM m hO).N
  · refine .inr (decide_eq_true ⟨h, fun e => ?_⟩)
    have e0 := (index_4 m hG hO ⟨t.val + 1, h⟩).symm.trans (e.trans (index_4 m hG hO t))
    have e1 := congrFun e0 0
    have e2 : 84 + (t.val + 1) = 84 + t.val := e1
    omega
  · refine .inl (decide_eq_true ?_)
    have := t.isLt
    show t.val + 1 = (cfgM m hO).N
    omega

/-- The rows that the call's tiles write. -/
def Mine (i : S86016x1024.Idx) : Prop := 43008 ≤ (i 0).val ∧ (i 0).val < 64512

/-- The output's rows: those of the call's tiles through their own experts, and every other row as it was. -/
def rowsOut : S86016x1024.Idx → EReal := fun i =>
  if h : 43008 ≤ (i 0).val ∧ (i 0).val < 64512 then own m hG c ⟨(i 0).val - 43008, by omega⟩ (i 1) else (m ((c : Thread nD τ).loc main_arg6) : S86016x1024.Idx → EReal) i

theorem rowsOut_of_mine (i : S86016x1024.Idx) (h : Mine i) : rowsOut m hG c i = own m hG c ⟨(i 0).val - 43008, by have := h.1; have := h.2; omega⟩ (i 1) := dif_pos h

theorem rowsOut_of_not (i : S86016x1024.Idx) (h : ¬ Mine i) : rowsOut m hG c i = (m ((c : Thread nD τ).loc main_arg6) : S86016x1024.Idx → EReal) i := dif_neg h

theorem last (t : Fin (cfgM m hO).N) : t.val < 42 := by have := tile_lt m hO t; rw [coords_val t] at this; exact this

include hG in
/-- A tile's place in the output. -/
theorem place (t : Fin (cfgM m hO).N) (r : Fin 512) (d : Fin 1024) :
    (((cfgM m hO).win 4).blk t).view.emb (ix2 r d) = (ix2 ⟨(84 + t.val) * 512 + r, by have := last m hO t; omega⟩ d : S86016x1024.Idx) := by
  refine funext fun a => Fin.ext ?_
  refine (Pipeline.Window.rect_emb_val ((cfgM m hO).win 4) t (ix2 r d) a).trans ?_
  rw [index_4 m hG hO t]
  fin_cases a
  · rfl
  · exact Nat.zero_add _

/-- Every element a tile writes back is that. -/
theorem flushed_at (t : Fin (cfgM m hO).N) (r : Fin 512) (d : Fin 1024) :
    outsAt0 m hO hU c t (ix2 r d) = rowsOut m hG c ((((cfgM m hO).win 4).blk t).view.emb (ix2 r d)) := by
  have ht := last m hO t
  rw [place m hG hO t r d, tile_at m hG hO hU c t r d]
  refine Eq.trans ?_ (rowsOut_of_mine m hG c _ ⟨?_, ?_⟩).symm
  · refine congrArg (fun i => own m hG c i d) (Fin.ext ?_)
    show (grid0.coords t 0).val * 512 + r.val = (84 + t.val) * 512 + r.val - 43008
    rw [coords_val t]; omega
  · show 43008 ≤ (84 + t.val) * 512 + r.val; omega
  · show (84 + t.val) * 512 + r.val < 64512; omega

theorem flushed_all (t : Fin (cfgM m hO).N) (y : S512x1024.Idx) :
    outsAt0 m hO hU c t y = rowsOut m hG c ((((cfgM m hO).win 4).blk t).view.emb y) := by
  have ey : y = ix2 (y 0) (y 1) := by funext a; fin_cases a <;> rfl
  exact (congrArg (outsAt0 m hO hU c t) ey).trans ((flushed_at m hG hO hU c t (y 0) (y 1)).trans
    (congrArg (fun z : S512x1024.Idx => rowsOut m hG c ((((cfgM m hO).win 4).blk t).view.emb z)) ey.symm))

theorem flushed_every (t : Fin (cfgM m hO).N) (y : (((cfgM m hO).win 4).xblock ((cfgM m hO).grid.coords t)).Idx) :
    outsAt0 m hO hU c t y = rowsOut m hG c ((((cfgM m hO).win 4).blk t).view.emb y) := flushed_all m hG hO hU c t y

/-- After the call the tiles' rows are the rows through their own experts. -/
theorem array_at (r : Fin 21504) (d : Fin 1024) :
    ((dats m hO hU 0 c).arrAt 4 (cfgM m hO).N : S86016x1024.Idx → EReal) (ix2 ⟨43008 + r.val, by omega⟩ d) = rowsOut m hG c (ix2 ⟨43008 + r.val, by omega⟩ d) := by
  have hN : r.val / 512 < (cfgM m hO).N := by show r.val / 512 < grid0.N; rw [N_0]; omega
  refine (dats m hO hU 0 c).arrAt_forall_of_flushed 4 (fun i v => v = rowsOut m hG c i)
    (fun t hf y => ?_) (cfgM m hO).N ⟨r.val / 512, hN⟩ (ix2 ⟨43008 + r.val, by omega⟩ d) hN (flush_4 m hG hO _) ?_
  · blk_simp
    exact (congrFun (after0_4 m hO hU c t) y).trans (flushed_every m hG hO hU c t y)
  · have := place m hG hO ⟨r.val / 512, hN⟩ ⟨r.val % 512, by omega⟩ d
    have e : (ix2 ⟨43008 + r.val, by omega⟩ d : S86016x1024.Idx) = (((cfgM m hO).win 4).blk ⟨r.val / 512, hN⟩).view.emb (ix2 ⟨r.val % 512, by omega⟩ d) := by
      rw [this]
      refine congrArg (fun z => ix2 z d) (Fin.ext ?_)
      show 43008 + r.val = (84 + r.val / 512) * 512 + r.val % 512
      omega
    rw [e]
    exact View.emb_mem_set _ _

theorem array_mine (i : S86016x1024.Idx) (h : Mine i) : ((dats m hO hU 0 c).arrAt 4 (cfgM m hO).N : S86016x1024.Idx → EReal) i = rowsOut m hG c i := by
  have h1 := h.1
  have h2 := h.2
  have e : i = ix2 ⟨43008 + ((i 0).val - 43008), by omega⟩ (i 1) := by
    funext a
    fin_cases a
    · exact Fin.ext (show (i 0).val = 43008 + ((i 0).val - 43008) by omega)
    · rfl
  have key := array_at m hG hO hU c ⟨(i 0).val - 43008, by omega⟩ (i 1)
  exact (congrArg ((dats m hO hU 0 c).arrAt 4 (cfgM m hO).N : S86016x1024.Idx → EReal) e).trans (key.trans (congrArg (rowsOut m hG c) e.symm))

include hG in
theorem block_at (t : Fin (cfgM m hO).N) (r : Fin 512) (d : Fin 1024) : Mine ((((cfgM m hO).win 4).blk t).view.emb (ix2 r d)) := by
  have ht := last m hO t
  rw [place m hG hO t r d]
  refine ⟨?_, ?_⟩
  · show 43008 ≤ (84 + t.val) * 512 + r.val; omega
  · show (84 + t.val) * 512 + r.val < 64512; omega

include hG in
/-- A tile's block holds the call's rows alone. -/
theorem block_mine (t : Fin (cfgM m hO).N) (y : S512x1024.Idx) : Mine ((((cfgM m hO).win 4).blk t).view.emb y) := by
  have ey : y = ix2 (y 0) (y 1) := by funext a; fin_cases a <;> rfl
  exact (congrArg (fun z : S512x1024.Idx => Mine ((((cfgM m hO).win 4).blk t).view.emb z)) ey).mpr (block_at m hG hO t (y 0) (y 1))

/-- Every other row is as the earlier calls left it. -/
theorem array_rest (i : S86016x1024.Idx) (h : ¬ Mine i) : ((dats m hO hU 0 c).arrAt 4 (cfgM m hO).N : S86016x1024.Idx → EReal) i = rowsOut m hG c i := by
  refine Eq.trans ?_ (rowsOut_of_not m hG c i h).symm
  refine ((dats m hO hU 0 c).arrAt_apply_of_forall_not_mem 4 _ i fun t _ _ hi => ?_).trans ?_
  · obtain ⟨y, -, hy⟩ := Finset.mem_map.mp hi
    exact h ((congrArg Mine hy).mp (block_mine m hG hO t y))
  · exact congrFun ((A_eq m hO hU c 4).trans (V_main_v0 m c)) i

/-- So the output is that, whole. -/
theorem array_all : ((dats m hO hU 0 c).arrAt 4 (cfgM m hO).N : S86016x1024.Idx → EReal) = rowsOut m hG c := by
  funext i
  by_cases h : Mine i
  · exact array_mine m hG hO hU c i h
  · exact array_rest m hG hO hU c i h

end Cert.Experts2Ideal.Point

end
-- ==== Proof.Experts2Run.lean ====
/- The experts' call: its run. -/
module

public import proofs.«01_k».proof.Proof.Experts2Point

@[expose] public section

set_option maxRecDepth 16384

noncomputable section

namespace Cert.Experts2Ideal.Final

open Idealize.ShloMosaic Idealize.ShloMosaic.TcCoe Idealize.SL.Sem Cert.Experts2Ideal Cert.Experts2Ideal.Gen Cert.Experts2Ideal.Hand
  Cert.Experts2Ideal.Tables Cert.Experts2Ideal.Point Cert.Ffn

variable (m : (ℓ : Loc nD τ sig) → Buf (Elt Ideal) ℓ) (ρ : Dev nD → PrngReg)

/-- Every execution ends with the tiles' rows through their own experts, and every other row as it was, and every argument as it was. -/
theorem run (hG : Good m) : θ_run (defs (F := Ideal)) (onTc (τ := τ) (main (F := Ideal))) ⟨m, fun _ => 0, ρ⟩ (fun r => ∀ c : Dev nD,
      (r.2.mem ((c.tc : Thread nD τ).loc main_v0) : S86016x1024.Idx → EReal) = rowsOut m hG c ∧ Kept m r.2.mem c) := by
  have hO := ok m hG
  have hU := allUsed m hG
  refine (θ_run defs _ _).mono (fun r h c => ⟨?_, h.2 c⟩) (θ_run_and (run_main m ρ hO hU) (unchanged m ρ hO hU))
  have e := (h.1 c).1 4
  exact e.trans (array_all m hG hO hU c)

end Cert.Experts2Ideal.Final

end
-- ==== Proof.Experts2RefState.lean ====
/- What the plain experts' loop leaves: every row through its own expert. -/
module

public import proofs.«01_k».proof.Proof.ExpertsMath
public import proofs.«01_k».proof.Proof.Gen.ExpertsReference2Ideal.Step
public import Idealize.ShloMosaic.Lib.WordCmp

@[expose] public section

set_option maxRecDepth 16384

noncomputable section

namespace Cert.ExpertsRef2

open Idealize.ShloMosaic Cert.ExpertsReference2Ideal Cert.ExpertsReference2Ideal.Gen Cert.ExpertsReference2Ideal.Step Cert.Ffn

variable (te : (⟨S168, .i32⟩ : BufTy).Contents (Elt Ideal)) (P : (⟨S21504x512, .i32⟩ : BufTy).Contents (Elt Ideal))
  (G U : (⟨S32x1024x512, .bf16⟩ : BufTy).Contents (Elt Ideal)) (D : (⟨S32x512x1024, .bf16⟩ : BufTy).Contents (Elt Ideal))

theorem slice_0 (j : ℕ) (hj : j < 32) (s : State Ideal) (r : Fin 21504) : b2 j s (ix1 r) = s.main_v16_0 (ix2 ⟨j, hj⟩ r) := by
  have e : ((BitVec.ofNat 32 j).toInt : ℤ) = j := WordCmp.toInt_ofNat_of_lt (by omega)
  pointwise [b2, b1, b0]
  refine congrArg _ ?_
  simp only [ix2_inj, Fin.ext_iff]
  refine ⟨Host.clampedStart_of_le _ _ _ j e (show j + 1 ≤ 32 by omega), ?_⟩
  all_goals rw [Host.clampedStart_of_le _ _ _ 0 rfl (by decide), Nat.zero_add]

theorem slice_1 (j : ℕ) (hj : j < 32) (s : State Ideal) (q : Fin 1024) (h : Fin 512) : b6 j s (ix2 q h) = s.main_v16_1 (ix3 ⟨j, hj⟩ q h) := by
  have e : ((BitVec.ofNat 32 j).toInt : ℤ) = j := WordCmp.toInt_ofNat_of_lt (by omega)
  pointwise [b6, b5, b4, b3]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

theorem slice_2 (j : ℕ) (hj : j < 32) (s : State Ideal) (q : Fin 1024) (h : Fin 512) : b10 j s (ix2 q h) = s.main_v16_2 (ix3 ⟨j, hj⟩ q h) := by
  have e : ((BitVec.ofNat 32 j).toInt : ℤ) = j := WordCmp.toInt_ofNat_of_lt (by omega)
  pointwise [b10, b9, b8, b7]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

theorem slice_3 (j : ℕ) (hj : j < 32) (s : State Ideal) (h : Fin 512) (d : Fin 1024) : b14 j s (ix2 h d) = s.main_v16_3 (ix3 ⟨j, hj⟩ h d) := by
  have e : ((BitVec.ofNat 32 j).toInt : ℤ) = j := WordCmp.toInt_ofNat_of_lt (by omega)
  pointwise [b14, b13, b12, b11]
  refine congrArg _ ?_
  simp only [ix3_inj, Fin.ext_iff]
  refine ⟨Host.clampedStart_of_le _ _ _ j e (show j + 1 ≤ 32 by omega), ?_, ?_⟩
  all_goals rw [Host.clampedStart_of_le _ _ _ 0 rfl (by decide), Nat.zero_add]

/-- One trip adds the row through expert `j`, times its weight there. -/
theorem step_at (j : ℕ) (hj : j < 32) (s : State Ideal) (r : Fin 21504) (d : Fin 1024) :
    b31 j s (ix2 r d) = s.main_v16_6 (ix2 r d)
      + s.main_v16_0 (ix2 ⟨j, hj⟩ r) * ffn s.main_v16_4 s.main_v16_1 s.main_v16_2 s.main_v16_3 ⟨j, hj⟩ r d := by
  pointwise [b31, b30, b29, b28, b27, b26, b25, b24, b23, b22, b21, b20, b19, b18, b17, b16, b15]
  simp only [slice_0 j hj, slice_1 j hj, slice_2 j hj, slice_3 j hj]
  rfl

/-- The rows' weights: one at the row's own expert, zero elsewhere. -/
theorem gate_at (e : Fin 32) (r : Fin 21504) : A_main_v12 te P G U D (ix2 e r) = if te (ix1 ⟨r.val / 512 + 84, by omega⟩) = BitVec.ofNat 32 e then 1 else 0 := by
  pointwise [A_main_v12, A_main_v3, A_main_call0_v4, A_main_call0_v2, A_main_call0_v0, A_main_v2, A_main_v1, A_main_v0, K_main_call0_v3, K_main_call0_v1]
  rw [show (⟨84 + r.val / 512, by omega⟩ : Fin 168) = ⟨r.val / 512 + 84, by omega⟩ from Fin.ext (Nat.add_comm _ _)]
  show (((IntOp.cmpi .eq (te (ix1 ⟨r.val / 512 + 84, _⟩)) (BitVec.ofNat 32 e)).toNat : ℝ) : EReal) = _
  rw [WordCmp.cmpi_eq_eq]
  split
  · rename_i h; rw [decide_eq_true h]; simp
  · rename_i h; rw [decide_eq_false h]; simp

/-- The rows, unpacked. -/
theorem rows_eq : A_main_v10 te P G U D = unpack P := by
  funext i
  have e : i = ix2 (i 0) (i 1) := by funext a; fin_cases a <;> rfl
  rw [e]
  pointwise [A_main_v10, A_main_v9, A_main_v8, A_main_v6, A_main_v5, K_main_v4, K_main_c, K_main_c_0, K_main_v7]
  rfl

theorem start_at (r : Fin 21504) (d : Fin 1024) : K_main_v11 (F := Ideal) (ix2 r d) = 0 := by
  pointwise [K_main_v11, K_main_cst]

variable (it : ℕ → State Ideal) (h0 : it 0 = init te P G U D) (hs : ∀ n, it (n + 1) = step n (it n))
include h0 hs

/-- No trip changes the weights, the matrices or the rows. -/
theorem held (j : ℕ) : (it j).main_v16_0 = A_main_v12 te P G U D ∧ (it j).main_v16_1 = A_main_v13 te P G U D ∧ (it j).main_v16_2 = A_main_v14 te P G U D
    ∧ (it j).main_v16_3 = A_main_v15 te P G U D ∧ (it j).main_v16_4 = A_main_v10 te P G U D := by
  induction j with
  | zero => rw [h0]; exact ⟨rfl, rfl, rfl, rfl, rfl⟩
  | succ j ih => rw [hs]; exact ih

/-- After `n` experts a row whose own expert is among them holds the row through it, and every other row zero. -/
theorem state_at (n : ℕ) (hn : n ≤ 32) (r : Fin 21504) (d : Fin 1024) (e : Fin 32) (he : te (ix1 ⟨r.val / 512 + 84, by omega⟩) = BitVec.ofNat 32 e) :
    (it n).main_v16_6 (ix2 r d) = if e.val < n then ffn (unpack P) G U D e r d else 0 := by
  induction n with
  | zero => rw [h0, if_neg (Nat.not_lt_zero _)]; exact start_at r d
  | succ n ih =>
    obtain ⟨a0, a1, a2, a3, a4⟩ := held te P G U D it h0 hs n
    rw [hs, step_main_v16_6, step_at n (by omega), ih (by omega) he, a0, a1, a2, a3, a4, gate_at, rows_eq, he]
    have hw : (BitVec.ofNat 32 e.val = BitVec.ofNat 32 n) ↔ e.val = n := WordCmp.ofNat_eq_ofNat_iff (by omega) (by omega)
    show _ + (if BitVec.ofNat 32 e.val = BitVec.ofNat 32 n then 1 else 0) * ffn (unpack P) G U D ⟨n, _⟩ r d = _
    by_cases h : e.val = n
    · subst h
      rw [if_pos rfl, if_neg (lt_irrefl _), if_pos (Nat.lt_succ_self _), one_mul, zero_add]
    · rw [if_neg (fun hh => h (hw.mp hh)), zero_mul, add_zero]
      by_cases h2 : e.val < n
      · rw [if_pos h2, if_pos (by omega)]
      · rw [if_neg h2, if_neg (by omega)]

/-- So each of the result's rows that the tiles make is the row through its own expert. -/
theorem result_at (ys : (⟨S86016x1024, .bf16⟩ : BufTy).Contents (Elt Ideal)) (r : Fin 21504) (d : Fin 1024) (e : Fin 32) (he : te (ix1 ⟨r.val / 512 + 84, by omega⟩) = BitVec.ofNat 32 e) :
    R_main_v20 (it 32) ys (ix2 ⟨43008 + r.val, by omega⟩ d) = ffn (unpack P) G U D e r d := by
  rw [← if_pos (c := e.val < 32) (t := ffn (unpack P) G U D e r d) (e := 0) e.isLt, ← state_at te P G U D it h0 hs 32 le_rfl r d e he]
  pointwise [R_main_v20]

omit h0 hs in
/-- Every other row is the given one. -/
theorem rest_at (ys : (⟨S86016x1024, .bf16⟩ : BufTy).Contents (Elt Ideal)) (s : State Ideal) (r : Fin 86016) (d : Fin 1024) (h : ¬ (43008 ≤ r.val ∧ r.val < 64512)) :
    R_main_v20 s ys (ix2 r d) = ys (ix2 r d) := by
  pointwise [R_main_v20]
  by_cases h1 : r.val < 43008
  · rw [dif_pos h1]
  · rw [dif_neg h1, dif_neg (by omega)]
    exact congrArg (fun z => ys (ix2 z d)) (Fin.ext (by show 64512 + (r.val - 43008 - 21504) = r.val; omega))

end Cert.ExpertsRef2

end
-- ==== Proof.Experts2RefRun.lean ====
/- The plain experts' run: the tiles' rows are the rows through their own experts, and its arguments are unchanged. -/
module

public import proofs.«01_k».proof.Proof.Experts2RefState
public import proofs.«01_k».proof.Proof.Gen.ExpertsReference2Ideal.StepRun
public import Idealize.ShloMosaic.Lib.Quiescent

@[expose] public section

set_option maxRecDepth 16384

noncomputable section

namespace Cert.ExpertsRef2

open Idealize.ShloMosaic Idealize.ShloMosaic.TcCoe Idealize.SL.Sem Cert.ExpertsReference2Ideal Cert.ExpertsReference2Ideal.Gen
  Cert.ExpertsReference2Ideal.Step Cert.ExpertsReference2Ideal.StepRun Cert.Ffn

variable (m : (ℓ : Loc nD τ sig) → Buf (Elt Ideal) ℓ) (ρ : Dev nD → PrngReg)

/-- The loop's states, expert after expert. -/
def states (c : Dev nD) : ℕ → State Ideal
  | 0 => initState m c
  | n + 1 => step n (states c n)

/-- The result every run leaves. -/
def result (c : Dev nD) : S86016x1024.Idx → EReal := R_main_v20 (states m c 32) (m ((c.tc : Thread nD τ).loc main_arg6))

/-- The rows that the call's tiles make. -/
theorem result_row (c : Dev nD) (r : Fin 21504) (d : Fin 1024) (e : Fin 32)
    (he : (m ((c.tc : Thread nD τ).loc main_arg0) : S168.Idx → BitVec 32) (ix1 ⟨r.val / 512 + 84, by omega⟩) = BitVec.ofNat 32 e) :
    result m c (ix2 ⟨43008 + r.val, by omega⟩ d) = ffn (unpack (m ((c.tc : Thread nD τ).loc main_arg2))) (m ((c.tc : Thread nD τ).loc main_arg3))
      (m ((c.tc : Thread nD τ).loc main_arg4)) (m ((c.tc : Thread nD τ).loc main_arg5)) e r d :=
  result_at _ _ _ _ _ (states m c) rfl (fun _ => rfl) _ r d e he

/-- The others. -/
theorem result_rest (c : Dev nD) (r : Fin 86016) (d : Fin 1024) (h : ¬ (43008 ≤ r.val ∧ r.val < 64512)) :
    result m c (ix2 r d) = (m ((c.tc : Thread nD τ).loc main_arg6) : S86016x1024.Idx → EReal) (ix2 r d) :=
  rest_at _ _ r d h

/-- The arguments on device `c` are in the memory `m'` as they are in `m`. -/
abbrev Kept (m m' : (ℓ : Loc nD τ sig) → Buf (Elt Ideal) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)

/-- Every execution ends with that result and every argument as it was. -/
theorem run : θ_run (defs (F := Ideal)) (onTc (τ := τ) (main (F := Ideal))) ⟨m, fun _ => 0, ρ⟩ (fun r => ∀ c : Dev nD,
      r.2.mem ((c.tc : Thread nD τ).loc main_v20) = result m c ∧ Kept m r.2.mem c) :=
  run_iter m ρ (states m) (fun _ => rfl) (fun _ _ => rfl)

/-- The same with every counter at zero: the program has none. -/
theorem frame : θ_run (defs (F := Ideal)) (onTc (τ := τ) (main (F := Ideal))) ⟨m, fun _ => 0, ρ⟩ (fun r => (∀ c : Dev nD, Kept m r.2.mem c)
      ∧ r.2.sem = fun _ => 0) :=
  (θ_run defs _ _).mono (fun r h => ⟨fun c => (h c).2, sem_eq_zero_of_no_sems (by decide) r.2⟩) (run m ρ)

end Cert.ExpertsRef2

end
-- ==== Proof.Experts2Claim.lean ====
/- The experts' call and the plain experts leave the same rows. -/
module

public import proofs.«01_k».proof.Defs
public import proofs.«01_k».proof.Proof.Experts2Run
public import proofs.«01_k».proof.Proof.Experts2RefRun
public import proofs.«01_k».proof.Proof.Gen.Experts2

@[expose] public section

set_option maxRecDepth 16384

noncomputable section

namespace Cert.Experts2Proof

open Idealize.ShloMosaic Idealize.ShloMosaic.TcCoe Idealize.SL.Sem Cert.Experts2Ideal.Tables Cert.Experts2Ideal.Point

variable (m : (ℓ : Loc Cert.Experts2Ideal.nD Cert.Experts2Ideal.τ Cert.Experts2Ideal.sig) → Buf (Elt Ideal) ℓ)

/-- The precondition, read off the tables. -/
theorem good (h : Cert.Pre_Experts2Ideal m) : Good m := good_of m (inUse_of (h 0))

/-- A row's expert, as its word in the table. -/
theorem word (hG : Good m) (r : Fin 21504) (c : Dev Cert.Experts2Ideal.nD) :
    (m ((c.tc : Thread Cert.Experts2Ideal.nD Cert.Experts2Ideal.τ).loc Cert.Experts2Ideal.main_arg0) : (⟨1, ![168]⟩ : Shape).Idx → BitVec 32) (ix1 ⟨r.val / 512 + 84, by omega⟩)
      = BitVec.ofNat 32 ((Cert.Experts2Ideal.Hand.tbl m 0 : (⟨1, ![168]⟩ : Shape).Idx → BitVec 32) (ix1 ⟨r.val / 512 + 84, by omega⟩)).toNat := by
  obtain rfl : c = 0 := Subsingleton.elim _ _
  exact (congrFun (tbl_0 m) _).symm.trans (BitVec.eq_of_toNat_eq (by rw [BitVec.toNat_ofNat]; exact (Nat.mod_eq_of_lt (BitVec.isLt _)).symm))

variable (m' : (ℓ : Loc Cert.ExpertsReference2Ideal.nD Cert.ExpertsReference2Ideal.τ Cert.ExpertsReference2Ideal.sig) → Buf (Elt Ideal) ℓ) (c : Dev Cert.Experts2Ideal.nD)

/-- From equal arguments the plain experts' rows are the call's. -/
theorem same (hG : Good m)
    (h0 : m' ((c.tc : Thread Cert.ExpertsReference2Ideal.nD Cert.ExpertsReference2Ideal.τ).loc Cert.ExpertsReference2Ideal.main_arg0) = m ((c.tc : Thread Cert.Experts2Ideal.nD Cert.Experts2Ideal.τ).loc Cert.Experts2Ideal.main_arg0))
    (h2 : m' ((c.tc : Thread Cert.ExpertsReference2Ideal.nD Cert.ExpertsReference2Ideal.τ).loc Cert.ExpertsReference2Ideal.main_arg2) = m ((c.tc : Thread Cert.Experts2Ideal.nD Cert.Experts2Ideal.τ).loc Cert.Experts2Ideal.main_arg2))
    (h3 : m' ((c.tc : Thread Cert.ExpertsReference2Ideal.nD Cert.ExpertsReference2Ideal.τ).loc Cert.ExpertsReference2Ideal.main_arg3) = m ((c.tc : Thread Cert.Experts2Ideal.nD Cert.Experts2Ideal.τ).loc Cert.Experts2Ideal.main_arg3))
    (h4 : m' ((c.tc : Thread Cert.ExpertsReference2Ideal.nD Cert.ExpertsReference2Ideal.τ).loc Cert.ExpertsReference2Ideal.main_arg4) = m ((c.tc : Thread Cert.Experts2Ideal.nD Cert.Experts2Ideal.τ).loc Cert.Experts2Ideal.main_arg4))
    (h5 : m' ((c.tc : Thread Cert.ExpertsReference2Ideal.nD Cert.ExpertsReference2Ideal.τ).loc Cert.ExpertsReference2Ideal.main_arg5) = m ((c.tc : Thread Cert.Experts2Ideal.nD Cert.Experts2Ideal.τ).loc Cert.Experts2Ideal.main_arg5))
    (i : (⟨2, ![86016, 1024]⟩ : Shape).Idx) (hl : Mine i) : Cert.ExpertsRef2.result m' c i = rowsOut m hG c i := by
  have l1 := hl.1
  have l2 := hl.2
  have hi : i = ix2 ⟨43008 + ((i 0).val - 43008), by omega⟩ (i 1) := by
    funext a
    fin_cases a
    · exact Fin.ext (show (i 0).val = 43008 + ((i 0).val - 43008) by omega)
    · rfl
  have key := Cert.ExpertsRef2.result_row m' c ⟨(i 0).val - 43008, by omega⟩ (i 1) ⟨_, hG.expert _⟩ ((congrFun h0 _).trans (word m hG ⟨(i 0).val - 43008, by omega⟩ c))
  rw [h2, h3, h4, h5] at key
  exact (congrArg (Cert.ExpertsRef2.result m' c) hi).trans (key.trans (rowsOut_of_mine m hG c i hl).symm)

/-- From equal arguments with every one of the call's tiles in use, both programs leave the same output. -/
theorem algebraic : Cert.algebraic_Experts2Ideal_ExpertsReference2Ideal := by
  intro m g m' g' hP h
  have hG := good m hP
  refine ⟨fun c => rowsOut m hG c, Cert.Experts2Ideal.Final.run m g hG, ?_⟩
  refine (θ_run Cert.ExpertsReference2Ideal.defs _ _).mono (fun r e c => ⟨?_, (e c).2⟩) (Cert.ExpertsRef2.run m' g')
  obtain ⟨h0, h1, h2, h3, h4, h5, h6⟩ := h c
  refine (e c).1.trans (funext fun i => ?_)
  by_cases hl : Mine i
  · exact same m m' c hG h0 h2 h3 h4 h5 i hl
  · have hi : i = ix2 (i 0) (i 1) := by funext a; fin_cases a <;> rfl
    refine (congrArg (Cert.ExpertsRef2.result m' c) hi).trans ((Cert.ExpertsRef2.result_rest m' c (i 0) (i 1) hl).trans ?_)
    rw [h6]
    exact (congrArg (m ((c.tc : Thread Cert.Experts2Ideal.nD Cert.Experts2Ideal.τ).loc Cert.Experts2Ideal.main_arg6)) hi.symm).trans (rowsOut_of_not m hG c i hl).symm

/-- The call runs to the end with its arguments unchanged. -/
theorem frame : Cert.quiescent_Experts2Ideal := fun m g h => Cert.Experts2Ideal.Hand.frame m g (ok m (good m h)) (allUsed m (good m h))

/-- The plain experts do. -/
theorem frame_ref : Cert.quiescent_ExpertsReference2Ideal := fun m g _ => Cert.ExpertsRef2.frame m g

/-! ## The same program read at the bits -/

set_option maxRecDepth 65536

theorem defs0_eq : Cert.Experts2.defs₀ (F := Bits) = Cert.Experts2Ideal.defs₀ (F := Bits) := by
  unfold Cert.Experts2.defs₀ Cert.Experts2Ideal.defs₀
  refine congrArg Defs.onTc (funext fun l => funext fun x => ?_)
  match l, x with
  | 0, (t, s) => rfl

theorem defs_eq : Cert.Experts2.defs (F := Bits) = Cert.Experts2Ideal.defs (F := Bits) := by
  unfold Cert.Experts2.defs Cert.Experts2Ideal.defs
  exact congrArg (Pipeline.defs _) defs0_eq

theorem main_eq : Cert.Experts2.main (F := Bits) = Cert.Experts2Ideal.main (F := Bits) := rfl

/-- The call read at the bits runs to the end with its arguments unchanged too: it is the same text. -/
theorem frame_bits : Cert.quiescent_Experts2 := fun m g h => by
  have hG : Cert.Experts2Ideal.Tables.Good (F := Bits) m := Cert.Experts2Ideal.Tables.good_of m (Cert.Experts2Ideal.Tables.inUse_of (h 0))
  rw [defs_eq, main_eq]
  exact Cert.Experts2Ideal.Hand.frame (F := Bits) m g (ok m hG) (allUsed m hG)

end Cert.Experts2Proof

end
-- ==== Proof.lean ====
/- Everything claimed of the kernel and its reference, put together from the modules that prove each part. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.StepRun
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.StepRun
public import proofs.«01_k».proof.Proof.Gen.Experts1
public import proofs.«01_k».proof.Proof.Gen.Experts1Ideal
public import proofs.«01_k».proof.Proof.Gen.Experts1Ideal.Skeleton
public import proofs.«01_k».proof.Proof.Gen.Experts1Ideal.Launch
public import proofs.«01_k».proof.Proof.Gen.ExpertsReference1Ideal
public import proofs.«01_k».proof.Proof.Gen.ExpertsReference1Ideal.StepRun
public import proofs.«01_k».proof.Proof.Gen.Experts2
public import proofs.«01_k».proof.Proof.Gen.Experts2Ideal
public import proofs.«01_k».proof.Proof.Gen.Experts2Ideal.Skeleton
public import proofs.«01_k».proof.Proof.Gen.Experts2Ideal.Launch
public import proofs.«01_k».proof.Proof.Gen.ExpertsReference2Ideal
public import proofs.«01_k».proof.Proof.Gen.ExpertsReference2Ideal.StepRun
public import proofs.«01_k».proof.Proof.Gen.Pre_tiles_in_use
public import proofs.«01_k».proof.Proof.Gen.Pre_tiles_in_use_1
public import proofs.«01_k».proof.Proof.Gen.Pre_tiles_in_use_2
public import proofs.«01_k».proof.Proof.Gen.On_written
public import proofs.«01_k».proof.Proof.Same
public import proofs.«01_k».proof.Proof.KernelRun
public import proofs.«01_k».proof.Proof.RefRun
public import proofs.«01_k».proof.Proof.ExpertsClaim
public import proofs.«01_k».proof.Proof.Experts1Claim
public import proofs.«01_k».proof.Proof.Experts2Claim
public import Idealize.ShloMosaic.Adequacy
public import Idealize.ShloMosaic.Init

@[expose] public section

noncomputable section

namespace Cert.Proof

open Idealize.ShloMosaic Idealize.SL.Sem

/-- The eight constants are the heads' log decays, alone and times a block's 256 rows. -/
theorem preserves : Cert.preserves_Kernel_KernelIdeal :=
  ⟨IdealRules.named_const.statement Cert.KernelIdeal.κ "lg0" .f32 0xBD020AEC#32 ((Real.log (31 / 32) : ℝ) : EReal) rfl,
    IdealRules.named_const.statement Cert.KernelIdeal.κ "lgb0" .f32 0xC1020AEC#32 ((256 * (Real.log (31 / 32)) : ℝ) : EReal) rfl,
    IdealRules.named_const.statement Cert.KernelIdeal.κ "lg1" .f32 0xBC8102B3#32 ((Real.log (63 / 64) : ℝ) : EReal) rfl,
    IdealRules.named_const.statement Cert.KernelIdeal.κ "lgb1" .f32 0xC08102B3#32 ((256 * (Real.log (63 / 64)) : ℝ) : EReal) rfl,
    IdealRules.named_const.statement Cert.KernelIdeal.κ "lg2" .f32 0xBC0080AC#32 ((Real.log (127 / 128) : ℝ) : EReal) rfl,
    IdealRules.named_const.statement Cert.KernelIdeal.κ "lgb2" .f32 0xC00080AC#32 ((256 * (Real.log (127 / 128)) : ℝ) : EReal) rfl,
    IdealRules.named_const.statement Cert.KernelIdeal.κ "lg3" .f32 0xBB80402B#32 ((Real.log (255 / 256) : ℝ) : EReal) rfl,
    IdealRules.named_const.statement Cert.KernelIdeal.κ "lgb3" .f32 0xBF80402B#32 ((256 * (Real.log (255 / 256)) : ℝ) : EReal) rfl⟩

/-- From equal arguments both idealized programs leave the same states: the recurrence's closed form after all rows. -/
theorem algebraic : Cert.algebraic_KernelIdeal_ReferenceIdeal := by
  intro m g m' g' _ h
  refine ⟨fun c => Cert.Final.final (Cert.KernelIdeal.Point.X m c) (Cert.KernelIdeal.Point.W m c), Cert.KernelIdeal.Final.run m g, ?_⟩
  refine (θ_run Cert.ReferenceIdeal.defs _ _).mono (fun r e c => ⟨(e c).1.trans ?_, (e c).2⟩) (Cert.RefRun.run m' g')
  rw [(h c).1, (h c).2.1]

/-- Everything claimed: the frames, the constants, the equality of the states, and the equality of the experts' rows, part by part. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Experts1.Gen.facts, Cert.Experts1Ideal.Gen.facts, Cert.ExpertsReference1Ideal.Gen.facts,
  Cert.Experts2.Gen.facts, Cert.Experts2Ideal.Gen.facts, Cert.ExpertsReference2Ideal.Gen.facts,
  Cert.Pre_tiles_in_use.Gen.facts, Cert.Pre_tiles_in_use_1.Gen.facts, Cert.Pre_tiles_in_use_2.Gen.facts, Cert.On_written.Gen.facts,
  Cert.Same.frame, fun m g _ => Cert.KernelIdeal.Hand.frame m g, fun m g _ => Cert.RefRun.frame m g,
  Cert.ExpertsProof.frame_bits, Cert.ExpertsProof.frame, Cert.ExpertsProof.frame_ref,
  Cert.Experts1Proof.frame_bits, Cert.Experts1Proof.frame, Cert.Experts1Proof.frame_ref,
  Cert.Experts2Proof.frame_bits, Cert.Experts2Proof.frame, Cert.Experts2Proof.frame_ref,
  preserves, algebraic, trivial, Cert.ExpertsProof.algebraic, trivial, Cert.Experts1Proof.algebraic, trivial, Cert.Experts2Proof.algebraic⟩

end Cert.Proof

end
